-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_sane_boxes [hPre_sane_boxes : Cert.Pre_sane_boxes.Facts] (m : (ℓ : Loc Cert.KernelIdeal.nD Cert.KernelIdeal.τ Cert.KernelIdeal.sig) → Buf (Elt Ideal) ℓ) : Prop :=
  ∀ c : Dev Cert.KernelIdeal.nD,
    (Cert.Pre_sane_boxes.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sane_boxes [hPre_sane_boxes : Cert.Pre_sane_boxes.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sane_boxes.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_sane_boxes [hKernelIdeal : Cert.KernelIdeal.Facts] [hPre_sane_boxes : Cert.Pre_sane_boxes.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_sane_boxes m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_sane_boxes [hReferenceIdeal : Cert.ReferenceIdeal.Facts] [hPre_sane_boxes : Cert.Pre_sane_boxes.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sane_boxes m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_sane_boxes [hKernelIdeal : Cert.KernelIdeal.Facts] [hReferenceIdeal : Cert.ReferenceIdeal.Facts] [hPre_sane_boxes : Cert.Pre_sane_boxes.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_sane_boxes m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v41)) (v1 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_v43) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v109) = v0 c
          ∧ r.2.mem ((c.tc : Thread Cert.ReferenceIdeal.nD Cert.ReferenceIdeal.τ).loc Cert.ReferenceIdeal.main_v103) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_sane_boxes : Cert.Pre_sane_boxes.Facts),
    quiescent_Kernel (hKernel := hKernel)
    ∧ quiescent_KernelIdeal (hKernelIdeal := hKernelIdeal)
    ∧ quiescent_KernelIdeal_pre_sane_boxes (hKernelIdeal := hKernelIdeal) (hPre_sane_boxes := hPre_sane_boxes)
    ∧ quiescent_ReferenceIdeal (hReferenceIdeal := hReferenceIdeal)
    ∧ quiescent_ReferenceIdeal_pre_sane_boxes (hReferenceIdeal := hReferenceIdeal) (hPre_sane_boxes := hPre_sane_boxes)
    ∧ preserves_Kernel_KernelIdeal
    ∧ algebraic_KernelIdeal_ReferenceIdeal_pre_sane_boxes (hKernelIdeal := hKernelIdeal) (hReferenceIdeal := hReferenceIdeal) (hPre_sane_boxes := hPre_sane_boxes)
-- ==== Pre_sane_boxes.lean ====
abbrev S2x20000x3 : Shape := ⟨3, ![2, 20000, 3]⟩
abbrev S2x20000x7 : Shape := ⟨3, ![2, 20000, 7]⟩
abbrev S2x20000x1 : Shape := ⟨3, ![2, 20000, 1]⟩
abbrev S2x20000 : Shape := ⟨2, ![2, 20000]⟩
abbrev S_ : Shape := ⟨0, ![]⟩

class Facts : Prop where
  slices_S2x20000x7_S2x20000x1_0_0_0 : S2x20000x7.Slices ![0, 0, 0] S2x20000x1
  shapeCasts_S2x20000x1_S2x20000 : S2x20000x1.ShapeCasts S2x20000
  slices_S2x20000x7_S2x20000x1_0_0_1 : S2x20000x7.Slices ![0, 0, 1] S2x20000x1
  slices_S2x20000x7_S2x20000x1_0_0_3 : S2x20000x7.Slices ![0, 0, 3] S2x20000x1
  slices_S2x20000x7_S2x20000x1_0_0_4 : S2x20000x7.Slices ![0, 0, 4] S2x20000x1
  bcast_S_S2x20000 : S_.BroadcastsInDim S2x20000 (![] : Fin 0 → Fin S2x20000.rank)
  reducesTo_S2x20000_S_d0_1 : S2x20000.ReducesTo [0, 1] S_
  h_S_ : 0 < S_.numel

variable [Facts]

def fn {F : FTy → Type} [FloatOps F] (main_arg0 : FVec F S2x20000x3 .f32) (main_arg1 : FVec F S2x20000x7 .f32) : IVec S_ 1 :=
  let main_v0 : FVec F S2x20000x1 .f32 := (extractStridedSlice S2x20000x1 ![0, 0, 0] · slices_S2x20000x7_S2x20000x1_0_0_0) main_arg1
  let main_v1 : FVec F S2x20000 .f32 := shapeCast S2x20000 main_v0 shapeCasts_S2x20000x1_S2x20000
  let main_v2 : FVec F S2x20000x1 .f32 := (extractStridedSlice S2x20000x1 ![0, 0, 1] · slices_S2x20000x7_S2x20000x1_0_0_1) main_arg1
  let main_v3 : FVec F S2x20000 .f32 := shapeCast S2x20000 main_v2 shapeCasts_S2x20000x1_S2x20000
  let main_v4 : FVec F S2x20000x1 .f32 := (extractStridedSlice S2x20000x1 ![0, 0, 3] · slices_S2x20000x7_S2x20000x1_0_0_3) main_arg1
  let main_v5 : FVec F S2x20000 .f32 := shapeCast S2x20000 main_v4 shapeCasts_S2x20000x1_S2x20000
  let main_v6 : FVec F S2x20000x1 .f32 := (extractStridedSlice S2x20000x1 ![0, 0, 4] · slices_S2x20000x7_S2x20000x1_0_0_4) main_arg1
  let main_v7 : FVec F S2x20000 .f32 := shapeCast S2x20000 main_v6 shapeCasts_S2x20000x1_S2x20000
  let main_v8 : FVec F S2x20000 .f32 := Host.absf main_v1
  let main_cst : FVec F S_ .f32 := constant S_ .f32 0x7F800000#32
  let main_v9 : FVec F S2x20000 .f32 := broadcastInDim S2x20000 ![] bcast_S_S2x20000 main_cst
  let main_v10 : IVec S2x20000 1 := cmpf .olt main_v8 main_v9
  let main_v11 : FVec F S2x20000 .f32 := Host.absf main_v3
  let main_cst_0 : FVec F S_ .f32 := constant S_ .f32 0x7F800000#32
  let main_v12 : FVec F S2x20000 .f32 := broadcastInDim S2x20000 ![] bcast_S_S2x20000 main_cst_0
  let main_v13 : IVec S2x20000 1 := cmpf .olt main_v11 main_v12
  let main_v14 : IVec S2x20000 1 := andi main_v10 main_v13
  let main_v15 : FVec F S2x20000 .f32 := mulf main_v5 main_v7
  let main_cst_1 : FVec F S_ .f32 := constant S_ .f32 0x322BCC77#32
  let main_v16 : FVec F S2x20000 .f32 := broadcastInDim S2x20000 ![] bcast_S_S2x20000 main_cst_1
  let main_v17 : IVec S2x20000 1 := cmpf .oge main_v15 main_v16
  let main_v18 : IVec S2x20000 1 := andi main_v14 main_v17
  let main_c : IVec S_ 1 := constantI S_ 1 1#1
  let main_v19 : IVec S_ 1 := (fun x v => Host.reduce IntOp.andi x v reducesTo_S2x20000_S_d0_1 h_S_) main_v18 main_c
  main_v19
-- ==== Kernel.lean ====
abbrev S2x20000x3 : Shape := ⟨3, ![2, 20000, 3]⟩
abbrev S2x20000x7 : Shape := ⟨3, ![2, 20000, 7]⟩
abbrev S_ : Shape := ⟨0, ![]⟩
abbrev S2x20000 : Shape := ⟨2, ![2, 20000]⟩
abbrev S2x4096 : Shape := ⟨2, ![2, 4096]⟩
abbrev S2x4096x1 : Shape := ⟨3, ![2, 4096, 1]⟩
abbrev S1 : Shape := ⟨1, ![1]⟩
abbrev S1x1x1 : Shape := ⟨3, ![1, 1, 1]⟩
abbrev S2x4096x7 : Shape := ⟨3, ![2, 4096, 7]⟩
abbrev S2 : Shape := ⟨1, ![2]⟩
abbrev S2x1x1 : Shape := ⟨3, ![2, 1, 1]⟩
abbrev S2x4096x16 : Shape := ⟨3, ![2, 4096, 16]⟩
abbrev S2x1x4096 : Shape := ⟨3, ![2, 1, 4096]⟩
abbrev S2x4x4096 : Shape := ⟨3, ![2, 4, 4096]⟩
abbrev S2x4x32x128 : Shape := ⟨4, ![2, 4, 32, 128]⟩
abbrev S2x4x4096x1 : Shape := ⟨4, ![2, 4, 4096, 1]⟩
abbrev S2x512x16 : Shape := ⟨3, ![2, 512, 16]⟩
abbrev S2x512x1 : Shape := ⟨3, ![2, 512, 1]⟩
abbrev S1x4096x16 : Shape := ⟨3, ![1, 4096, 16]⟩
abbrev S1x4x32x128 : Shape := ⟨4, ![1, 4, 32, 128]⟩
abbrev S1x4x4096x1 : Shape := ⟨4, ![1, 4, 4096, 1]⟩
abbrev S1x4096x1 : Shape := ⟨3, ![1, 4096, 1]⟩
abbrev S1x512x16 : Shape := ⟨3, ![1, 512, 16]⟩
abbrev S1x512x1 : Shape := ⟨3, ![1, 512, 1]⟩
abbrev S32x128 : Shape := ⟨2, ![32, 128]⟩
abbrev S5x32x128 : Shape := ⟨3, ![5, 32, 128]⟩
abbrev S512x16 : Shape := ⟨2, ![512, 16]⟩
abbrev S512x1 : Shape := ⟨2, ![512, 1]⟩
abbrev S1x1x32x128 : Shape := ⟨4, ![1, 1, 32, 128]⟩
abbrev S1x32x128 : Shape := ⟨3, ![1, 32, 128]⟩
abbrev S1x1x1x1 : Shape := ⟨4, ![1, 1, 1, 1]⟩
abbrev S1x1x16 : Shape := ⟨3, ![1, 1, 16]⟩
abbrev S1x16 : Shape := ⟨2, ![1, 16]⟩
abbrev S1x1 : Shape := ⟨2, ![1, 1]⟩
abbrev S2x500x9 : Shape := ⟨3, ![2, 500, 9]⟩
abbrev S2x500x1 : Shape := ⟨3, ![2, 500, 1]⟩
abbrev S2x500 : Shape := ⟨2, ![2, 500]⟩

abbrev nBuf : Space → Nat
  | .hbm => 105
  | .vmem => 14
  | .smem => 2
  | _ => 0

abbrev bufTy : (tb : Table) → Fin (tcTables nBuf tb) → BufTy
  | .hbm, ⟨0, _⟩ => ⟨S2x20000x3, .f32⟩
  | .hbm, ⟨1, _⟩ => ⟨S2x20000x7, .f32⟩
  | .hbm, ⟨2, _⟩ => ⟨S_, .f32⟩
  | .hbm, ⟨3, _⟩ => ⟨S2x20000, .f32⟩
  | .hbm, ⟨4, _⟩ => ⟨S2x20000x3, .i32⟩
  | .hbm, ⟨5, _⟩ => ⟨S_, .f32⟩
  | .hbm, ⟨6, _⟩ => ⟨S_, .i32⟩
  | .hbm, ⟨7, _⟩ => ⟨S2x20000, .f32⟩
  | .hbm, ⟨8, _⟩ => ⟨S2x20000, .i32⟩
  | .hbm, ⟨9, _⟩ => ⟨S2x20000, .f32⟩
  | .hbm, ⟨10, _⟩ => ⟨S2x20000, .f32⟩
  | .hbm, ⟨11, _⟩ => ⟨S_, .f32⟩
  | .hbm, ⟨12, _⟩ => ⟨S2x20000, .f32⟩
  | .hbm, ⟨13, _⟩ => ⟨S2x20000, .f32⟩
  | .hbm, ⟨14, _⟩ => ⟨S_, .f32⟩
  | .hbm, ⟨15, _⟩ => ⟨S2x20000, .f32⟩
  | .hbm, ⟨16, _⟩ => ⟨S2x20000, .f32⟩
  | .hbm, ⟨17, _⟩ => ⟨S_, .f32⟩
  | .hbm, ⟨18, _⟩ => ⟨S2x20000, .f32⟩
  | .hbm, ⟨19, _⟩ => ⟨S2x20000, .i1⟩
  | .hbm, ⟨20, _⟩ => ⟨S_, .f32⟩
  | .hbm, ⟨21, _⟩ => ⟨S_, .f32⟩
  | .hbm, ⟨22, _⟩ => ⟨S2x20000, .f32⟩
  | .hbm, ⟨23, _⟩ => ⟨S2x20000, .f32⟩
  | .hbm, ⟨24, _⟩ => ⟨S2x4096, .f32⟩
  | .hbm, ⟨25, _⟩ => ⟨S2x4096, .i32⟩
  | .hbm, ⟨26, _⟩ => ⟨S2x4096x1, .i32⟩
  | .hbm, ⟨27, _⟩ => ⟨S_, .i32⟩
  | .hbm, ⟨28, _⟩ => ⟨S2x4096x1, .i32⟩
  | .hbm, ⟨29, _⟩ => ⟨S2x4096x1, .i1⟩
  | .hbm, ⟨30, _⟩ => ⟨S_, .i32⟩
  | .hbm, ⟨31, _⟩ => ⟨S2x4096x1, .i32⟩
  | .hbm, ⟨32, _⟩ => ⟨S2x4096x1, .i32⟩
  | .hbm, ⟨33, _⟩ => ⟨S2x4096x1, .i32⟩
  | .hbm, ⟨34, _⟩ => ⟨S1, .i32⟩
  | .hbm, ⟨35, _⟩ => ⟨S_, .i32⟩
  | .hbm, ⟨36, _⟩ => ⟨S2x4096x1, .i32⟩
  | .hbm, ⟨37, _⟩ => ⟨S2x4096x1, .i1⟩
  | .hbm, ⟨38, _⟩ => ⟨S1x1x1, .i32⟩
  | .hbm, ⟨39, _⟩ => ⟨S2x4096x1, .i32⟩
  | .hbm, ⟨40, _⟩ => ⟨S2x4096x1, .i1⟩
  | .hbm, ⟨41, _⟩ => ⟨S2x4096x1, .i1⟩
  | .hbm, ⟨42, _⟩ => ⟨S_, .i1⟩
  | .hbm, ⟨43, _⟩ => ⟨S2x4096, .i1⟩
  | .hbm, ⟨44, _⟩ => ⟨S2x4096x7, .f32⟩
  | .hbm, ⟨45, _⟩ => ⟨S2x4096x7, .i1⟩
  | .hbm, ⟨46, _⟩ => ⟨S_, .f32⟩
  | .hbm, ⟨47, _⟩ => ⟨S2x4096x7, .f32⟩
  | .hbm, ⟨48, _⟩ => ⟨S2x4096x7, .f32⟩
  | .hbm, ⟨49, _⟩ => ⟨S_, .i32⟩
  | .hbm, ⟨50, _⟩ => ⟨S2x4096, .i32⟩
  | .hbm, ⟨51, _⟩ => ⟨S2x4096, .i1⟩
  | .hbm, ⟨52, _⟩ => ⟨S_, .i32⟩
  | .hbm, ⟨53, _⟩ => ⟨S2x4096, .i32⟩
  | .hbm, ⟨54, _⟩ => ⟨S2x4096, .i32⟩
  | .hbm, ⟨55, _⟩ => ⟨S2x4096, .i32⟩
  | .hbm, ⟨56, _⟩ => ⟨S2x4096x1, .i32⟩
  | .hbm, ⟨57, _⟩ => ⟨S1, .i32⟩
  | .hbm, ⟨58, _⟩ => ⟨S_, .i32⟩
  | .hbm, ⟨59, _⟩ => ⟨S2x4096x1, .i32⟩
  | .hbm, ⟨60, _⟩ => ⟨S2x4096x1, .i1⟩
  | .hbm, ⟨61, _⟩ => ⟨S1x1x1, .i32⟩
  | .hbm, ⟨62, _⟩ => ⟨S2x4096x1, .i32⟩
  | .hbm, ⟨63, _⟩ => ⟨S2x4096x1, .i1⟩
  | .hbm, ⟨64, _⟩ => ⟨S2x4096x1, .i1⟩
  | .hbm, ⟨65, _⟩ => ⟨S_, .i1⟩
  | .hbm, ⟨66, _⟩ => ⟨S2x4096, .i1⟩
  | .hbm, ⟨67, _⟩ => ⟨S2x4096, .i32⟩
  | .hbm, ⟨68, _⟩ => ⟨S_, .i32⟩
  | .hbm, ⟨69, _⟩ => ⟨S2x4096, .i32⟩
  | .hbm, ⟨70, _⟩ => ⟨S2x4096, .i32⟩
  | .hbm, ⟨71, _⟩ => ⟨S2x4096x1, .i32⟩
  | .hbm, ⟨72, _⟩ => ⟨S_, .f32⟩
  | .hbm, ⟨73, _⟩ => ⟨S2x4096, .f32⟩
  | .hbm, ⟨74, _⟩ => ⟨S2x4096, .i1⟩
  | .hbm, ⟨75, _⟩ => ⟨S2x4096, .i32⟩
  | .hbm, ⟨76, _⟩ => ⟨S_, .i32⟩
  | .hbm, ⟨77, _⟩ => ⟨S2, .i32⟩
  | .hbm, ⟨78, _⟩ => ⟨S2, .f32⟩
  | .hbm, ⟨79, _⟩ => ⟨S2x1x1, .f32⟩
  | .hbm, ⟨80, _⟩ => ⟨S2x4096x1, .f32⟩
  | .hbm, ⟨81, _⟩ => ⟨S2x4096x1, .f32⟩
  | .hbm, ⟨82, _⟩ => ⟨S_, .f32⟩
  | .hbm, ⟨83, _⟩ => ⟨S2x4096x7, .f32⟩
  | .hbm, ⟨84, _⟩ => ⟨S2x4096x16, .f32⟩
  | .hbm, ⟨85, _⟩ => ⟨S2x4096x1, .f32⟩
  | .hbm, ⟨86, _⟩ => ⟨S2x4096, .f32⟩
  | .hbm, ⟨87, _⟩ => ⟨S2x4096x1, .f32⟩
  | .hbm, ⟨88, _⟩ => ⟨S2x4096, .f32⟩
  | .hbm, ⟨89, _⟩ => ⟨S2x4096x1, .f32⟩
  | .hbm, ⟨90, _⟩ => ⟨S2x4096, .f32⟩
  | .hbm, ⟨91, _⟩ => ⟨S2x4096x1, .f32⟩
  | .hbm, ⟨92, _⟩ => ⟨S2x4096, .f32⟩
  | .hbm, ⟨93, _⟩ => ⟨S2x1x4096, .f32⟩
  | .hbm, ⟨94, _⟩ => ⟨S2x1x4096, .f32⟩
  | .hbm, ⟨95, _⟩ => ⟨S2x1x4096, .f32⟩
  | .hbm, ⟨96, _⟩ => ⟨S2x1x4096, .f32⟩
  | .hbm, ⟨97, _⟩ => ⟨S2x4x4096, .f32⟩
  | .hbm, ⟨98, _⟩ => ⟨S2x4x32x128, .f32⟩
  | .hbm, ⟨99, _⟩ => ⟨S2x4x4096x1, .f32⟩
  | .hbm, ⟨100, _⟩ => ⟨S2x512x16, .f32⟩
  | .hbm, ⟨101, _⟩ => ⟨S2x512x1, .i32⟩
  | .hbm, ⟨102, _⟩ => ⟨S2x500x9, .f32⟩
  | .hbm, ⟨103, _⟩ => ⟨S2x500x1, .i32⟩
  | .hbm, ⟨104, _⟩ => ⟨S2x500, .i32⟩
  | .local _ .vmem, ⟨0, _⟩ => ⟨S1x4096x16, .f32⟩
  | .local _ .vmem, ⟨1, _⟩ => ⟨S1x4096x16, .f32⟩
  | .local _ .vmem, ⟨2, _⟩ => ⟨S1x4x32x128, .f32⟩
  | .local _ .vmem, ⟨3, _⟩ => ⟨S1x4x32x128, .f32⟩
  | .local _ .vmem, ⟨4, _⟩ => ⟨S1x4x4096x1, .f32⟩
  | .local _ .vmem, ⟨5, _⟩ => ⟨S1x4x4096x1, .f32⟩
  | .local _ .vmem, ⟨6, _⟩ => ⟨S1x4096x1, .i32⟩
  | .local _ .vmem, ⟨7, _⟩ => ⟨S1x4096x1, .i32⟩
  | .local _ .vmem, ⟨8, _⟩ => ⟨S1x512x16, .f32⟩
  | .local _ .vmem, ⟨9, _⟩ => ⟨S1x512x16, .f32⟩
  | .local _ .vmem, ⟨10, _⟩ => ⟨S1x512x1, .i32⟩
  | .local _ .vmem, ⟨11, _⟩ => ⟨S1x512x1, .i32⟩
  | .local _ .vmem, ⟨12, _⟩ => ⟨S32x128, .f32⟩
  | .local _ .vmem, ⟨13, _⟩ => ⟨S5x32x128, .f32⟩
  | .local _ .smem, ⟨0, _⟩ => ⟨S2, .i32⟩
  | .local _ .smem, ⟨1, _⟩ => ⟨S1, .i32⟩
  | _, _ => ⟨S2x20000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_call0_v0 : Ref sig .tc := ⟨.hbm, 4, rfl⟩
abbrev main_call0_cst : Ref sig .tc := ⟨.hbm, 5, rfl⟩
abbrev main_call0_c : Ref sig .tc := ⟨.hbm, 6, rfl⟩
abbrev main_call0_v1_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_cst_2 : Ref sig .tc := ⟨.hbm, 17, rfl⟩
abbrev main_v8 : Ref sig .tc := ⟨.hbm, 18, rfl⟩
abbrev main_v9 : Ref sig .tc := ⟨.hbm, 19, rfl⟩
abbrev main_cst_3 : Ref sig .tc := ⟨.hbm, 20, rfl⟩
abbrev main_call1_v0 : Ref sig .tc := ⟨.hbm, 21, rfl⟩
abbrev main_call1_v1 : Ref sig .tc := ⟨.hbm, 22, rfl⟩
abbrev main_v10 : Ref sig .tc := ⟨.hbm, 23, rfl⟩
abbrev main_values : Ref sig .tc := ⟨.hbm, 24, rfl⟩
abbrev main_indices : Ref sig .tc := ⟨.hbm, 25, rfl⟩
abbrev main_v11 : Ref sig .tc := ⟨.hbm, 26, rfl⟩
abbrev main_call2_c : Ref sig .tc := ⟨.hbm, 27, rfl⟩
abbrev main_call2_v0 : Ref sig .tc := ⟨.hbm, 28, rfl⟩
abbrev main_call2_v1 : Ref sig .tc := ⟨.hbm, 29, rfl⟩
abbrev main_call2_c_0 : Ref sig .tc := ⟨.hbm, 30, rfl⟩
abbrev main_call2_v2 : Ref sig .tc := ⟨.hbm, 31, rfl⟩
abbrev main_call2_v3 : Ref sig .tc := ⟨.hbm, 32, rfl⟩
abbrev main_call2_v4 : Ref sig .tc := ⟨.hbm, 33, rfl⟩
abbrev main_call2_c_1 : Ref sig .tc := ⟨.hbm, 34, rfl⟩
abbrev main_call2_c_2 : Ref sig .tc := ⟨.hbm, 35, rfl⟩
abbrev main_call2_v5 : Ref sig .tc := ⟨.hbm, 36, rfl⟩
abbrev main_call2_v6 : Ref sig .tc := ⟨.hbm, 37, rfl⟩
abbrev main_call2_v7 : Ref sig .tc := ⟨.hbm, 38, rfl⟩
abbrev main_call2_v8 : Ref sig .tc := ⟨.hbm, 39, rfl⟩
abbrev main_call2_v9 : Ref sig .tc := ⟨.hbm, 40, rfl⟩
abbrev main_call2_v10 : Ref sig .tc := ⟨.hbm, 41, rfl⟩
abbrev main_call2_c_3 : Ref sig .tc := ⟨.hbm, 42, rfl⟩
abbrev main_call2_v11 : Ref sig .tc := ⟨.hbm, 43, rfl⟩
abbrev main_call2_v12 : Ref sig .tc := ⟨.hbm, 44, rfl⟩
abbrev main_call2_v13 : Ref sig .tc := ⟨.hbm, 45, rfl⟩
abbrev main_call2_cst : Ref sig .tc := ⟨.hbm, 46, rfl⟩
abbrev main_call2_v14 : Ref sig .tc := ⟨.hbm, 47, rfl⟩
abbrev main_v12 : Ref sig .tc := ⟨.hbm, 48, rfl⟩
abbrev main_call3_c : Ref sig .tc := ⟨.hbm, 49, rfl⟩
abbrev main_call3_v0 : Ref sig .tc := ⟨.hbm, 50, rfl⟩
abbrev main_call3_v1 : Ref sig .tc := ⟨.hbm, 51, rfl⟩
abbrev main_call3_c_0 : Ref sig .tc := ⟨.hbm, 52, rfl⟩
abbrev main_call3_v2 : Ref sig .tc := ⟨.hbm, 53, rfl⟩
abbrev main_call3_v3 : Ref sig .tc := ⟨.hbm, 54, rfl⟩
abbrev main_call3_v4 : Ref sig .tc := ⟨.hbm, 55, rfl⟩
abbrev main_call3_v5 : Ref sig .tc := ⟨.hbm, 56, rfl⟩
abbrev main_call3_c_1 : Ref sig .tc := ⟨.hbm, 57, rfl⟩
abbrev main_call3_c_2 : Ref sig .tc := ⟨.hbm, 58, rfl⟩
abbrev main_call3_v6 : Ref sig .tc := ⟨.hbm, 59, rfl⟩
abbrev main_call3_v7 : Ref sig .tc := ⟨.hbm, 60, rfl⟩
abbrev main_call3_v8 : Ref sig .tc := ⟨.hbm, 61, rfl⟩
abbrev main_call3_v9 : Ref sig .tc := ⟨.hbm, 62, rfl⟩
abbrev main_call3_v10 : Ref sig .tc := ⟨.hbm, 63, rfl⟩
abbrev main_call3_v11 : Ref sig .tc := ⟨.hbm, 64, rfl⟩
abbrev main_call3_c_3 : Ref sig .tc := ⟨.hbm, 65, rfl⟩
abbrev main_call3_v12 : Ref sig .tc := ⟨.hbm, 66, rfl⟩
abbrev main_call3_v13 : Ref sig .tc := ⟨.hbm, 67, rfl⟩
abbrev main_call3_c_4 : Ref sig .tc := ⟨.hbm, 68, rfl⟩
abbrev main_call3_v14 : Ref sig .tc := ⟨.hbm, 69, rfl⟩
abbrev main_v13 : Ref sig .tc := ⟨.hbm, 70, rfl⟩
abbrev main_v14 : Ref sig .tc := ⟨.hbm, 71, rfl⟩
abbrev main_cst_4 : Ref sig .tc := ⟨.hbm, 72, rfl⟩
abbrev main_v15 : Ref sig .tc := ⟨.hbm, 73, rfl⟩
abbrev main_v16 : Ref sig .tc := ⟨.hbm, 74, rfl⟩
abbrev main_v17 : Ref sig .tc := ⟨.hbm, 75, rfl⟩
abbrev main_c : Ref sig .tc := ⟨.hbm, 76, rfl⟩
abbrev main_v18 : Ref sig .tc := ⟨.hbm, 77, rfl⟩
abbrev main_v19 : Ref sig .tc := ⟨.hbm, 78, rfl⟩
abbrev main_v20 : Ref sig .tc := ⟨.hbm, 79, rfl⟩
abbrev main_v21 : Ref sig .tc := ⟨.hbm, 80, rfl⟩
abbrev main_v22 : Ref sig .tc := ⟨.hbm, 81, rfl⟩
abbrev main_cst_5 : Ref sig .tc := ⟨.hbm, 82, rfl⟩
abbrev main_v23 : Ref sig .tc := ⟨.hbm, 83, rfl⟩
abbrev main_v24 : Ref sig .tc := ⟨.hbm, 84, rfl⟩
abbrev main_v25 : Ref sig .tc := ⟨.hbm, 85, rfl⟩
abbrev main_v26 : Ref sig .tc := ⟨.hbm, 86, rfl⟩
abbrev main_v27 : Ref sig .tc := ⟨.hbm, 87, rfl⟩
abbrev main_v28 : Ref sig .tc := ⟨.hbm, 88, rfl⟩
abbrev main_v29 : Ref sig .tc := ⟨.hbm, 89, rfl⟩
abbrev main_v30 : Ref sig .tc := ⟨.hbm, 90, rfl⟩
abbrev main_v31 : Ref sig .tc := ⟨.hbm, 91, rfl⟩
abbrev main_v32 : Ref sig .tc := ⟨.hbm, 92, rfl⟩
abbrev main_v33 : Ref sig .tc := ⟨.hbm, 93, rfl⟩
abbrev main_v34 : Ref sig .tc := ⟨.hbm, 94, rfl⟩
abbrev main_v35 : Ref sig .tc := ⟨.hbm, 95, rfl⟩
abbrev main_v36 : Ref sig .tc := ⟨.hbm, 96, rfl⟩
abbrev main_v37 : Ref sig .tc := ⟨.hbm, 97, rfl⟩
abbrev main_v38 : Ref sig .tc := ⟨.hbm, 98, rfl⟩
abbrev main_v39 : Ref sig .tc := ⟨.hbm, 99, rfl⟩
abbrev main_v40_0 : Ref sig .tc := ⟨.hbm, 100, rfl⟩
abbrev main_v40_1 : Ref sig .tc := ⟨.hbm, 101, rfl⟩
abbrev main_v41 : Ref sig .tc := ⟨.hbm, 102, rfl⟩
abbrev main_v42 : Ref sig .tc := ⟨.hbm, 103, rfl⟩
abbrev main_v43 : Ref sig .tc := ⟨.hbm, 104, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_stg0_0 : Ref sig .tc := ⟨.smem, 0, rfl⟩
abbrev cc0_scratch2 : Ref sig .tc := ⟨.smem, 1, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![2], ![false]⟩

def k0_off1 (i : grid0.Coords) : Fin 1 → Nat :=
  let arg0 : BitVec 32 := BitVec.ofNat 32 (i 0).val
  let v0 : Index := Scalar.indexCast arg0
  ![v0.toNat]
@[reducible] def k0_t1_loop (v1 : BitVec 32) : Scf.Loop 32 :=
  let c0_i32_40 : BitVec 32 := 0#32
  let v58 : BitVec 32 := Scalar.subi v1 c0_i32_40
  let c1_i32 : BitVec 32 := 1#32
  let v60 : BitVec 32 := Scalar.divsi v58 c1_i32
  let v61 : BitVec 32 := Scalar.muli v60 c1_i32
  let v62 : BitVec 32 := Scalar.addi c0_i32_40 v61
  let c1_i32_41 : BitVec 32 := 1#32
  ⟨c0_i32_40, v62, c1_i32_41⟩

def k0_off2 (v1 : BitVec 32) (k0_t1 : Fin (k0_t1_loop v1).trips) : Fin 4 → Nat :=
  let c0_49 : Index := 0#32
  let c0_50 : Index := 0#32
  let c0_i32_40 : BitVec 32 := 0#32
  let c1_i32_41 : BitVec 32 := 1#32
  let arg11 : BitVec 32 := Scf.iv c0_i32_40 c1_i32_41 k0_t1
  let v75 : Index := Scalar.indexCast arg11
  let c0_51 : Index := 0#32
  ![0, 0, v75.toNat, 0]
def k0_cond1 (v72 : BitVec 1) : BitVec 1 :=
  let v73 : BitVec 32 := Scalar.extui v72
  let c0_i32_48 : BitVec 32 := 0#32
  let v74 : BitVec 1 := Scalar.cmpi .ne v73 c0_i32_48
  v74

def k0_off3 (v1 : BitVec 32) (k0_t1 : Fin (k0_t1_loop v1).trips) : Fin 4 → Nat :=
  let c0_52 : Index := 0#32
  let c1_53 : Index := 1#32
  let c0_i32_40 : BitVec 32 := 0#32
  let c1_i32_41 : BitVec 32 := 1#32
  let arg11 : BitVec 32 := Scf.iv c0_i32_40 c1_i32_41 k0_t1
  let v78 : Index := Scalar.indexCast arg11
  let c0_54 : Index := 0#32
  ![0, 1, v78.toNat, 0]
def k0_off4 (v1 : BitVec 32) (k0_t1 : Fin (k0_t1_loop v1).trips) : Fin 4 → Nat :=
  let c0_55 : Index := 0#32
  let c2_56 : Index := 2#32
  let c0_i32_40 : BitVec 32 := 0#32
  let c1_i32_41 : BitVec 32 := 1#32
  let arg11 : BitVec 32 := Scf.iv c0_i32_40 c1_i32_41 k0_t1
  let v81 : Index := Scalar.indexCast arg11
  let c0_57 : Index := 0#32
  ![0, 2, v81.toNat, 0]
def k0_off5 (v1 : BitVec 32) (k0_t1 : Fin (k0_t1_loop v1).trips) : Fin 4 → Nat :=
  let c0_58 : Index := 0#32
  let c3_59 : Index := 3#32
  let c0_i32_40 : BitVec 32 := 0#32
  let c1_i32_41 : BitVec 32 := 1#32
  let arg11 : BitVec 32 := Scf.iv c0_i32_40 c1_i32_41 k0_t1
  let v84 : Index := Scalar.indexCast arg11
  let c0_60 : Index := 0#32
  ![0, 3, v84.toNat, 0]

def k0_chk2 (v1 : BitVec 32) (k0_t1 : Fin (k0_t1_loop v1).trips) (v72 : BitVec 1) : Prop :=
  (∀ (k0_h1 : k0_cond1 v72 = 1#1), ∀ a, (k0_off2 v1 k0_t1) a + S1x1x1x1.size a ≤ S1x4x4096x1.size a) ∧
  (∀ (k0_h1 : k0_cond1 v72 = 1#1), ∀ a, (k0_off3 v1 k0_t1) a + S1x1x1x1.size a ≤ S1x4x4096x1.size a) ∧
  (∀ (k0_h1 : k0_cond1 v72 = 1#1), ∀ a, (k0_off4 v1 k0_t1) a + S1x1x1x1.size a ≤ S1x4x4096x1.size a) ∧
  (∀ (k0_h1 : k0_cond1 v72 = 1#1), ∀ a, (k0_off5 v1 k0_t1) a + S1x1x1x1.size a ≤ S1x4x4096x1.size a)
theorem k0_off2_inb : ∀ (v1 : BitVec 32) (k0_t1 : Fin (k0_t1_loop v1).trips) (v72 : BitVec 1) (k0_hw2 : k0_chk2 v1 k0_t1 v72), ∀ (k0_h1 : k0_cond1 v72 = 1#1), ∀ a, (k0_off2 v1 k0_t1) a + S1x1x1x1.size a ≤ S1x4x4096x1.size a := fun v1 k0_t1 v72 k0_hw2 k0_h1 => k0_hw2.1 k0_h1
theorem k0_off3_inb : ∀ (v1 : BitVec 32) (k0_t1 : Fin (k0_t1_loop v1).trips) (v72 : BitVec 1) (k0_hw2 : k0_chk2 v1 k0_t1 v72), ∀ (k0_h1 : k0_cond1 v72 = 1#1), ∀ a, (k0_off3 v1 k0_t1) a + S1x1x1x1.size a ≤ S1x4x4096x1.size a := fun v1 k0_t1 v72 k0_hw2 k0_h1 => k0_hw2.2.1 k0_h1
theorem k0_off4_inb : ∀ (v1 : BitVec 32) (k0_t1 : Fin (k0_t1_loop v1).trips) (v72 : BitVec 1) (k0_hw2 : k0_chk2 v1 k0_t1 v72), ∀ (k0_h1 : k0_cond1 v72 = 1#1), ∀ a, (k0_off4 v1 k0_t1) a + S1x1x1x1.size a ≤ S1x4x4096x1.size a := fun v1 k0_t1 v72 k0_hw2 k0_h1 => k0_hw2.2.2.1 k0_h1
theorem k0_off5_inb : ∀ (v1 : BitVec 32) (k0_t1 : Fin (k0_t1_loop v1).trips) (v72 : BitVec 1) (k0_hw2 : k0_chk2 v1 k0_t1 v72), ∀ (k0_h1 : k0_cond1 v72 = 1#1), ∀ a, (k0_off5 v1 k0_t1) a + S1x1x1x1.size a ≤ S1x4x4096x1.size a := fun v1 k0_t1 v72 k0_hw2 k0_h1 => k0_hw2.2.2.2 k0_h1

def k0_off6 (v1 : BitVec 32) (k0_t1 : Fin (k0_t1_loop v1).trips) : Fin 3 → Nat :=
  let c0_91 : Index := 0#32
  let c0_i32_40 : BitVec 32 := 0#32
  let c1_i32_41 : BitVec 32 := 1#32
  let arg11 : BitVec 32 := Scf.iv c0_i32_40 c1_i32_41 k0_t1
  let v145 : Index := Scalar.indexCast arg11
  let c0_92 : Index := 0#32
  ![0, v145.toNat, 0]
def k0_cond2 (v139 : BitVec 32) : BitVec 1 :=
  let c500_i32 : BitVec 32 := 500#32
  let v140 : BitVec 1 := Scalar.cmpi .slt v139 c500_i32
  let v141 : BitVec 32 := Scalar.extui v140
  let c0_i32_88 : BitVec 32 := 0#32
  let v142 : BitVec 1 := Scalar.cmpi .ne v141 c0_i32_88
  v142

def k0_off7 (v139 : BitVec 32) : Fin 3 → Nat :=
  let c0_93 : Index := 0#32
  let v148 : Index := Scalar.indexCast v139
  let c0_94 : Index := 0#32
  ![0, v148.toNat, 0]
def k0_off8 (v1 : BitVec 32) (k0_t1 : Fin (k0_t1_loop v1).trips) : Fin 3 → Nat :=
  let c0_95 : Index := 0#32
  let c0_i32_40 : BitVec 32 := 0#32
  let c1_i32_41 : BitVec 32 := 1#32
  let arg11 : BitVec 32 := Scf.iv c0_i32_40 c1_i32_41 k0_t1
  let v152 : Index := Scalar.indexCast arg11
  let c0_96 : Index := 0#32
  ![0, v152.toNat, 0]
def k0_off9 (v139 : BitVec 32) : Fin 3 → Nat :=
  let c0_97 : Index := 0#32
  let v155 : Index := Scalar.indexCast v139
  let c0_98 : Index := 0#32
  ![0, v155.toNat, 0]

def k0_chk3 (v1 : BitVec 32) (k0_t1 : Fin (k0_t1_loop v1).trips) (v72 : BitVec 1) (v139 : BitVec 32) : Prop :=
  (∀ (k0_h1 : k0_cond1 v72 = 1#1), ∀ (k0_h2 : k0_cond2 v139 = 1#1), ∀ a, (k0_off6 v1 k0_t1) a + S1x1x16.size a ≤ S1x4096x16.size a) ∧
  (∀ (k0_h1 : k0_cond1 v72 = 1#1), ∀ (k0_h2 : k0_cond2 v139 = 1#1), ∀ a, (k0_off7 v139) a + S1x1x16.size a ≤ S1x512x16.size a) ∧
  (∀ (k0_h1 : k0_cond1 v72 = 1#1), ∀ (k0_h2 : k0_cond2 v139 = 1#1), ∀ a, (k0_off8 v1 k0_t1) a + S1x1x1.size a ≤ S1x4096x1.size a) ∧
  (∀ (k0_h1 : k0_cond1 v72 = 1#1), ∀ (k0_h2 : k0_cond2 v139 = 1#1), ∀ a, (k0_off9 v139) a + S1x1x1.size a ≤ S1x512x1.size a)
theorem k0_off6_inb : ∀ (v1 : BitVec 32) (k0_t1 : Fin (k0_t1_loop v1).trips) (v72 : BitVec 1) (v139 : BitVec 32) (k0_hw3 : k0_chk3 v1 k0_t1 v72 v139), ∀ (k0_h1 : k0_cond1 v72 = 1#1), ∀ (k0_h2 : k0_cond2 v139 = 1#1), ∀ a, (k0_off6 v1 k0_t1) a + S1x1x16.size a ≤ S1x4096x16.size a := fun v1 k0_t1 v72 v139 k0_hw3 k0_h1 k0_h2 => k0_hw3.1 k0_h1 k0_h2
theorem k0_off7_inb : ∀ (v1 : BitVec 32) (k0_t1 : Fin (k0_t1_loop v1).trips) (v72 : BitVec 1) (v139 : BitVec 32) (k0_hw3 : k0_chk3 v1 k0_t1 v72 v139), ∀ (k0_h1 : k0_cond1 v72 = 1#1), ∀ (k0_h2 : k0_cond2 v139 = 1#1), ∀ a, (k0_off7 v139) a + S1x1x16.size a ≤ S1x512x16.size a := fun v1 k0_t1 v72 v139 k0_hw3 k0_h1 k0_h2 => k0_hw3.2.1 k0_h1 k0_h2
theorem k0_off8_inb : ∀ (v1 : BitVec 32) (k0_t1 : Fin (k0_t1_loop v1).trips) (v72 : BitVec 1) (v139 : BitVec 32) (k0_hw3 : k0_chk3 v1 k0_t1 v72 v139), ∀ (k0_h1 : k0_cond1 v72 = 1#1), ∀ (k0_h2 : k0_cond2 v139 = 1#1), ∀ a, (k0_off8 v1 k0_t1) a + S1x1x1.size a ≤ S1x4096x1.size a := fun v1 k0_t1 v72 v139 k0_hw3 k0_h1 k0_h2 => k0_hw3.2.2.1 k0_h1 k0_h2
theorem k0_off9_inb : ∀ (v1 : BitVec 32) (k0_t1 : Fin (k0_t1_loop v1).trips) (v72 : BitVec 1) (v139 : BitVec 32) (k0_hw3 : k0_chk3 v1 k0_t1 v72 v139), ∀ (k0_h1 : k0_cond1 v72 = 1#1), ∀ (k0_h2 : k0_cond2 v139 = 1#1), ∀ a, (k0_off9 v139) a + S1x1x1.size a ≤ S1x512x1.size a := fun v1 k0_t1 v72 v139 k0_hw3 k0_h1 k0_h2 => k0_hw3.2.2.2 k0_h1 k0_h2

@[reducible] def k0_t2_loop (v1 : BitVec 32) : Scf.Loop 32 :=
  let c0_i32_40 : BitVec 32 := 0#32
  let v58 : BitVec 32 := Scalar.subi v1 c0_i32_40
  let c1_i32 : BitVec 32 := 1#32
  let v60 : BitVec 32 := Scalar.divsi v58 c1_i32
  let v61 : BitVec 32 := Scalar.muli v60 c1_i32
  let v62 : BitVec 32 := Scalar.addi c0_i32_40 v61
  let v59 : BitVec 32 := Scalar.addi c0_i32_40 v58
  let c1_i32_42 : BitVec 32 := 1#32
  ⟨v62, v59, c1_i32_42⟩

def k0_chk1 (v1 : BitVec 32) : Prop :=
  ((k0_t1_loop v1).OK) ∧
  ((k0_t2_loop v1).OK)
theorem k0_t1_ok : ∀ (v1 : BitVec 32) (k0_hw1 : k0_chk1 v1), (k0_t1_loop v1).OK := fun v1 k0_hw1 => k0_hw1.1
theorem k0_t2_ok : ∀ (v1 : BitVec 32) (k0_hw1 : k0_chk1 v1), (k0_t2_loop v1).OK := fun v1 k0_hw1 => k0_hw1.2

def k0_off10 (v1 : BitVec 32) (k0_t2 : Fin (k0_t2_loop v1).trips) : Fin 4 → Nat :=
  let c0_49 : Index := 0#32
  let c0_50 : Index := 0#32
  let c0_i32_40 : BitVec 32 := 0#32
  let v58 : BitVec 32 := Scalar.subi v1 c0_i32_40
  let c1_i32 : BitVec 32 := 1#32
  let v60 : BitVec 32 := Scalar.divsi v58 c1_i32
  let v61 : BitVec 32 := Scalar.muli v60 c1_i32
  let v62 : BitVec 32 := Scalar.addi c0_i32_40 v61
  let c1_i32_42 : BitVec 32 := 1#32
  let arg11 : BitVec 32 := Scf.iv v62 c1_i32_42 k0_t2
  let v75 : Index := Scalar.indexCast arg11
  let c0_51 : Index := 0#32
  ![0, 0, v75.toNat, 0]
def k0_cond3 (v72 : BitVec 1) : BitVec 1 :=
  let v73 : BitVec 32 := Scalar.extui v72
  let c0_i32_48 : BitVec 32 := 0#32
  let v74 : BitVec 1 := Scalar.cmpi .ne v73 c0_i32_48
  v74

def k0_off11 (v1 : BitVec 32) (k0_t2 : Fin (k0_t2_loop v1).trips) : Fin 4 → Nat :=
  let c0_52 : Index := 0#32
  let c1_53 : Index := 1#32
  let c0_i32_40 : BitVec 32 := 0#32
  let v58 : BitVec 32 := Scalar.subi v1 c0_i32_40
  let c1_i32 : BitVec 32 := 1#32
  let v60 : BitVec 32 := Scalar.divsi v58 c1_i32
  let v61 : BitVec 32 := Scalar.muli v60 c1_i32
  let v62 : BitVec 32 := Scalar.addi c0_i32_40 v61
  let c1_i32_42 : BitVec 32 := 1#32
  let arg11 : BitVec 32 := Scf.iv v62 c1_i32_42 k0_t2
  let v78 : Index := Scalar.indexCast arg11
  let c0_54 : Index := 0#32
  ![0, 1, v78.toNat, 0]
def k0_off12 (v1 : BitVec 32) (k0_t2 : Fin (k0_t2_loop v1).trips) : Fin 4 → Nat :=
  let c0_55 : Index := 0#32
  let c2_56 : Index := 2#32
  let c0_i32_40 : BitVec 32 := 0#32
  let v58 : BitVec 32 := Scalar.subi v1 c0_i32_40
  let c1_i32 : BitVec 32 := 1#32
  let v60 : BitVec 32 := Scalar.divsi v58 c1_i32
  let v61 : BitVec 32 := Scalar.muli v60 c1_i32
  let v62 : BitVec 32 := Scalar.addi c0_i32_40 v61
  let c1_i32_42 : BitVec 32 := 1#32
  let arg11 : BitVec 32 := Scf.iv v62 c1_i32_42 k0_t2
  let v81 : Index := Scalar.indexCast arg11
  let c0_57 : Index := 0#32
  ![0, 2, v81.toNat, 0]
def k0_off13 (v1 : BitVec 32) (k0_t2 : Fin (k0_t2_loop v1).trips) : Fin 4 → Nat :=
  let c0_58 : Index := 0#32
  let c3_59 : Index := 3#32
  let c0_i32_40 : BitVec 32 := 0#32
  let v58 : BitVec 32 := Scalar.subi v1 c0_i32_40
  let c1_i32 : BitVec 32 := 1#32
  let v60 : BitVec 32 := Scalar.divsi v58 c1_i32
  let v61 : BitVec 32 := Scalar.muli v60 c1_i32
  let v62 : BitVec 32 := Scalar.addi c0_i32_40 v61
  let c1_i32_42 : BitVec 32 := 1#32
  let arg11 : BitVec 32 := Scf.iv v62 c1_i32_42 k0_t2
  let v84 : Index := Scalar.indexCast arg11
  let c0_60 : Index := 0#32
  ![0, 3, v84.toNat, 0]

def k0_chk4 (v1 : BitVec 32) (k0_t2 : Fin (k0_t2_loop v1).trips) (v72 : BitVec 1) : Prop :=
  (∀ (k0_h3 : k0_cond3 v72 = 1#1), ∀ a, (k0_off10 v1 k0_t2) a + S1x1x1x1.size a ≤ S1x4x4096x1.size a) ∧
  (∀ (k0_h3 : k0_cond3 v72 = 1#1), ∀ a, (k0_off11 v1 k0_t2) a + S1x1x1x1.size a ≤ S1x4x4096x1.size a) ∧
  (∀ (k0_h3 : k0_cond3 v72 = 1#1), ∀ a, (k0_off12 v1 k0_t2) a + S1x1x1x1.size a ≤ S1x4x4096x1.size a) ∧
  (∀ (k0_h3 : k0_cond3 v72 = 1#1), ∀ a, (k0_off13 v1 k0_t2) a + S1x1x1x1.size a ≤ S1x4x4096x1.size a)
theorem k0_off10_inb : ∀ (v1 : BitVec 32) (k0_t2 : Fin (k0_t2_loop v1).trips) (v72 : BitVec 1) (k0_hw4 : k0_chk4 v1 k0_t2 v72), ∀ (k0_h3 : k0_cond3 v72 = 1#1), ∀ a, (k0_off10 v1 k0_t2) a + S1x1x1x1.size a ≤ S1x4x4096x1.size a := fun v1 k0_t2 v72 k0_hw4 k0_h3 => k0_hw4.1 k0_h3
theorem k0_off11_inb : ∀ (v1 : BitVec 32) (k0_t2 : Fin (k0_t2_loop v1).trips) (v72 : BitVec 1) (k0_hw4 : k0_chk4 v1 k0_t2 v72), ∀ (k0_h3 : k0_cond3 v72 = 1#1), ∀ a, (k0_off11 v1 k0_t2) a + S1x1x1x1.size a ≤ S1x4x4096x1.size a := fun v1 k0_t2 v72 k0_hw4 k0_h3 => k0_hw4.2.1 k0_h3
theorem k0_off12_inb : ∀ (v1 : BitVec 32) (k0_t2 : Fin (k0_t2_loop v1).trips) (v72 : BitVec 1) (k0_hw4 : k0_chk4 v1 k0_t2 v72), ∀ (k0_h3 : k0_cond3 v72 = 1#1), ∀ a, (k0_off12 v1 k0_t2) a + S1x1x1x1.size a ≤ S1x4x4096x1.size a := fun v1 k0_t2 v72 k0_hw4 k0_h3 => k0_hw4.2.2.1 k0_h3
theorem k0_off13_inb : ∀ (v1 : BitVec 32) (k0_t2 : Fin (k0_t2_loop v1).trips) (v72 : BitVec 1) (k0_hw4 : k0_chk4 v1 k0_t2 v72), ∀ (k0_h3 : k0_cond3 v72 = 1#1), ∀ a, (k0_off13 v1 k0_t2) a + S1x1x1x1.size a ≤ S1x4x4096x1.size a := fun v1 k0_t2 v72 k0_hw4 k0_h3 => k0_hw4.2.2.2 k0_h3

def k0_off14 (v1 : BitVec 32) (k0_t2 : Fin (k0_t2_loop v1).trips) : Fin 3 → Nat :=
  let c0_91 : Index := 0#32
  let c0_i32_40 : BitVec 32 := 0#32
  let v58 : BitVec 32 := Scalar.subi v1 c0_i32_40
  let c1_i32 : BitVec 32 := 1#32
  let v60 : BitVec 32 := Scalar.divsi v58 c1_i32
  let v61 : BitVec 32 := Scalar.muli v60 c1_i32
  let v62 : BitVec 32 := Scalar.addi c0_i32_40 v61
  let c1_i32_42 : BitVec 32 := 1#32
  let arg11 : BitVec 32 := Scf.iv v62 c1_i32_42 k0_t2
  let v145 : Index := Scalar.indexCast arg11
  let c0_92 : Index := 0#32
  ![0, v145.toNat, 0]
def k0_cond4 (v139 : BitVec 32) : BitVec 1 :=
  let c500_i32 : BitVec 32 := 500#32
  let v140 : BitVec 1 := Scalar.cmpi .slt v139 c500_i32
  let v141 : BitVec 32 := Scalar.extui v140
  let c0_i32_88 : BitVec 32 := 0#32
  let v142 : BitVec 1 := Scalar.cmpi .ne v141 c0_i32_88
  v142

def k0_off15 (v139 : BitVec 32) : Fin 3 → Nat :=
  let c0_93 : Index := 0#32
  let v148 : Index := Scalar.indexCast v139
  let c0_94 : Index := 0#32
  ![0, v148.toNat, 0]
def k0_off16 (v1 : BitVec 32) (k0_t2 : Fin (k0_t2_loop v1).trips) : Fin 3 → Nat :=
  let c0_95 : Index := 0#32
  let c0_i32_40 : BitVec 32 := 0#32
  let v58 : BitVec 32 := Scalar.subi v1 c0_i32_40
  let c1_i32 : BitVec 32 := 1#32
  let v60 : BitVec 32 := Scalar.divsi v58 c1_i32
  let v61 : BitVec 32 := Scalar.muli v60 c1_i32
  let v62 : BitVec 32 := Scalar.addi c0_i32_40 v61
  let c1_i32_42 : BitVec 32 := 1#32
  let arg11 : BitVec 32 := Scf.iv v62 c1_i32_42 k0_t2
  let v152 : Index := Scalar.indexCast arg11
  let c0_96 : Index := 0#32
  ![0, v152.toNat, 0]
def k0_off17 (v139 : BitVec 32) : Fin 3 → Nat :=
  let c0_97 : Index := 0#32
  let v155 : Index := Scalar.indexCast v139
  let c0_98 : Index := 0#32
  ![0, v155.toNat, 0]

def k0_chk5 (v1 : BitVec 32) (k0_t2 : Fin (k0_t2_loop v1).trips) (v72 : BitVec 1) (v139 : BitVec 32) : Prop :=
  (∀ (k0_h3 : k0_cond3 v72 = 1#1), ∀ (k0_h4 : k0_cond4 v139 = 1#1), ∀ a, (k0_off14 v1 k0_t2) a + S1x1x16.size a ≤ S1x4096x16.size a) ∧
  (∀ (k0_h3 : k0_cond3 v72 = 1#1), ∀ (k0_h4 : k0_cond4 v139 = 1#1), ∀ a, (k0_off15 v139) a + S1x1x16.size a ≤ S1x512x16.size a) ∧
  (∀ (k0_h3 : k0_cond3 v72 = 1#1), ∀ (k0_h4 : k0_cond4 v139 = 1#1), ∀ a, (k0_off16 v1 k0_t2) a + S1x1x1.size a ≤ S1x4096x1.size a) ∧
  (∀ (k0_h3 : k0_cond3 v72 = 1#1), ∀ (k0_h4 : k0_cond4 v139 = 1#1), ∀ a, (k0_off17 v139) a + S1x1x1.size a ≤ S1x512x1.size a)
theorem k0_off14_inb : ∀ (v1 : BitVec 32) (k0_t2 : Fin (k0_t2_loop v1).trips) (v72 : BitVec 1) (v139 : BitVec 32) (k0_hw5 : k0_chk5 v1 k0_t2 v72 v139), ∀ (k0_h3 : k0_cond3 v72 = 1#1), ∀ (k0_h4 : k0_cond4 v139 = 1#1), ∀ a, (k0_off14 v1 k0_t2) a + S1x1x16.size a ≤ S1x4096x16.size a := fun v1 k0_t2 v72 v139 k0_hw5 k0_h3 k0_h4 => k0_hw5.1 k0_h3 k0_h4
theorem k0_off15_inb : ∀ (v1 : BitVec 32) (k0_t2 : Fin (k0_t2_loop v1).trips) (v72 : BitVec 1) (v139 : BitVec 32) (k0_hw5 : k0_chk5 v1 k0_t2 v72 v139), ∀ (k0_h3 : k0_cond3 v72 = 1#1), ∀ (k0_h4 : k0_cond4 v139 = 1#1), ∀ a, (k0_off15 v139) a + S1x1x16.size a ≤ S1x512x16.size a := fun v1 k0_t2 v72 v139 k0_hw5 k0_h3 k0_h4 => k0_hw5.2.1 k0_h3 k0_h4
theorem k0_off16_inb : ∀ (v1 : BitVec 32) (k0_t2 : Fin (k0_t2_loop v1).trips) (v72 : BitVec 1) (v139 : BitVec 32) (k0_hw5 : k0_chk5 v1 k0_t2 v72 v139), ∀ (k0_h3 : k0_cond3 v72 = 1#1), ∀ (k0_h4 : k0_cond4 v139 = 1#1), ∀ a, (k0_off16 v1 k0_t2) a + S1x1x1.size a ≤ S1x4096x1.size a := fun v1 k0_t2 v72 v139 k0_hw5 k0_h3 k0_h4 => k0_hw5.2.2.1 k0_h3 k0_h4
theorem k0_off17_inb : ∀ (v1 : BitVec 32) (k0_t2 : Fin (k0_t2_loop v1).trips) (v72 : BitVec 1) (v139 : BitVec 32) (k0_hw5 : k0_chk5 v1 k0_t2 v72 v139), ∀ (k0_h3 : k0_cond3 v72 = 1#1), ∀ (k0_h4 : k0_cond4 v139 = 1#1), ∀ a, (k0_off17 v139) a + S1x1x1.size a ≤ S1x512x1.size a := fun v1 k0_t2 v72 v139 k0_hw5 k0_h3 k0_h4 => k0_hw5.2.2.2 k0_h3 k0_h4

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S2 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x4096x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4x32x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x4x4096x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x4096x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512x1 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S2x20000x3 : Shape := ⟨3, ![2, 20000, 3]⟩
abbrev S2x20000x7 : Shape := ⟨3, ![2, 20000, 7]⟩
abbrev S_ : Shape := ⟨0, ![]⟩
abbrev S2x20000 : Shape := ⟨2, ![2, 20000]⟩
abbrev S2x4096 : Shape := ⟨2, ![2, 4096]⟩
abbrev S2x4096x1 : Shape := ⟨3, ![2, 4096, 1]⟩
abbrev S1 : Shape := ⟨1, ![1]⟩
abbrev S1x1x1 : Shape := ⟨3, ![1, 1, 1]⟩
abbrev S2x4096x7 : Shape := ⟨3, ![2, 4096, 7]⟩
abbrev S2x1x4096 : Shape := ⟨3, ![2, 1, 4096]⟩
abbrev S2x4096x4096 : Shape := ⟨3, ![2, 4096, 4096]⟩
abbrev S4096 : Shape := ⟨1, ![4096]⟩
abbrev S2x1 : Shape := ⟨2, ![2, 1]⟩
abbrev S1x4096 : Shape := ⟨2, ![1, 4096]⟩
abbrev S2x500 : Shape := ⟨2, ![2, 500]⟩
abbrev S2x500x1 : Shape := ⟨3, ![2, 500, 1]⟩
abbrev S2x500x7 : Shape := ⟨3, ![2, 500, 7]⟩
abbrev S2 : Shape := ⟨1, ![2]⟩
abbrev S2x500x9 : Shape := ⟨3, ![2, 500, 9]⟩

abbrev nBuf : Space → Nat
  | .hbm => 332
  | .vmem => 0
  | .smem => 0
  | _ => 0

abbrev hbmTy0_0 (i : Nat) : BufTy := match i % 128 with
  | 0 => ⟨S2x20000x3, .f32⟩
  | 1 => ⟨S2x20000x7, .f32⟩
  | 2 => ⟨S2x20000x3, .f32⟩
  | 3 => ⟨S2x20000x3, .f32⟩
  | 4 => ⟨S_, .f32⟩
  | 5 => ⟨S2x20000x3, .f32⟩
  | 6 => ⟨S2x20000x3, .f32⟩
  | 7 => ⟨S_, .f32⟩
  | 8 => ⟨S2x20000x3, .f32⟩
  | 9 => ⟨S2x20000x3, .f32⟩
  | 10 => ⟨S_, .f32⟩
  | 11 => ⟨S2x20000, .f32⟩
  | 12 => ⟨S2x20000x3, .i32⟩
  | 13 => ⟨S_, .f32⟩
  | 14 => ⟨S_, .i32⟩
  | 15 => ⟨S2x20000, .f32⟩
  | 16 => ⟨S2x20000, .i32⟩
  | 17 => ⟨S_, .f32⟩
  | 18 => ⟨S2x20000, .f32⟩
  | 19 => ⟨S2x20000, .i1⟩
  | 20 => ⟨S_, .f32⟩
  | 21 => ⟨S_, .f32⟩
  | 22 => ⟨S2x20000, .f32⟩
  | 23 => ⟨S2x20000, .f32⟩
  | 24 => ⟨S2x4096, .f32⟩
  | 25 => ⟨S2x4096, .i32⟩
  | 26 => ⟨S2x4096x1, .i32⟩
  | 27 => ⟨S_, .i32⟩
  | 28 => ⟨S2x4096x1, .i32⟩
  | 29 => ⟨S2x4096x1, .i1⟩
  | 30 => ⟨S_, .i32⟩
  | 31 => ⟨S2x4096x1, .i32⟩
  | 32 => ⟨S2x4096x1, .i32⟩
  | 33 => ⟨S2x4096x1, .i32⟩
  | 34 => ⟨S1, .i32⟩
  | 35 => ⟨S_, .i32⟩
  | 36 => ⟨S2x4096x1, .i32⟩
  | 37 => ⟨S2x4096x1, .i1⟩
  | 38 => ⟨S1x1x1, .i32⟩
  | 39 => ⟨S2x4096x1, .i32⟩
  | 40 => ⟨S2x4096x1, .i1⟩
  | 41 => ⟨S2x4096x1, .i1⟩
  | 42 => ⟨S_, .i1⟩
  | 43 => ⟨S2x4096, .i1⟩
  | 44 => ⟨S2x4096x7, .f32⟩
  | 45 => ⟨S2x4096x7, .i1⟩
  | 46 => ⟨S_, .f32⟩
  | 47 => ⟨S2x4096x7, .f32⟩
  | 48 => ⟨S2x4096x7, .f32⟩
  | 49 => ⟨S_, .i32⟩
  | 50 => ⟨S2x4096, .i32⟩
  | 51 => ⟨S2x4096, .i1⟩
  | 52 => ⟨S_, .i32⟩
  | 53 => ⟨S2x4096, .i32⟩
  | 54 => ⟨S2x4096, .i32⟩
  | 55 => ⟨S2x4096, .i32⟩
  | 56 => ⟨S2x4096x1, .i32⟩
  | 57 => ⟨S1, .i32⟩
  | 58 => ⟨S_, .i32⟩
  | 59 => ⟨S2x4096x1, .i32⟩
  | 60 => ⟨S2x4096x1, .i1⟩
  | 61 => ⟨S1x1x1, .i32⟩
  | 62 => ⟨S2x4096x1, .i32⟩
  | 63 => ⟨S2x4096x1, .i1⟩
  | 64 => ⟨S2x4096x1, .i1⟩
  | 65 => ⟨S_, .i1⟩
  | 66 => ⟨S2x4096, .i1⟩
  | 67 => ⟨S2x4096, .i32⟩
  | 68 => ⟨S_, .i32⟩
  | 69 => ⟨S2x4096, .i32⟩
  | 70 => ⟨S2x4096, .i32⟩
  | 71 => ⟨S_, .f32⟩
  | 72 => ⟨S2x4096, .f32⟩
  | 73 => ⟨S2x4096, .i1⟩
  | 74 => ⟨S2x4096x1, .f32⟩
  | 75 => ⟨S2x4096, .f32⟩
  | 76 => ⟨S2x4096x1, .f32⟩
  | 77 => ⟨S2x4096, .f32⟩
  | 78 => ⟨S_, .f32⟩
  | 79 => ⟨S2x4096, .f32⟩
  | 80 => ⟨S2x4096, .f32⟩
  | 81 => ⟨S2x4096, .f32⟩
  | 82 => ⟨S2x4096x1, .f32⟩
  | 83 => ⟨S2x4096, .f32⟩
  | 84 => ⟨S2x4096x1, .f32⟩
  | 85 => ⟨S2x4096, .f32⟩
  | 86 => ⟨S_, .f32⟩
  | 87 => ⟨S2x4096, .f32⟩
  | 88 => ⟨S2x4096, .f32⟩
  | 89 => ⟨S2x4096, .f32⟩
  | 90 => ⟨S2x4096x1, .f32⟩
  | 91 => ⟨S2x4096, .f32⟩
  | 92 => ⟨S2x4096x1, .f32⟩
  | 93 => ⟨S2x4096, .f32⟩
  | 94 => ⟨S_, .f32⟩
  | 95 => ⟨S2x4096, .f32⟩
  | 96 => ⟨S2x4096, .f32⟩
  | 97 => ⟨S2x4096, .f32⟩
  | 98 => ⟨S2x4096x1, .f32⟩
  | 99 => ⟨S2x4096, .f32⟩
  | 100 => ⟨S2x4096x1, .f32⟩
  | 101 => ⟨S2x4096, .f32⟩
  | 102 => ⟨S_, .f32⟩
  | 103 => ⟨S2x4096, .f32⟩
  | 104 => ⟨S2x4096, .f32⟩
  | 105 => ⟨S2x4096, .f32⟩
  | 106 => ⟨S2x4096, .f32⟩
  | 107 => ⟨S2x4096, .f32⟩
  | 108 => ⟨S2x4096, .f32⟩
  | 109 => ⟨S2x4096x1, .f32⟩
  | 110 => ⟨S2x1x4096, .f32⟩
  | 111 => ⟨S2x4096x4096, .f32⟩
  | 112 => ⟨S2x4096x4096, .f32⟩
  | 113 => ⟨S2x4096x4096, .f32⟩
  | 114 => ⟨S2x4096x1, .f32⟩
  | 115 => ⟨S2x1x4096, .f32⟩
  | 116 => ⟨S2x4096x4096, .f32⟩
  | 117 => ⟨S2x4096x4096, .f32⟩
  | 118 => ⟨S2x4096x4096, .f32⟩
  | 119 => ⟨S2x4096x1, .f32⟩
  | 120 => ⟨S2x1x4096, .f32⟩
  | 121 => ⟨S2x4096x4096, .f32⟩
  | 122 => ⟨S2x4096x4096, .f32⟩
  | 123 => ⟨S2x4096x4096, .f32⟩
  | 124 => ⟨S2x4096x1, .f32⟩
  | 125 => ⟨S2x1x4096, .f32⟩
  | 126 => ⟨S2x4096x4096, .f32⟩
  | 127 => ⟨S2x4096x4096, .f32⟩
  | _ => ⟨S2x20000x3, .f32⟩

abbrev hbmTy0_1 (i : Nat) : BufTy := match i % 128 with
  | 0 => ⟨S2x4096x4096, .f32⟩
  | 1 => ⟨S2x4096x4096, .f32⟩
  | 2 => ⟨S_, .f32⟩
  | 3 => ⟨S2x4096x4096, .f32⟩
  | 4 => ⟨S2x4096x4096, .f32⟩
  | 5 => ⟨S2x4096x4096, .f32⟩
  | 6 => ⟨S_, .f32⟩
  | 7 => ⟨S2x4096x4096, .f32⟩
  | 8 => ⟨S2x4096x4096, .f32⟩
  | 9 => ⟨S2x4096x4096, .f32⟩
  | 10 => ⟨S2x4096x1, .f32⟩
  | 11 => ⟨S2x1x4096, .f32⟩
  | 12 => ⟨S2x4096x4096, .f32⟩
  | 13 => ⟨S2x4096x4096, .f32⟩
  | 14 => ⟨S2x4096x4096, .f32⟩
  | 15 => ⟨S2x4096x4096, .f32⟩
  | 16 => ⟨S_, .f32⟩
  | 17 => ⟨S2x4096x4096, .f32⟩
  | 18 => ⟨S2x4096x4096, .f32⟩
  | 19 => ⟨S2x4096x4096, .f32⟩
  | 20 => ⟨S4096, .i32⟩
  | 21 => ⟨S_, .i1⟩
  | 22 => ⟨S2x4096, .i1⟩
  | 23 => ⟨S_, .i32⟩
  | 24 => ⟨S_, .i32⟩
  | 25 => ⟨S2x4096, .i1⟩
  | 26 => ⟨S2x4096x4096, .f32⟩
  | 27 => ⟨S4096, .i32⟩
  | 28 => ⟨S_, .i32⟩
  | 29 => ⟨S_, .i32⟩
  | 30 => ⟨S2x4096, .i1⟩
  | 31 => ⟨S_, .i32⟩
  | 32 => ⟨S_, .i1⟩
  | 33 => ⟨S_, .i32⟩
  | 34 => ⟨S_, .i32⟩
  | 35 => ⟨S_, .i32⟩
  | 36 => ⟨S_, .i1⟩
  | 37 => ⟨S_, .i32⟩
  | 38 => ⟨S_, .i32⟩
  | 39 => ⟨S_, .i32⟩
  | 40 => ⟨S_, .i32⟩
  | 41 => ⟨S_, .i32⟩
  | 42 => ⟨S2x1, .i1⟩
  | 43 => ⟨S_, .i32⟩
  | 44 => ⟨S_, .i1⟩
  | 45 => ⟨S_, .i32⟩
  | 46 => ⟨S_, .i32⟩
  | 47 => ⟨S_, .i32⟩
  | 48 => ⟨S_, .i32⟩
  | 49 => ⟨S_, .i32⟩
  | 50 => ⟨S2x1, .i1⟩
  | 51 => ⟨S_, .i32⟩
  | 52 => ⟨S_, .i1⟩
  | 53 => ⟨S_, .i32⟩
  | 54 => ⟨S_, .i32⟩
  | 55 => ⟨S_, .i32⟩
  | 56 => ⟨S_, .i32⟩
  | 57 => ⟨S_, .i32⟩
  | 58 => ⟨S_, .i32⟩
  | 59 => ⟨S2x1x4096, .f32⟩
  | 60 => ⟨S2x4096, .f32⟩
  | 61 => ⟨S2x1, .i1⟩
  | 62 => ⟨S2x1, .i1⟩
  | 63 => ⟨S_, .f32⟩
  | 64 => ⟨S2x4096, .f32⟩
  | 65 => ⟨S2x4096, .i1⟩
  | 66 => ⟨S2x4096, .i1⟩
  | 67 => ⟨S2x4096, .i1⟩
  | 68 => ⟨S1x4096, .i32⟩
  | 69 => ⟨S_, .i32⟩
  | 70 => ⟨S1x4096, .i32⟩
  | 71 => ⟨S1x4096, .i1⟩
  | 72 => ⟨S2x4096, .i1⟩
  | 73 => ⟨S2x4096, .i1⟩
  | 74 => ⟨S2x4096, .i1⟩
  | 75 => ⟨S_, .i32⟩
  | 76 => ⟨S_, .i32⟩
  | 77 => ⟨S2x4096, .i1⟩
  | 78 => ⟨S2x4096, .i1⟩
  | 79 => ⟨S1x4096, .i32⟩
  | 80 => ⟨S1x4096, .i32⟩
  | 81 => ⟨S_, .i32⟩
  | 82 => ⟨S1x4096, .i32⟩
  | 83 => ⟨S1x4096, .i32⟩
  | 84 => ⟨S2x4096, .i32⟩
  | 85 => ⟨S2x4096, .i32⟩
  | 86 => ⟨S2x4096, .i32⟩
  | 87 => ⟨S2x4096, .i32⟩
  | 88 => ⟨S2x4096, .i32⟩
  | 89 => ⟨S2x4096, .i32⟩
  | 90 => ⟨S2x500, .i32⟩
  | 91 => ⟨S_, .i32⟩
  | 92 => ⟨S2x500, .i32⟩
  | 93 => ⟨S2x500, .i1⟩
  | 94 => ⟨S_, .i32⟩
  | 95 => ⟨S2x500, .i32⟩
  | 96 => ⟨S2x500, .i32⟩
  | 97 => ⟨S2x500, .i32⟩
  | 98 => ⟨S2x500x1, .i32⟩
  | 99 => ⟨S1, .i32⟩
  | 100 => ⟨S_, .i32⟩
  | 101 => ⟨S2x500x1, .i32⟩
  | 102 => ⟨S2x500x1, .i1⟩
  | 103 => ⟨S1x1x1, .i32⟩
  | 104 => ⟨S2x500x1, .i32⟩
  | 105 => ⟨S2x500x1, .i1⟩
  | 106 => ⟨S2x500x1, .i1⟩
  | 107 => ⟨S_, .i1⟩
  | 108 => ⟨S2x500, .i1⟩
  | 109 => ⟨S2x500, .i1⟩
  | 110 => ⟨S_, .i1⟩
  | 111 => ⟨S2x500, .i1⟩
  | 112 => ⟨S2x500, .i1⟩
  | 113 => ⟨S_, .i32⟩
  | 114 => ⟨S2x500, .i32⟩
  | 115 => ⟨S2x500, .i1⟩
  | 116 => ⟨S_, .i32⟩
  | 117 => ⟨S2x500, .i32⟩
  | 118 => ⟨S2x500, .i32⟩
  | 119 => ⟨S2x500, .i32⟩
  | 120 => ⟨S2x500x1, .i32⟩
  | 121 => ⟨S1, .i32⟩
  | 122 => ⟨S_, .i32⟩
  | 123 => ⟨S2x500x1, .i32⟩
  | 124 => ⟨S2x500x1, .i1⟩
  | 125 => ⟨S1x1x1, .i32⟩
  | 126 => ⟨S2x500x1, .i32⟩
  | 127 => ⟨S2x500x1, .i1⟩
  | _ => ⟨S2x20000x3, .f32⟩

abbrev hbmTy0_2 (i : Nat) : BufTy := match i % 128 with
  | 0 => ⟨S2x500x1, .i1⟩
  | 1 => ⟨S_, .i1⟩
  | 2 => ⟨S2x500, .i1⟩
  | 3 => ⟨S2x500, .f32⟩
  | 4 => ⟨S_, .f32⟩
  | 5 => ⟨S2x500, .f32⟩
  | 6 => ⟨S2x500, .f32⟩
  | 7 => ⟨S_, .f32⟩
  | 8 => ⟨S_, .f32⟩
  | 9 => ⟨S2x500, .f32⟩
  | 10 => ⟨S2x500, .f32⟩
  | 11 => ⟨S2x500x1, .i1⟩
  | 12 => ⟨S2x500x1, .i32⟩
  | 13 => ⟨S_, .i32⟩
  | 14 => ⟨S2x500x1, .i32⟩
  | 15 => ⟨S2x500x1, .i1⟩
  | 16 => ⟨S_, .i32⟩
  | 17 => ⟨S2x500x1, .i32⟩
  | 18 => ⟨S2x500x1, .i32⟩
  | 19 => ⟨S2x500x1, .i32⟩
  | 20 => ⟨S1, .i32⟩
  | 21 => ⟨S_, .i32⟩
  | 22 => ⟨S2x500x1, .i32⟩
  | 23 => ⟨S2x500x1, .i1⟩
  | 24 => ⟨S1x1x1, .i32⟩
  | 25 => ⟨S2x500x1, .i32⟩
  | 26 => ⟨S2x500x1, .i1⟩
  | 27 => ⟨S2x500x1, .i1⟩
  | 28 => ⟨S_, .i1⟩
  | 29 => ⟨S2x500, .i1⟩
  | 30 => ⟨S2x500x7, .f32⟩
  | 31 => ⟨S2x500x7, .i1⟩
  | 32 => ⟨S_, .f32⟩
  | 33 => ⟨S2x500x7, .f32⟩
  | 34 => ⟨S2x500x7, .f32⟩
  | 35 => ⟨S_, .f32⟩
  | 36 => ⟨S_, .f32⟩
  | 37 => ⟨S2x500x7, .i1⟩
  | 38 => ⟨S2x500x7, .f32⟩
  | 39 => ⟨S2x500x7, .f32⟩
  | 40 => ⟨S_, .i32⟩
  | 41 => ⟨S2x500, .i32⟩
  | 42 => ⟨S2x500, .i1⟩
  | 43 => ⟨S_, .i32⟩
  | 44 => ⟨S2x500, .i32⟩
  | 45 => ⟨S2x500, .i32⟩
  | 46 => ⟨S2x500, .i32⟩
  | 47 => ⟨S2x500x1, .i32⟩
  | 48 => ⟨S1, .i32⟩
  | 49 => ⟨S_, .i32⟩
  | 50 => ⟨S2x500x1, .i32⟩
  | 51 => ⟨S2x500x1, .i1⟩
  | 52 => ⟨S1x1x1, .i32⟩
  | 53 => ⟨S2x500x1, .i32⟩
  | 54 => ⟨S2x500x1, .i1⟩
  | 55 => ⟨S2x500x1, .i1⟩
  | 56 => ⟨S_, .i1⟩
  | 57 => ⟨S2x500, .i1⟩
  | 58 => ⟨S2x500, .i32⟩
  | 59 => ⟨S_, .i32⟩
  | 60 => ⟨S2x500, .i32⟩
  | 61 => ⟨S2x500, .i32⟩
  | 62 => ⟨S_, .i32⟩
  | 63 => ⟨S_, .i32⟩
  | 64 => ⟨S2x500, .i32⟩
  | 65 => ⟨S2x500, .i32⟩
  | 66 => ⟨S2, .f32⟩
  | 67 => ⟨S2x1, .f32⟩
  | 68 => ⟨S_, .f32⟩
  | 69 => ⟨S_, .f32⟩
  | 70 => ⟨S2x500, .f32⟩
  | 71 => ⟨S2x500, .f32⟩
  | 72 => ⟨S2x500, .f32⟩
  | 73 => ⟨S2x500x1, .f32⟩
  | 74 => ⟨S2x500x1, .f32⟩
  | 75 => ⟨S2x500x9, .f32⟩
  | _ => ⟨S2x20000x3, .f32⟩

abbrev hbmTy (i : Nat) : BufTy := match i / 128 with
  | 0 => hbmTy0_0 i
  | 1 => hbmTy0_1 i
  | 2 => hbmTy0_2 i
  | _ => ⟨S2x20000x3, .f32⟩

abbrev bufTy : (tb : Table) → Fin (tcTables nBuf tb) → BufTy
  | .hbm, ⟨i, _⟩ => hbmTy i
  | _, _ => ⟨S2x20000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_call0_v0 : Ref sig .tc := ⟨.hbm, 12, rfl⟩
abbrev main_call0_cst : Ref sig .tc := ⟨.hbm, 13, rfl⟩
abbrev main_call0_c : Ref sig .tc := ⟨.hbm, 14, rfl⟩
abbrev main_call0_v1_0 : Ref sig .tc := ⟨.hbm, 15, rfl⟩
abbrev main_v7 : Ref sig .tc := ⟨.hbm, 16, rfl⟩
abbrev main_cst_2 : Ref sig .tc := ⟨.hbm, 17, rfl⟩
abbrev main_v8 : Ref sig .tc := ⟨.hbm, 18, rfl⟩
abbrev main_v9 : Ref sig .tc := ⟨.hbm, 19, rfl⟩
abbrev main_cst_3 : Ref sig .tc := ⟨.hbm, 20, rfl⟩
abbrev main_call1_v0 : Ref sig .tc := ⟨.hbm, 21, rfl⟩
abbrev main_call1_v1 : Ref sig .tc := ⟨.hbm, 22, rfl⟩
abbrev main_v10 : Ref sig .tc := ⟨.hbm, 23, rfl⟩
abbrev main_values : Ref sig .tc := ⟨.hbm, 24, rfl⟩
abbrev main_indices : Ref sig .tc := ⟨.hbm, 25, rfl⟩
abbrev main_v11 : Ref sig .tc := ⟨.hbm, 26, rfl⟩
abbrev main_call2_c : Ref sig .tc := ⟨.hbm, 27, rfl⟩
abbrev main_call2_v0 : Ref sig .tc := ⟨.hbm, 28, rfl⟩
abbrev main_call2_v1 : Ref sig .tc := ⟨.hbm, 29, rfl⟩
abbrev main_call2_c_0 : Ref sig .tc := ⟨.hbm, 30, rfl⟩
abbrev main_call2_v2 : Ref sig .tc := ⟨.hbm, 31, rfl⟩
abbrev main_call2_v3 : Ref sig .tc := ⟨.hbm, 32, rfl⟩
abbrev main_call2_v4 : Ref sig .tc := ⟨.hbm, 33, rfl⟩
abbrev main_call2_c_1 : Ref sig .tc := ⟨.hbm, 34, rfl⟩
abbrev main_call2_c_2 : Ref sig .tc := ⟨.hbm, 35, rfl⟩
abbrev main_call2_v5 : Ref sig .tc := ⟨.hbm, 36, rfl⟩
abbrev main_call2_v6 : Ref sig .tc := ⟨.hbm, 37, rfl⟩
abbrev main_call2_v7 : Ref sig .tc := ⟨.hbm, 38, rfl⟩
abbrev main_call2_v8 : Ref sig .tc := ⟨.hbm, 39, rfl⟩
abbrev main_call2_v9 : Ref sig .tc := ⟨.hbm, 40, rfl⟩
abbrev main_call2_v10 : Ref sig .tc := ⟨.hbm, 41, rfl⟩
abbrev main_call2_c_3 : Ref sig .tc := ⟨.hbm, 42, rfl⟩
abbrev main_call2_v11 : Ref sig .tc := ⟨.hbm, 43, rfl⟩
abbrev main_call2_v12 : Ref sig .tc := ⟨.hbm, 44, rfl⟩
abbrev main_call2_v13 : Ref sig .tc := ⟨.hbm, 45, rfl⟩
abbrev main_call2_cst : Ref sig .tc := ⟨.hbm, 46, rfl⟩
abbrev main_call2_v14 : Ref sig .tc := ⟨.hbm, 47, rfl⟩
abbrev main_v12 : Ref sig .tc := ⟨.hbm, 48, rfl⟩
abbrev main_call3_c : Ref sig .tc := ⟨.hbm, 49, rfl⟩
abbrev main_call3_v0 : Ref sig .tc := ⟨.hbm, 50, rfl⟩
abbrev main_call3_v1 : Ref sig .tc := ⟨.hbm, 51, rfl⟩
abbrev main_call3_c_0 : Ref sig .tc := ⟨.hbm, 52, rfl⟩
abbrev main_call3_v2 : Ref sig .tc := ⟨.hbm, 53, rfl⟩
abbrev main_call3_v3 : Ref sig .tc := ⟨.hbm, 54, rfl⟩
abbrev main_call3_v4 : Ref sig .tc := ⟨.hbm, 55, rfl⟩
abbrev main_call3_v5 : Ref sig .tc := ⟨.hbm, 56, rfl⟩
abbrev main_call3_c_1 : Ref sig .tc := ⟨.hbm, 57, rfl⟩
abbrev main_call3_c_2 : Ref sig .tc := ⟨.hbm, 58, rfl⟩
abbrev main_call3_v6 : Ref sig .tc := ⟨.hbm, 59, rfl⟩
abbrev main_call3_v7 : Ref sig .tc := ⟨.hbm, 60, rfl⟩
abbrev main_call3_v8 : Ref sig .tc := ⟨.hbm, 61, rfl⟩
abbrev main_call3_v9 : Ref sig .tc := ⟨.hbm, 62, rfl⟩
abbrev main_call3_v10 : Ref sig .tc := ⟨.hbm, 63, rfl⟩
abbrev main_call3_v11 : Ref sig .tc := ⟨.hbm, 64, rfl⟩
abbrev main_call3_c_3 : Ref sig .tc := ⟨.hbm, 65, rfl⟩
abbrev main_call3_v12 : Ref sig .tc := ⟨.hbm, 66, rfl⟩
abbrev main_call3_v13 : Ref sig .tc := ⟨.hbm, 67, rfl⟩
abbrev main_call3_c_4 : Ref sig .tc := ⟨.hbm, 68, rfl⟩
abbrev main_call3_v14 : Ref sig .tc := ⟨.hbm, 69, rfl⟩
abbrev main_v13 : Ref sig .tc := ⟨.hbm, 70, rfl⟩
abbrev main_cst_4 : Ref sig .tc := ⟨.hbm, 71, rfl⟩
abbrev main_v14 : Ref sig .tc := ⟨.hbm, 72, rfl⟩
abbrev main_v15 : Ref sig .tc := ⟨.hbm, 73, rfl⟩
abbrev main_v16 : Ref sig .tc := ⟨.hbm, 74, rfl⟩
abbrev main_v17 : Ref sig .tc := ⟨.hbm, 75, rfl⟩
abbrev main_v18 : Ref sig .tc := ⟨.hbm, 76, rfl⟩
abbrev main_v19 : Ref sig .tc := ⟨.hbm, 77, rfl⟩
abbrev main_cst_5 : Ref sig .tc := ⟨.hbm, 78, rfl⟩
abbrev main_v20 : Ref sig .tc := ⟨.hbm, 79, rfl⟩
abbrev main_v21 : Ref sig .tc := ⟨.hbm, 80, rfl⟩
abbrev main_v22 : Ref sig .tc := ⟨.hbm, 81, rfl⟩
abbrev main_v23 : Ref sig .tc := ⟨.hbm, 82, rfl⟩
abbrev main_v24 : Ref sig .tc := ⟨.hbm, 83, rfl⟩
abbrev main_v25 : Ref sig .tc := ⟨.hbm, 84, rfl⟩
abbrev main_v26 : Ref sig .tc := ⟨.hbm, 85, rfl⟩
abbrev main_cst_6 : Ref sig .tc := ⟨.hbm, 86, rfl⟩
abbrev main_v27 : Ref sig .tc := ⟨.hbm, 87, rfl⟩
abbrev main_v28 : Ref sig .tc := ⟨.hbm, 88, rfl⟩
abbrev main_v29 : Ref sig .tc := ⟨.hbm, 89, rfl⟩
abbrev main_v30 : Ref sig .tc := ⟨.hbm, 90, rfl⟩
abbrev main_v31 : Ref sig .tc := ⟨.hbm, 91, rfl⟩
abbrev main_v32 : Ref sig .tc := ⟨.hbm, 92, rfl⟩
abbrev main_v33 : Ref sig .tc := ⟨.hbm, 93, rfl⟩
abbrev main_cst_7 : Ref sig .tc := ⟨.hbm, 94, rfl⟩
abbrev main_v34 : Ref sig .tc := ⟨.hbm, 95, rfl⟩
abbrev main_v35 : Ref sig .tc := ⟨.hbm, 96, rfl⟩
abbrev main_v36 : Ref sig .tc := ⟨.hbm, 97, rfl⟩
abbrev main_v37 : Ref sig .tc := ⟨.hbm, 98, rfl⟩
abbrev main_v38 : Ref sig .tc := ⟨.hbm, 99, rfl⟩
abbrev main_v39 : Ref sig .tc := ⟨.hbm, 100, rfl⟩
abbrev main_v40 : Ref sig .tc := ⟨.hbm, 101, rfl⟩
abbrev main_cst_8 : Ref sig .tc := ⟨.hbm, 102, rfl⟩
abbrev main_v41 : Ref sig .tc := ⟨.hbm, 103, rfl⟩
abbrev main_v42 : Ref sig .tc := ⟨.hbm, 104, rfl⟩
abbrev main_v43 : Ref sig .tc := ⟨.hbm, 105, rfl⟩
abbrev main_v44 : Ref sig .tc := ⟨.hbm, 106, rfl⟩
abbrev main_v45 : Ref sig .tc := ⟨.hbm, 107, rfl⟩
abbrev main_v46 : Ref sig .tc := ⟨.hbm, 108, rfl⟩
abbrev main_v47 : Ref sig .tc := ⟨.hbm, 109, rfl⟩
abbrev main_v48 : Ref sig .tc := ⟨.hbm, 110, rfl⟩
abbrev main_v49 : Ref sig .tc := ⟨.hbm, 111, rfl⟩
abbrev main_v50 : Ref sig .tc := ⟨.hbm, 112, rfl⟩
abbrev main_v51 : Ref sig .tc := ⟨.hbm, 113, rfl⟩
abbrev main_v52 : Ref sig .tc := ⟨.hbm, 114, rfl⟩
abbrev main_v53 : Ref sig .tc := ⟨.hbm, 115, rfl⟩
abbrev main_v54 : Ref sig .tc := ⟨.hbm, 116, rfl⟩
abbrev main_v55 : Ref sig .tc := ⟨.hbm, 117, rfl⟩
abbrev main_v56 : Ref sig .tc := ⟨.hbm, 118, rfl⟩
abbrev main_v57 : Ref sig .tc := ⟨.hbm, 119, rfl⟩
abbrev main_v58 : Ref sig .tc := ⟨.hbm, 120, rfl⟩
abbrev main_v59 : Ref sig .tc := ⟨.hbm, 121, rfl⟩
abbrev main_v60 : Ref sig .tc := ⟨.hbm, 122, rfl⟩
abbrev main_v61 : Ref sig .tc := ⟨.hbm, 123, rfl⟩
abbrev main_v62 : Ref sig .tc := ⟨.hbm, 124, rfl⟩
abbrev main_v63 : Ref sig .tc := ⟨.hbm, 125, rfl⟩
abbrev main_v64 : Ref sig .tc := ⟨.hbm, 126, rfl⟩
abbrev main_v65 : Ref sig .tc := ⟨.hbm, 127, rfl⟩
abbrev main_v66 : Ref sig .tc := ⟨.hbm, 128, rfl⟩
abbrev main_v67 : Ref sig .tc := ⟨.hbm, 129, rfl⟩
abbrev main_cst_9 : Ref sig .tc := ⟨.hbm, 130, rfl⟩
abbrev main_v68 : Ref sig .tc := ⟨.hbm, 131, rfl⟩
abbrev main_v69 : Ref sig .tc := ⟨.hbm, 132, rfl⟩
abbrev main_v70 : Ref sig .tc := ⟨.hbm, 133, rfl⟩
abbrev main_cst_10 : Ref sig .tc := ⟨.hbm, 134, rfl⟩
abbrev main_v71 : Ref sig .tc := ⟨.hbm, 135, rfl⟩
abbrev main_v72 : Ref sig .tc := ⟨.hbm, 136, rfl⟩
abbrev main_v73 : Ref sig .tc := ⟨.hbm, 137, rfl⟩
abbrev main_v74 : Ref sig .tc := ⟨.hbm, 138, rfl⟩
abbrev main_v75 : Ref sig .tc := ⟨.hbm, 139, rfl⟩
abbrev main_v76 : Ref sig .tc := ⟨.hbm, 140, rfl⟩
abbrev main_v77 : Ref sig .tc := ⟨.hbm, 141, rfl⟩
abbrev main_v78 : Ref sig .tc := ⟨.hbm, 142, rfl⟩
abbrev main_v79 : Ref sig .tc := ⟨.hbm, 143, rfl⟩
abbrev main_cst_11 : Ref sig .tc := ⟨.hbm, 144, rfl⟩
abbrev main_v80 : Ref sig .tc := ⟨.hbm, 145, rfl⟩
abbrev main_v81 : Ref sig .tc := ⟨.hbm, 146, rfl⟩
abbrev main_v82 : Ref sig .tc := ⟨.hbm, 147, rfl⟩
abbrev main_v83 : Ref sig .tc := ⟨.hbm, 148, rfl⟩
abbrev main_c : Ref sig .tc := ⟨.hbm, 149, rfl⟩
abbrev main_v84 : Ref sig .tc := ⟨.hbm, 150, rfl⟩
abbrev main_c_12 : Ref sig .tc := ⟨.hbm, 151, rfl⟩
abbrev main_c_13 : Ref sig .tc := ⟨.hbm, 152, rfl⟩
abbrev main_v85_0 : Ref sig .tc := ⟨.hbm, 153, rfl⟩
abbrev main_v85_1 : Ref sig .tc := ⟨.hbm, 154, rfl⟩
abbrev main_v85_2 : Ref sig .tc := ⟨.hbm, 155, rfl⟩
abbrev main_v85_3 : Ref sig .tc := ⟨.hbm, 156, rfl⟩
abbrev main_v85_4 : Ref sig .tc := ⟨.hbm, 157, rfl⟩
abbrev main_v85_5 : Ref sig .tc := ⟨.hbm, 158, rfl⟩
abbrev main_while0c_c_24 : Ref sig .tc := ⟨.hbm, 159, rfl⟩
abbrev main_while0c_v110 : Ref sig .tc := ⟨.hbm, 160, rfl⟩
abbrev main_while0b_c_24 : Ref sig .tc := ⟨.hbm, 161, rfl⟩
abbrev main_while0b_v110 : Ref sig .tc := ⟨.hbm, 162, rfl⟩
abbrev main_while0b_c_25 : Ref sig .tc := ⟨.hbm, 163, rfl⟩
abbrev main_while0b_v111 : Ref sig .tc := ⟨.hbm, 164, rfl⟩
abbrev main_while0b_v112 : Ref sig .tc := ⟨.hbm, 165, rfl⟩
abbrev main_while0b_c_26 : Ref sig .tc := ⟨.hbm, 166, rfl⟩
abbrev main_while0b_v113 : Ref sig .tc := ⟨.hbm, 167, rfl⟩
abbrev main_while0b_v114 : Ref sig .tc := ⟨.hbm, 168, rfl⟩
abbrev main_while0b_c_27 : Ref sig .tc := ⟨.hbm, 169, rfl⟩
abbrev main_while0b_v115 : Ref sig .tc := ⟨.hbm, 170, rfl⟩
abbrev main_while0b_c_28 : Ref sig .tc := ⟨.hbm, 171, rfl⟩
abbrev main_while0b_v116 : Ref sig .tc := ⟨.hbm, 172, rfl⟩
abbrev main_while0b_v117 : Ref sig .tc := ⟨.hbm, 173, rfl⟩
abbrev main_while0b_c_29 : Ref sig .tc := ⟨.hbm, 174, rfl⟩
abbrev main_while0b_v118 : Ref sig .tc := ⟨.hbm, 175, rfl⟩
abbrev main_while0b_v119 : Ref sig .tc := ⟨.hbm, 176, rfl⟩
abbrev main_while0b_c_30 : Ref sig .tc := ⟨.hbm, 177, rfl⟩
abbrev main_while0b_v120 : Ref sig .tc := ⟨.hbm, 178, rfl⟩
abbrev main_while0b_c_31 : Ref sig .tc := ⟨.hbm, 179, rfl⟩
abbrev main_while0b_v121 : Ref sig .tc := ⟨.hbm, 180, rfl⟩
abbrev main_while0b_v122 : Ref sig .tc := ⟨.hbm, 181, rfl⟩
abbrev main_while0b_c_32 : Ref sig .tc := ⟨.hbm, 182, rfl⟩
abbrev main_while0b_v123 : Ref sig .tc := ⟨.hbm, 183, rfl⟩
abbrev main_while0b_v124 : Ref sig .tc := ⟨.hbm, 184, rfl⟩
abbrev main_while0b_c_33 : Ref sig .tc := ⟨.hbm, 185, rfl⟩
abbrev main_while0b_c_34 : Ref sig .tc := ⟨.hbm, 186, rfl⟩
abbrev main_while0b_v125 : Ref sig .tc := ⟨.hbm, 187, rfl⟩
abbrev main_while0b_v126 : Ref sig .tc := ⟨.hbm, 188, rfl⟩
abbrev main_while0b_v127 : Ref sig .tc := ⟨.hbm, 189, rfl⟩
abbrev main_while0b_v128 : Ref sig .tc := ⟨.hbm, 190, rfl⟩
abbrev main_while0b_cst_35 : Ref sig .tc := ⟨.hbm, 191, rfl⟩
abbrev main_while0b_v129 : Ref sig .tc := ⟨.hbm, 192, rfl⟩
abbrev main_while0b_v130 : Ref sig .tc := ⟨.hbm, 193, rfl⟩
abbrev main_while0b_v131 : Ref sig .tc := ⟨.hbm, 194, rfl⟩
abbrev main_while0b_v132 : Ref sig .tc := ⟨.hbm, 195, rfl⟩
abbrev main_while0b_v133 : Ref sig .tc := ⟨.hbm, 196, rfl⟩
abbrev main_while0b_v134 : Ref sig .tc := ⟨.hbm, 197, rfl⟩
abbrev main_while0b_v135 : Ref sig .tc := ⟨.hbm, 198, rfl⟩
abbrev main_while0b_v136 : Ref sig .tc := ⟨.hbm, 199, rfl⟩
abbrev main_while0b_v137 : Ref sig .tc := ⟨.hbm, 200, rfl⟩
abbrev main_while0b_v138 : Ref sig .tc := ⟨.hbm, 201, rfl⟩
abbrev main_while0b_v139 : Ref sig .tc := ⟨.hbm, 202, rfl⟩
abbrev main_while0b_c_36 : Ref sig .tc := ⟨.hbm, 203, rfl⟩
abbrev main_while0b_v140 : Ref sig .tc := ⟨.hbm, 204, rfl⟩
abbrev main_v86 : Ref sig .tc := ⟨.hbm, 205, rfl⟩
abbrev main_v87 : Ref sig .tc := ⟨.hbm, 206, rfl⟩
abbrev main_v88 : Ref sig .tc := ⟨.hbm, 207, rfl⟩
abbrev main_v89 : Ref sig .tc := ⟨.hbm, 208, rfl⟩
abbrev main_c_14 : Ref sig .tc := ⟨.hbm, 209, rfl⟩
abbrev main_v90 : Ref sig .tc := ⟨.hbm, 210, rfl⟩
abbrev main_v91 : Ref sig .tc := ⟨.hbm, 211, rfl⟩
abbrev main_call4_v0 : Ref sig .tc := ⟨.hbm, 212, rfl⟩
abbrev main_call4_v1 : Ref sig .tc := ⟨.hbm, 213, rfl⟩
abbrev main_v92 : Ref sig .tc := ⟨.hbm, 214, rfl⟩
abbrev main_call5_v0 : Ref sig .tc := ⟨.hbm, 215, rfl⟩
abbrev main_call5_v1_0 : Ref sig .tc := ⟨.hbm, 216, rfl⟩
abbrev main_v93 : Ref sig .tc := ⟨.hbm, 217, rfl⟩
abbrev main_v94 : Ref sig .tc := ⟨.hbm, 218, rfl⟩
abbrev main_call6_c : Ref sig .tc := ⟨.hbm, 219, rfl⟩
abbrev main_call6_v0 : Ref sig .tc := ⟨.hbm, 220, rfl⟩
abbrev main_call6_v1 : Ref sig .tc := ⟨.hbm, 221, rfl⟩
abbrev main_call6_c_0 : Ref sig .tc := ⟨.hbm, 222, rfl⟩
abbrev main_call6_v2 : Ref sig .tc := ⟨.hbm, 223, rfl⟩
abbrev main_call6_v3 : Ref sig .tc := ⟨.hbm, 224, rfl⟩
abbrev main_call6_v4 : Ref sig .tc := ⟨.hbm, 225, rfl⟩
abbrev main_call6_v5 : Ref sig .tc := ⟨.hbm, 226, rfl⟩
abbrev main_call6_c_1 : Ref sig .tc := ⟨.hbm, 227, rfl⟩
abbrev main_call6_c_2 : Ref sig .tc := ⟨.hbm, 228, rfl⟩
abbrev main_call6_v6 : Ref sig .tc := ⟨.hbm, 229, rfl⟩
abbrev main_call6_v7 : Ref sig .tc := ⟨.hbm, 230, rfl⟩
abbrev main_call6_v8 : Ref sig .tc := ⟨.hbm, 231, rfl⟩
abbrev main_call6_v9 : Ref sig .tc := ⟨.hbm, 232, rfl⟩
abbrev main_call6_v10 : Ref sig .tc := ⟨.hbm, 233, rfl⟩
abbrev main_call6_v11 : Ref sig .tc := ⟨.hbm, 234, rfl⟩
abbrev main_call6_c_3 : Ref sig .tc := ⟨.hbm, 235, rfl⟩
abbrev main_call6_v12 : Ref sig .tc := ⟨.hbm, 236, rfl⟩
abbrev main_call6_v13 : Ref sig .tc := ⟨.hbm, 237, rfl⟩
abbrev main_call6_c_4 : Ref sig .tc := ⟨.hbm, 238, rfl⟩
abbrev main_call6_v14 : Ref sig .tc := ⟨.hbm, 239, rfl⟩
abbrev main_v95 : Ref sig .tc := ⟨.hbm, 240, rfl⟩
abbrev main_call7_c : Ref sig .tc := ⟨.hbm, 241, rfl⟩
abbrev main_call7_v0 : Ref sig .tc := ⟨.hbm, 242, rfl⟩
abbrev main_call7_v1 : Ref sig .tc := ⟨.hbm, 243, rfl⟩
abbrev main_call7_c_0 : Ref sig .tc := ⟨.hbm, 244, rfl⟩
abbrev main_call7_v2 : Ref sig .tc := ⟨.hbm, 245, rfl⟩
abbrev main_call7_v3 : Ref sig .tc := ⟨.hbm, 246, rfl⟩
abbrev main_call7_v4 : Ref sig .tc := ⟨.hbm, 247, rfl⟩
abbrev main_call7_v5 : Ref sig .tc := ⟨.hbm, 248, rfl⟩
abbrev main_call7_c_1 : Ref sig .tc := ⟨.hbm, 249, rfl⟩
abbrev main_call7_c_2 : Ref sig .tc := ⟨.hbm, 250, rfl⟩
abbrev main_call7_v6 : Ref sig .tc := ⟨.hbm, 251, rfl⟩
abbrev main_call7_v7 : Ref sig .tc := ⟨.hbm, 252, rfl⟩
abbrev main_call7_v8 : Ref sig .tc := ⟨.hbm, 253, rfl⟩
abbrev main_call7_v9 : Ref sig .tc := ⟨.hbm, 254, rfl⟩
abbrev main_call7_v10 : Ref sig .tc := ⟨.hbm, 255, rfl⟩
abbrev main_call7_v11 : Ref sig .tc := ⟨.hbm, 256, rfl⟩
abbrev main_call7_c_3 : Ref sig .tc := ⟨.hbm, 257, rfl⟩
abbrev main_call7_v12 : Ref sig .tc := ⟨.hbm, 258, rfl⟩
abbrev main_call7_v13 : Ref sig .tc := ⟨.hbm, 259, rfl⟩
abbrev main_call7_cst : Ref sig .tc := ⟨.hbm, 260, rfl⟩
abbrev main_call7_v14 : Ref sig .tc := ⟨.hbm, 261, rfl⟩
abbrev main_v96 : Ref sig .tc := ⟨.hbm, 262, rfl⟩
abbrev main_cst_15 : Ref sig .tc := ⟨.hbm, 263, rfl⟩
abbrev main_call8_v0 : Ref sig .tc := ⟨.hbm, 264, rfl⟩
abbrev main_call8_v1 : Ref sig .tc := ⟨.hbm, 265, rfl⟩
abbrev main_v97 : Ref sig .tc := ⟨.hbm, 266, rfl⟩
abbrev main_v98 : Ref sig .tc := ⟨.hbm, 267, rfl⟩
abbrev main_v99 : Ref sig .tc := ⟨.hbm, 268, rfl⟩
abbrev main_call9_c : Ref sig .tc := ⟨.hbm, 269, rfl⟩
abbrev main_call9_v0 : Ref sig .tc := ⟨.hbm, 270, rfl⟩
abbrev main_call9_v1 : Ref sig .tc := ⟨.hbm, 271, rfl⟩
abbrev main_call9_c_0 : Ref sig .tc := ⟨.hbm, 272, rfl⟩
abbrev main_call9_v2 : Ref sig .tc := ⟨.hbm, 273, rfl⟩
abbrev main_call9_v3 : Ref sig .tc := ⟨.hbm, 274, rfl⟩
abbrev main_call9_v4 : Ref sig .tc := ⟨.hbm, 275, rfl⟩
abbrev main_call9_c_1 : Ref sig .tc := ⟨.hbm, 276, rfl⟩
abbrev main_call9_c_2 : Ref sig .tc := ⟨.hbm, 277, rfl⟩
abbrev main_call9_v5 : Ref sig .tc := ⟨.hbm, 278, rfl⟩
abbrev main_call9_v6 : Ref sig .tc := ⟨.hbm, 279, rfl⟩
abbrev main_call9_v7 : Ref sig .tc := ⟨.hbm, 280, rfl⟩
abbrev main_call9_v8 : Ref sig .tc := ⟨.hbm, 281, rfl⟩
abbrev main_call9_v9 : Ref sig .tc := ⟨.hbm, 282, rfl⟩
abbrev main_call9_v10 : Ref sig .tc := ⟨.hbm, 283, rfl⟩
abbrev main_call9_c_3 : Ref sig .tc := ⟨.hbm, 284, rfl⟩
abbrev main_call9_v11 : Ref sig .tc := ⟨.hbm, 285, rfl⟩
abbrev main_call9_v12 : Ref sig .tc := ⟨.hbm, 286, rfl⟩
abbrev main_call9_v13 : Ref sig .tc := ⟨.hbm, 287, rfl⟩
abbrev main_call9_cst : Ref sig .tc := ⟨.hbm, 288, rfl⟩
abbrev main_call9_v14 : Ref sig .tc := ⟨.hbm, 289, rfl⟩
abbrev main_v100 : Ref sig .tc := ⟨.hbm, 290, rfl⟩
abbrev main_cst_16 : Ref sig .tc := ⟨.hbm, 291, rfl⟩
abbrev main_call10_v0 : Ref sig .tc := ⟨.hbm, 292, rfl⟩
abbrev main_call10_v1 : Ref sig .tc := ⟨.hbm, 293, rfl⟩
abbrev main_call10_v2 : Ref sig .tc := ⟨.hbm, 294, rfl⟩
abbrev main_v101 : Ref sig .tc := ⟨.hbm, 295, rfl⟩
abbrev main_call11_c : Ref sig .tc := ⟨.hbm, 296, rfl⟩
abbrev main_call11_v0 : Ref sig .tc := ⟨.hbm, 297, rfl⟩
abbrev main_call11_v1 : Ref sig .tc := ⟨.hbm, 298, rfl⟩
abbrev main_call11_c_0 : Ref sig .tc := ⟨.hbm, 299, rfl⟩
abbrev main_call11_v2 : Ref sig .tc := ⟨.hbm, 300, rfl⟩
abbrev main_call11_v3 : Ref sig .tc := ⟨.hbm, 301, rfl⟩
abbrev main_call11_v4 : Ref sig .tc := ⟨.hbm, 302, rfl⟩
abbrev main_call11_v5 : Ref sig .tc := ⟨.hbm, 303, rfl⟩
abbrev main_call11_c_1 : Ref sig .tc := ⟨.hbm, 304, rfl⟩
abbrev main_call11_c_2 : Ref sig .tc := ⟨.hbm, 305, rfl⟩
abbrev main_call11_v6 : Ref sig .tc := ⟨.hbm, 306, rfl⟩
abbrev main_call11_v7 : Ref sig .tc := ⟨.hbm, 307, rfl⟩
abbrev main_call11_v8 : Ref sig .tc := ⟨.hbm, 308, rfl⟩
abbrev main_call11_v9 : Ref sig .tc := ⟨.hbm, 309, rfl⟩
abbrev main_call11_v10 : Ref sig .tc := ⟨.hbm, 310, rfl⟩
abbrev main_call11_v11 : Ref sig .tc := ⟨.hbm, 311, rfl⟩
abbrev main_call11_c_3 : Ref sig .tc := ⟨.hbm, 312, rfl⟩
abbrev main_call11_v12 : Ref sig .tc := ⟨.hbm, 313, rfl⟩
abbrev main_call11_v13 : Ref sig .tc := ⟨.hbm, 314, rfl⟩
abbrev main_call11_c_4 : Ref sig .tc := ⟨.hbm, 315, rfl⟩
abbrev main_call11_v14 : Ref sig .tc := ⟨.hbm, 316, rfl⟩
abbrev main_v102 : Ref sig .tc := ⟨.hbm, 317, rfl⟩
abbrev main_c_17 : Ref sig .tc := ⟨.hbm, 318, rfl⟩
abbrev main_call12_v0 : Ref sig .tc := ⟨.hbm, 319, rfl⟩
abbrev main_call12_v1 : Ref sig .tc := ⟨.hbm, 320, rfl⟩
abbrev main_v103 : Ref sig .tc := ⟨.hbm, 321, rfl⟩
abbrev main_v104 : Ref sig .tc := ⟨.hbm, 322, rfl⟩
abbrev main_v105 : Ref sig .tc := ⟨.hbm, 323, rfl⟩
abbrev main_cst_18 : Ref sig .tc := ⟨.hbm, 324, rfl⟩
abbrev main_call13_v0 : Ref sig .tc := ⟨.hbm, 325, rfl⟩
abbrev main_call13_v1 : Ref sig .tc := ⟨.hbm, 326, rfl⟩
abbrev main_call13_v2 : Ref sig .tc := ⟨.hbm, 327, rfl⟩
abbrev main_v106 : Ref sig .tc := ⟨.hbm, 328, rfl⟩
abbrev main_v107 : Ref sig .tc := ⟨.hbm, 329, rfl⟩
abbrev main_v108 : Ref sig .tc := ⟨.hbm, 330, rfl⟩
abbrev main_v109 : Ref sig .tc := ⟨.hbm, 331, rfl⟩

abbrev nD : Nat := 1
abbrev τ : Topo := Topo.v7x

variable {F : FTy → Type} [FloatOps F]

abbrev main_while0_count : Scf.Loop 32 := ⟨0#32, 4096#32, 1#32⟩
-- ==== Proof.IHost.lean ====
module

public import proofs.«01_k».proof.Proof.Gen.KernelIdeal.Frame
public import Idealize.ShloMosaic.Lib.StableHlo.RunRead
public import Idealize.ShloMosaic.PureOps.Reduce

@[expose] public section

set_option maxRecDepth 16384

noncomputable section

namespace Cert.KernelIdeal.Nms

open Cert.KernelIdeal Cert.KernelIdeal.Gen
open Idealize.ShloMosaic Idealize.ShloMosaic.TcCoe Idealize.ShloMosaic.Tactic

variable {F : FTy → Type} [FloatOps F]
variable (m : (ℓ : Loc nD τ sig) → Buf (Elt F) ℓ)

/-! ## The host operations before the kernel, line by line -/

abbrev U0 (c : Dev nD) : Valuation τ sig (Elt F) := StableHlo.after hostOps0 (fun b => m (c, b))
abbrev U1 (c : Dev nD) : Valuation τ sig (Elt F) := StableHlo.after hostOps0_1 (U0 m c)
abbrev U2 (c : Dev nD) : Valuation τ sig (Elt F) := StableHlo.after hostOps0_2 (U1 m c)
abbrev U3 (c : Dev nD) : Valuation τ sig (Elt F) := StableHlo.after hostOps0_3 (U2 m c)
abbrev U4 (c : Dev nD) : Valuation τ sig (Elt F) := StableHlo.after hostOps0_4 (U3 m c)
abbrev U5 (c : Dev nD) : Valuation τ sig (Elt F) := StableHlo.after hostOps0_5 (U4 m c)
abbrev U6 (c : Dev nD) : Valuation τ sig (Elt F) := StableHlo.after hostOps0_6 (U5 m c)

theorem V0_eq (c : Dev nD) : V0 m c = StableHlo.after hostOps0_7 (U6 m c) := by
  show StableHlo.after (hostOps0 ++ (hostOps0_1 ++ (hostOps0_2 ++ (hostOps0_3 ++ (hostOps0_4 ++ (hostOps0_5 ++ (hostOps0_6 ++ (hostOps0_7 ++ [])))))))) _ = _
  rw [StableHlo.after_append, StableHlo.after_append, StableHlo.after_append, StableHlo.after_append, StableHlo.after_append,
    StableHlo.after_append, StableHlo.after_append, List.append_nil]

section Line7
variable (W : Valuation τ sig (Elt F))

/-- The valid rows' words, counted. -/
theorem line7_v18 : StableHlo.after hostOps0_7 W (Proc.devRef .tc main_v18)
    = Host.reduce IntOp.addi (extui 32 (cmpf .oge (W (Proc.devRef .tc main_values) : FVec F S2x4096 .f32)
        (broadcastInDim S2x4096 ![] bcast_S_S2x4096 (constant S_ .f32 0x3DCCCCCD#32))) natLt_1_32)
        (constantI S_ 32 0#32) reducesTo_S2x4096_S2_d1 h_S_ := by
  unfold hostOps0_7
  after_reads_simp

end Line7

/-! ## The number of valid rows is at most 4096 -/

/-- Words of value at most one, added over a finite set, add up to at most its size. -/
theorem fold_le {ι : Type} [DecidableEq ι] (s : Finset ι) (x : ι → BitVec 32) (hx : ∀ i, (x i).toNat ≤ 1) :
    (s.fold IntOp.addi 0#32 x).toNat ≤ s.card := by
  induction s using Finset.induction_on with
  | empty => simp
  | insert a s ha ih =>
    rw [Finset.fold_insert ha, Finset.card_insert_of_notMem ha]
    have : (IntOp.addi (x a) (s.fold IntOp.addi 0#32 x)).toNat ≤ (x a).toNat + (s.fold IntOp.addi 0#32 x).toNat := by
      simp only [IntOp.addi, BitVec.toNat_add]; exact Nat.mod_le _ _
    have := hx a
    omega

theorem ext_le (b : BitVec 1) : (b.setWidth 32).toNat ≤ 1 := by revert b; decide

theorem v18_le (c : Dev nD) (j : S2.Idx) : ((V m c main_v18 : IVec S2 32) j).toNat ≤ 4096 := by
  show ((V0 m c (Proc.devRef .tc main_v18) : IVec S2 32) j).toNat ≤ 4096
  rw [V0_eq, line7_v18, Host.reduce_eq_fold]
  refine le_trans (fold_le _ _ fun i => ?_) ?_
  · exact ext_le _
  · refine le_trans (Finset.card_le_card_of_injOn (fun i : S2x4096.Idx => i 1) (t := (Finset.univ : Finset (Fin 4096))) (fun _ _ => Finset.mem_univ _) ?_) (by simp)
    intro a ha b hb hab
    simp only [Finset.coe_filter, Finset.mem_univ, true_and, Set.mem_setOf_eq] at ha hb
    have h0 : a 0 = b 0 := by
      have := congrFun (ha.trans hb.symm) 0
      exact this
    funext k; fin_cases k
    · exact h0
    · exact hab

end Cert.KernelIdeal.Nms
end
-- ==== Proof.IBody.lean ====
/-
  The kernel body: one trip of the suppression loop, the loop's invariant, and the whole body at symbolic operands.
-/
module

public import proofs.«01_k».proof.Proof.Gen.KernelIdeal.Loops
public import Idealize.ShloMosaic.Lib.Tactic
public import Idealize.ShloMosaic.Lib.LoopRemainder
public import Idealize.ShloMosaic.Lib.VecWindow
public import Idealize.ShloMosaic.Lib.Affine
public import Idealize.ShloMosaic.Lib.Tactic.Stretches
public import Idealize.ShloMosaic.Lib.Pipeline.Kit

@[expose] public section

set_option maxRecDepth 16384

noncomputable section

namespace Cert.KernelIdeal.Nms

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The contents type of memref `M`'s buffer on core `c`, and that buffer held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-! ## Words: the trip count and the offsets -/

theorem isInt_count {v : BitVec 32} (hv : v.toNat ≤ 4096) :
    Affine.IsInt (Scalar.addi 0#32 (Scalar.muli (Scalar.divsi (Scalar.subi v 0#32) 1#32) 1#32)) v.toNat := by
  have e : v = BitVec.ofNat 32 v.toNat := by simp
  have h0 : Affine.IsInt v v.toNat := by
    have := Affine.ofNat (e := v.toNat) v.toNat ⟨rfl, by omega⟩
    rwa [← e] at this
  rw [Scalar.muli_divsi_one]
  exact Affine.addi (ea := 0) (eb := v.toNat) (Affine.ofNat (e := 0) 0 ⟨rfl, by decide⟩)
    (Affine.subi (ea := v.toNat) (eb := 0) h0 (Affine.ofNat (e := 0) 0 ⟨rfl, by decide⟩) ⟨by omega, by omega, by omega⟩)
    ⟨by omega, by omega, by omega⟩

private theorem toInt_of_isInt {x : BitVec 32} {e : Int} (h : Affine.IsInt x e) : x.toInt = e := by
  delta Affine.IsInt at h; exact h

/-- The loop makes as many trips as there are valid rows. -/
theorem trips_eq {v : BitVec 32} (hv : v.toNat ≤ 4096) : (k0_t1_loop v).trips = v.toNat := by
  show Scf.trips 0#32 (Scalar.addi 0#32 (Scalar.muli (Scalar.divsi (Scalar.subi v 0#32) 1#32) 1#32)) 1#32 = _
  unfold Scf.trips; rw [toInt_of_isInt (isInt_count hv)]; simp

theorem chk1 {v : BitVec 32} (hv : v.toNat ≤ 4096) : k0_chk1 v := by
  refine ⟨?_, Scf.rem_ok _ _⟩
  exact Affine.ok (Affine.ofNat (e := 0) 0 ⟨rfl, by decide⟩) (isInt_count hv) (Affine.ofNat (e := 1) 1 ⟨rfl, by decide⟩) ⟨by decide, by omega⟩

theorem iv_toNat {n : ℕ} (hn : n < 2 ^ 32) : (Scf.iv 0#32 1#32 n).toNat = n := by
  simp only [Scf.iv, BitVec.toNat_add, BitVec.toNat_mul, BitVec.toNat_ofNat]; omega

section Off
variable {v1 : BitVec 32} (k : Fin (k0_t1_loop v1).trips) (hk : k.val < 4096)
include hk

theorem off2_eq : k0_off2 v1 k = ![0, 0, k.val, 0] := by
  show (![0, 0, (Scf.iv 0#32 1#32 k.val).toNat, 0] : Fin 4 → ℕ) = _; rw [iv_toNat (by omega)]
theorem off3_eq : k0_off3 v1 k = ![0, 1, k.val, 0] := by
  show (![0, 1, (Scf.iv 0#32 1#32 k.val).toNat, 0] : Fin 4 → ℕ) = _; rw [iv_toNat (by omega)]
theorem off4_eq : k0_off4 v1 k = ![0, 2, k.val, 0] := by
  show (![0, 2, (Scf.iv 0#32 1#32 k.val).toNat, 0] : Fin 4 → ℕ) = _; rw [iv_toNat (by omega)]
theorem off5_eq : k0_off5 v1 k = ![0, 3, k.val, 0] := by
  show (![0, 3, (Scf.iv 0#32 1#32 k.val).toNat, 0] : Fin 4 → ℕ) = _; rw [iv_toNat (by omega)]
theorem off6_eq : k0_off6 v1 k = ![0, k.val, 0] := by
  show (![0, (Scf.iv 0#32 1#32 k.val).toNat, 0] : Fin 3 → ℕ) = _; rw [iv_toNat (by omega)]
theorem off8_eq : k0_off8 v1 k = ![0, k.val, 0] := by
  show (![0, (Scf.iv 0#32 1#32 k.val).toNat, 0] : Fin 3 → ℕ) = _; rw [iv_toNat (by omega)]
end Off

theorem inb4 (r k : ℕ) (hr : r < 4) (hk : k < 4096) : ∀ a, (![0, r, k, 0] : Fin 4 → ℕ) a + S1x1x1x1.size a ≤ S1x4x4096x1.size a := by
  intro a; fin_cases a <;> simp <;> omega
theorem inb2 (k : ℕ) (hk : k < 4096) : ∀ a, (![0, k, 0] : Fin 3 → ℕ) a + S1x1x16.size a ≤ S1x4096x16.size a := by
  intro a; fin_cases a <;> simp; omega
theorem inb5 (k : ℕ) (hk : k < 4096) : ∀ a, (![0, k, 0] : Fin 3 → ℕ) a + S1x1x1.size a ≤ S1x4096x1.size a := by
  intro a; fin_cases a <;> simp; omega
theorem inb6 (k : ℕ) (hk : k < 512) : ∀ a, (![0, k, 0] : Fin 3 → ℕ) a + S1x1x16.size a ≤ S1x512x16.size a := by
  intro a; fin_cases a <;> simp; omega
theorem inb7 (k : ℕ) (hk : k < 512) : ∀ a, (![0, k, 0] : Fin 3 → ℕ) a + S1x1x1.size a ≤ S1x512x1.size a := by
  intro a; fin_cases a <;> simp; omega

theorem cond2_lt {w : BitVec 32} (hw : w.toNat ≤ 4096) (h : k0_cond2 w = 1#1) : w.toNat < 500 := by
  by_contra hn
  have e : k0_cond2 w = 0#1 := by
    have h1 : Scalar.cmpi CmpIPredicate.slt w 500#32 = 0#1 := by
      have : BitVec.slt w 500#32 = false := by
        simp only [BitVec.slt, decide_eq_false_iff_not, not_lt]
        have := BitVec.toInt_eq_toNat_cond w
        have e5 : (500#32).toInt = 500 := by decide
        rw [e5]; split at this <;> omega
      show BitVec.ofBool (BitVec.slt w 500#32) = 0#1
      rw [this]; rfl
    show Scalar.cmpi CmpIPredicate.ne (Scalar.extui (Scalar.cmpi CmpIPredicate.slt w 500#32)) 0#32 = 0#1
    rw [h1]; rfl
  rw [e] at h; exact absurd h (by decide)

theorem chk2 {v1 : BitVec 32} (k : Fin (k0_t1_loop v1).trips) (hk : k.val < 4096) (w : BitVec 1) : k0_chk2 v1 k w := by
  unfold k0_chk2
  rw [off2_eq k hk, off3_eq k hk, off4_eq k hk, off5_eq k hk]
  exact ⟨fun _ => inb4 0 _ (by omega) hk, fun _ => inb4 1 _ (by omega) hk, fun _ => inb4 2 _ (by omega) hk, fun _ => inb4 3 _ (by omega) hk⟩

theorem chk3 {v1 : BitVec 32} (k : Fin (k0_t1_loop v1).trips) (hk : k.val < 4096) (c : BitVec 1) (w : BitVec 32) (hw : w.toNat ≤ 4096) : k0_chk3 v1 k c w := by
  unfold k0_chk3
  rw [off6_eq k hk, off8_eq k hk]
  refine ⟨fun _ _ => inb2 _ hk, fun _ h => ?_, fun _ _ => inb5 _ hk, fun _ h => ?_⟩
  · exact inb6 w.toNat (by have := cond2_lt hw h; omega)
  · exact inb7 w.toNat (by have := cond2_lt hw h; omega)

/-! ## One trip, as a function of what the buffers hold -/

/-- What the loop changes: the suppression mask, the rows and labels emitted, and how many were. -/
structure St (F : FTy → Type) where
  sup : S32x128.Idx → F .f32
  out : S1x512x16.Idx → F .f32
  lab : S1x512x1.Idx → BitVec 32
  p : BitVec 32

/-- The four coordinates (row `r`) of box `k`, as one word. -/
def w4 (X4 : S1x4x4096x1.Idx → F .f32) (r k : ℕ) (hr : r < 4) (hk : k < 4096) : S1x1x1x1.Idx → F .f32 :=
  VecWindow.window (s := S1x4x4096x1) X4 ![0, r, k, 0] S1x1x1x1.size (inb4 r k hr hk)
/-- Row `r` of the five precomputed planes (the corners and the area). -/
def w9 (G : S5x32x128.Idx → F .f32) (r : ℕ) (hr : ∀ a, (![r, 0, 0] : Fin 3 → ℕ) a + S1x32x128.size a ≤ S5x32x128.size a) : S1x32x128.Idx → F .f32 :=
  VecWindow.window (s := S5x32x128) G ![r, 0, 0] S1x32x128.size hr
/-- The five rows of the precomputed planes. -/
def rowsOf (G : S5x32x128.Idx → F .f32) : Fin 5 → S1x32x128.Idx → F .f32 :=
  ![w9 G 0 inb_S5x32x128_S1x32x128_0_0_0, w9 G 1 inb_S5x32x128_S1x32x128_1_0_0, w9 G 2 inb_S5x32x128_S1x32x128_2_0_0,
    w9 G 3 inb_S5x32x128_S1x32x128_3_0_0, w9 G 4 inb_S5x32x128_S1x32x128_4_0_0]

section Step
variable (X2 : S1x4096x16.Idx → F .f32) (X4 : S1x4x4096x1.Idx → F .f32) (X5 : S1x4096x1.Idx → BitVec 32) (R : Fin 5 → S1x32x128.Idx → F .f32)
  {v1 : BitVec 32} (k : Fin (k0_t1_loop v1).trips) (hk : k.val < 4096)

/-- Whether row `k` is still unsuppressed. -/
def keepBit (sup : S32x128.Idx → F .f32) : BitVec 1 :=
  Scalar.cmpf .oeq (k0_pay1 v1 k0_pay46 0#32 k sup) (FloatOps.ofBits .f32 0x00000000#32)

/-- The mask after row `k` was kept. -/
def supAfter (sup : S32x128.Idx → F .f32) : S32x128.Idx → F .f32 :=
  k0_pay2 v1 k0_pay46 0#32 k
    (k0_pay15 (w4 X4 1 k.val (by omega) hk) (w4 X4 3 k.val (by omega) hk))
    (k0_pay16 (w4 X4 1 k.val (by omega) hk) (w4 X4 3 k.val (by omega) hk))
    (k0_pay17 (w4 X4 0 k.val (by omega) hk) (w4 X4 1 k.val (by omega) hk) (w4 X4 2 k.val (by omega) hk) (w4 X4 3 k.val (by omega) hk))
    (k0_pay18 (w4 X4 0 k.val (by omega) hk) (w4 X4 2 k.val (by omega) hk)
      (R 1) (R 0)) (R 3) (R 2) (R 4) sup

/-- The rows emitted, row `k` added. -/
def outAfter (s : St F) : S1x512x16.Idx → F .f32 :=
  VecWindow.put (s := S1x512x16) s.out ![0, s.p.toNat, 0] S1x1x16.size
    (k0_pay3 (VecWindow.window (s := S1x4096x16) X2 ![0, k.val, 0] S1x1x16.size (inb2 _ hk)))
/-- The labels emitted, row `k`'s added. -/
def labAfter (s : St F) : S1x512x1.Idx → BitVec 32 :=
  VecWindow.put (s := S1x512x1) s.lab ![0, s.p.toNat, 0] S1x1x1.size
    (k0_pay4 (F := F) (VecWindow.window (s := S1x4096x1) X5 ![0, k.val, 0] S1x1x1.size (inb5 _ hk)))

/-- One trip. -/
def stepSt (s : St F) : St F :=
  if k0_cond1 (keepBit k s.sup) = 1#1 then
    { sup := supAfter X4 R k hk s.sup
      out := if k0_cond2 s.p = 1#1 then outAfter X2 k hk s else s.out
      lab := if k0_cond2 s.p = 1#1 then labAfter X5 k hk s else s.lab
      p := Scalar.addi s.p 1#32 }
  else s

/-- The state before trip `k`. -/
def stAt (v1 : BitVec 32) (hv : v1.toNat ≤ 4096) (s0 : St F) : ℕ → St F
  | 0 => s0
  | k + 1 => if h : k < (k0_t1_loop v1).trips then
      stepSt X2 X4 X5 R ⟨k, h⟩ (lt_of_lt_of_le h (by rw [trips_eq hv]; exact hv)) (stAt v1 hv s0 k) else stAt v1 hv s0 k

end Step

section Trip
variable (c : Dev nD) (i : grid0.Coords)
  (arg1 : Memref sig .tc .smem S2 .i32) (harg1 : arg1.IsWhole) (arg2 : Memref sig .tc .vmem S1x4096x16 .f32) (harg2 : arg2.IsWhole)
  (arg3 : Memref sig .tc .vmem S1x4x32x128 .f32) (harg3 : arg3.IsWhole) (arg4 : Memref sig .tc .vmem S1x4x4096x1 .f32) (harg4 : arg4.IsWhole)
  (arg5 : Memref sig .tc .vmem S1x4096x1 .i32) (harg5 : arg5.IsWhole) (arg6 : Memref sig .tc .vmem S1x512x16 .f32) (harg6 : arg6.IsWhole)
  (arg7 : Memref sig .tc .vmem S1x512x1 .i32) (harg7 : arg7.IsWhole) (arg8 : Memref sig .tc .vmem S32x128 .f32) (harg8 : arg8.IsWhole)
  (arg9 : Memref sig .tc .vmem S5x32x128 .f32) (harg9 : arg9.IsWhole) (arg10 : Memref sig .tc .smem S1 .i32) (harg10 : arg10.IsWhole)
  (v1 : BitVec 32) (hw : k0_chk1 v1)

/-- The four buffers the loop writes, at contents that read as the state `s`. -/
abbrev stP (s : St F) : sProp 𝕄 :=
  iprop(∃ f6 : Bf (F := F) c arg6, ∃ f7 : Bf (F := F) c arg7, ∃ f8 : Bf (F := F) c arg8, ∃ f10 : Bf (F := F) c arg10,
    pt c arg6 f6 ∗ pt c arg7 f7 ∗ pt c arg8 f8 ∗ pt c arg10 f10
    ∗ ⌜arg8.view.read (Elt F) f8 = s.sup ∧ arg6.view.read (Elt F) f6 = s.out ∧ arg7.view.read (Elt F) f7 = s.lab
        ∧ arg10.view.read (Elt F) f10 = fun _ => s.p⌝)

set_option maxHeartbeats 1000000 in
/-- One trip of the loop, from a state to the next. -/
theorem trip (k : Fin (k0_t1_loop v1).trips) (hk : k.val < 4096) (f2 : Bf (F := F) c arg2) (f4 : Bf (F := F) c arg4) (f5 : Bf (F := F) c arg5)
    (f9 : Bf (F := F) c arg9) (s : St F) (hp : s.p.toNat ≤ 4096) :
    iprop(pt c arg2 f2 ∗ pt c arg4 f4 ∗ pt c arg5 f5 ∗ pt c arg9 f9 ∗ stP c arg6 arg7 arg8 arg10 s)
    ⊢ wp frame (wpE (defs₀ (F := F)) Variants.none (c : Thread nD τ) none) Set.univ
      (k0_t1_body (F := F) i arg1 harg1 arg2 harg2 arg3 harg3 arg4 harg4 arg5 harg5 arg6 harg6 arg7 harg7 arg8 harg8 arg9 harg9 arg10 harg10 v1 hw k0_pay46 0#32 k ⟨⟩)
      (fun _ => iprop(pt c arg2 f2 ∗ pt c arg4 f4 ∗ pt c arg5 f5 ∗ pt c arg9 f9
        ∗ stP c arg6 arg7 arg8 arg10
            (stepSt (arg2.view.read (Elt F) f2) (arg4.view.read (Elt F) f4) (arg5.view.read (Elt F) f5) (rowsOf (arg9.view.read (Elt F) f9)) k hk s))) := by
  iintro ⟨H2, H4, H5, H9, ⟨%f6, %f7, %f8, %f10, H6, H7, H8, H10, %e⟩⟩
  obtain ⟨e8, e6, e7, e10⟩ := e
  have h2 : ∀ v72, k0_chk2 v1 k v72 := chk2 k hk
  have hp' : ∀ x, (View.readAt (Elt F) arg10.view (Rect.unit (s := S1) ![0] S1.size inb_S1_S1_0).toLoadRect f10 x).toNat ≤ 4096 := by
    intro x; rw [View.readAt_full, e10]; exact hp
  sl_unfold [k0_t1_body]
  sl_exec (disch := (exact chk3 k hk _ _ (hp' _)))
  sl_step
  isplitl [H2]; · iexact H2
  isplitl [H4]; · iexact H4
  isplitl [H5]; · iexact H5
  isplitl [H9]; · iexact H9
  iexists _, _, _, _
  isplitl [H6]; · iexact H6
  isplitl [H7]; · iexact H7
  isplitl [H8]; · iexact H8
  isplitl [H10]; · iexact H10
  ipureintro
  sl_open_run
  have r8 : View.readAt (Elt F) arg8.view (Rect.unit (s := S32x128) ![0, 0] S32x128.size inb_S32x128_S32x128_0_0).toLoadRect f8 = s.sup := by
    rw [View.readAt_full, e8]
  have r10 : ∀ x, View.readAt (Elt F) arg10.view (Rect.unit (s := S1) ![0] S1.size inb_S1_S1_0).toLoadRect f10 x = s.p := by
    intro x; rw [View.readAt_full, e10]
  have ec : k0_cond1 (Scalar.cmpf CmpFPredicate.oeq (k0_pay1 v1 k0_pay46 0#32 k
      (View.readAt (Elt F) arg8.view (Rect.unit (s := S32x128) ![0, 0] S32x128.size inb_S32x128_S32x128_0_0).toLoadRect f8))
      (FloatOps.ofBits FTy.f32 0#32)) = k0_cond1 (keepBit k s.sup) := by rw [r8]; rfl
  by_cases hc : k0_cond1 (keepBit k s.sup) = 1#1
  · rw [stepSt, if_pos hc]
    refine ⟨?_, ?_, ?_, ?_⟩
    · rw [dif_pos (ec.trans hc), View.read_writes_full]
      have a2 := fun inb => View.readAt_unit (size := S1x1x1x1.size) arg4.view f4 inb (off2_eq k hk) (inb4 0 _ (by omega) hk)
      have a3 := fun inb => View.readAt_unit (size := S1x1x1x1.size) arg4.view f4 inb (off3_eq k hk) (inb4 1 _ (by omega) hk)
      have a4 := fun inb => View.readAt_unit (size := S1x1x1x1.size) arg4.view f4 inb (off4_eq k hk) (inb4 2 _ (by omega) hk)
      have a5 := fun inb => View.readAt_unit (size := S1x1x1x1.size) arg4.view f4 inb (off5_eq k hk) (inb4 3 _ (by omega) hk)
      have b := fun r inb => View.readAt_unit (off := ![r, 0, 0]) (size := S1x32x128.size) arg9.view f9 inb rfl inb
      simp only [a2, a3, a4, a5, b, r8]
      rfl
    · rw [dif_pos (ec.trans hc)]
      by_cases hd : k0_cond2 s.p = 1#1
      · rw [dif_pos ((congrArg k0_cond2 (r10 _)).trans hd)]
        simp only [hd, if_true]
        rw [View.readAt_unit arg2.view f2 _ (off6_eq k hk) (inb2 _ hk),
          View.read_writes_cons_put _ _ _ _ _ (congrArg k0_off7 (r10 _)), View.writes_nil, e6]
        rfl
      · rw [dif_neg (fun h => hd ((congrArg k0_cond2 (r10 _)).symm.trans h))]
        simp only [hd, if_false]
        exact e6
    · rw [dif_pos (ec.trans hc)]
      by_cases hd : k0_cond2 s.p = 1#1
      · rw [dif_pos ((congrArg k0_cond2 (r10 _)).trans hd)]
        simp only [hd, if_true]
        rw [View.readAt_unit arg5.view f5 _ (off8_eq k hk) (inb5 _ hk),
          View.read_writes_cons_put _ _ _ _ _ (congrArg k0_off9 (r10 _)), View.writes_nil, e7]
        rfl
      · rw [dif_neg (fun h => hd ((congrArg k0_cond2 (r10 _)).symm.trans h))]
        simp only [hd, if_false]
        exact e7
    · rw [dif_pos (ec.trans hc), View.read_writes_full, r10]; rfl
  · rw [stepSt, if_neg hc]
    rw [← ec] at hc
    exact ⟨(congrArg _ (dif_neg hc)).trans e8, (congrArg _ (dif_neg hc)).trans e6, (congrArg _ (dif_neg hc)).trans e7,
      (congrArg _ (dif_neg hc)).trans e10⟩

end Trip

/-! ## The loop and the whole body -/

/-- The state the loop starts from: nothing suppressed, no row emitted. -/
def st0 : St F := ⟨k0_pay31, k0_pay29, k0_pay30, 0#32⟩

section Count
variable (X2 : S1x4096x16.Idx → F .f32) (X4 : S1x4x4096x1.Idx → F .f32) (X5 : S1x4096x1.Idx → BitVec 32) (R : Fin 5 → S1x32x128.Idx → F .f32)

theorem stepSt_p {v1 : BitVec 32} (k : Fin (k0_t1_loop v1).trips) (hk : k.val < 4096) (s : St F) :
    (stepSt X2 X4 X5 R k hk s).p = if k0_cond1 (keepBit k s.sup) = 1#1 then Scalar.addi s.p 1#32 else s.p := by
  unfold stepSt; split <;> rfl

/-- At most one row is emitted per trip. -/
theorem stAt_p_le (v1 : BitVec 32) (hv : v1.toNat ≤ 4096) : ∀ n, n ≤ 4096 → (stAt X2 X4 X5 R v1 hv st0 n).p.toNat ≤ n
  | 0, _ => by simp [stAt, st0]
  | n + 1, hn => by
    have ih := stAt_p_le v1 hv n (by omega)
    rw [stAt]
    split
    · rw [stepSt_p]
      split
      · show ((stAt X2 X4 X5 R v1 hv st0 n).p + 1#32).toNat ≤ _
        rw [BitVec.toNat_add]
        have : (1#32).toNat = 1 := rfl
        omega
      · omega
    · omega
end Count

/-- The row count of batch element `i`. -/
def cntOf (X1 : S2.Idx → BitVec 32) (i : grid0.Coords) : BitVec 32 :=
  X1 fun a => ⟨(i 0).val, by have h := (i 0).isLt; fin_cases a; exact h⟩

theorem window_off1 (X1 : S2.Idx → BitVec 32) (i : grid0.Coords) (x) :
    VecWindow.window (s := S2) X1 (k0_off1 i) S1.size (k0_off1_inb i) x = cntOf X1 i := by
  unfold VecWindow.window cntOf
  congr 1
  funext a
  have ha : a = 0 := Subsingleton.elim (α := Fin 1) a 0
  subst ha
  apply Fin.ext
  have h1 : (x 0).val < 1 := (x 0).isLt
  have h2 : (i 0).val < 2 := (i 0).isLt
  show k0_off1 i 0 + 1 * (x 0).val = (i 0).val
  have h3 : k0_off1 i 0 = (i 0).val := by
    show (BitVec.ofNat 32 (i 0).val).toNat = _
    rw [BitVec.toNat_ofNat]; omega
  omega

/-- Row `r` of the four coordinate planes. -/
def w3 (X3 : S1x4x32x128.Idx → F .f32) (r : ℕ) (hr : ∀ a, (![0, r, 0, 0] : Fin 4 → ℕ) a + S1x1x32x128.size a ≤ S1x4x32x128.size a) :
    S1x1x32x128.Idx → F .f32 := VecWindow.window (s := S1x4x32x128) X3 ![0, r, 0, 0] S1x1x32x128.size hr

/-- The five precomputed planes: the corners and the area of every box. -/
def planes (X3 : S1x4x32x128.Idx → F .f32) : Fin 5 → S1x32x128.Idx → F .f32 :=
  let x := k0_pay32 (w3 X3 0 inb_S1x4x32x128_S1x1x32x128_0_0_0_0)
  let y := k0_pay33 (w3 X3 1 inb_S1x4x32x128_S1x1x32x128_0_1_0_0)
  let dx := k0_pay34 (w3 X3 2 inb_S1x4x32x128_S1x1x32x128_0_2_0_0)
  let dy := k0_pay35 (w3 X3 3 inb_S1x4x32x128_S1x1x32x128_0_3_0_0)
  ![k0_pay41 x dx k0_pay36, k0_pay42 x dx, k0_pay43 y dy, k0_pay44 y dy, k0_pay45 x y dx dy k0_pay36]

/-- Five rows written one after the other read back as they were written. -/
theorem rows_of_writes {κ sp} (v : View sig κ sp S5x32x128 .f32) (f) (p0 p1 p2 p3 p4 : S1x32x128.Idx → F .f32) :
    rowsOf (v.read (Elt F) (v.writes (Elt F) f
      [⟨Rect.unit (s := S5x32x128) ![4, 0, 0] S1x32x128.size inb_S5x32x128_S1x32x128_4_0_0, p4⟩,
        ⟨Rect.unit (s := S5x32x128) ![3, 0, 0] S1x32x128.size inb_S5x32x128_S1x32x128_3_0_0, p3⟩,
        ⟨Rect.unit (s := S5x32x128) ![2, 0, 0] S1x32x128.size inb_S5x32x128_S1x32x128_2_0_0, p2⟩,
        ⟨Rect.unit (s := S5x32x128) ![1, 0, 0] S1x32x128.size inb_S5x32x128_S1x32x128_1_0_0, p1⟩,
        ⟨Rect.unit (s := S5x32x128) ![0, 0, 0] S1x32x128.size inb_S5x32x128_S1x32x128_0_0_0, p0⟩]))
      = ![p0, p1, p2, p3, p4] := by
  rw [View.read_writes_cons_put _ _ _ _ _ rfl, View.read_writes_cons_put _ _ _ _ _ rfl, View.read_writes_cons_put _ _ _ _ _ rfl,
    View.read_writes_cons_put _ _ _ _ _ rfl, View.read_writes_cons_put _ _ _ _ _ rfl]
  unfold rowsOf w9
  have hd := fun (x : S5x32x128.Idx → F .f32) (r r' : ℕ) inb' w (h : r' + 1 ≤ r ∨ r + 1 ≤ r') =>
    VecWindow.window_put_of_disjoint (s := S5x32x128) x ![r, 0, 0] S1x32x128.size ![r', 0, 0] S1x32x128.size inb' w 0 h
  have hs := fun (x : S5x32x128.Idx → F .f32) (r : ℕ) inb w =>
    VecWindow.window_put_same (s := S5x32x128) x ![r, 0, 0] S1x32x128.size inb w
  rw [hs, hd _ 4 3 _ _ (by decide), hs, hd _ 4 2 _ _ (by decide), hd _ 3 2 _ _ (by decide), hs,
    hd _ 4 1 _ _ (by decide), hd _ 3 1 _ _ (by decide), hd _ 2 1 _ _ (by decide), hs,
    hd _ 4 0 _ _ (by decide), hd _ 3 0 _ _ (by decide), hd _ 2 0 _ _ (by decide), hd _ 1 0 _ _ (by decide), hs]

section Body
variable (c : Dev nD) (i : grid0.Coords)
  (arg1 : Memref sig .tc .smem S2 .i32) (harg1 : arg1.IsWhole) (arg2 : Memref sig .tc .vmem S1x4096x16 .f32) (harg2 : arg2.IsWhole)
  (arg3 : Memref sig .tc .vmem S1x4x32x128 .f32) (harg3 : arg3.IsWhole) (arg4 : Memref sig .tc .vmem S1x4x4096x1 .f32) (harg4 : arg4.IsWhole)
  (arg5 : Memref sig .tc .vmem S1x4096x1 .i32) (harg5 : arg5.IsWhole) (arg6 : Memref sig .tc .vmem S1x512x16 .f32) (harg6 : arg6.IsWhole)
  (arg7 : Memref sig .tc .vmem S1x512x1 .i32) (harg7 : arg7.IsWhole) (arg8 : Memref sig .tc .vmem S32x128 .f32) (harg8 : arg8.IsWhole)
  (arg9 : Memref sig .tc .vmem S5x32x128 .f32) (harg9 : arg9.IsWhole) (arg10 : Memref sig .tc .smem S1 .i32) (harg10 : arg10.IsWhole)

set_option maxHeartbeats 1000000 in
/-- The whole body: what the two output blocks hold at the end is the last state of the loop. -/
theorem body_run (f1 : Bf (F := F) c arg1) (f2 : Bf (F := F) c arg2) (f3 : Bf (F := F) c arg3) (f4 : Bf (F := F) c arg4) (f5 : Bf (F := F) c arg5)
    (f6 : Bf (F := F) c arg6) (f7 : Bf (F := F) c arg7) (f8 : Bf (F := F) c arg8) (f9 : Bf (F := F) c arg9) (f10 : Bf (F := F) c arg10)
    (v1 : BitVec 32) (hv1 : cntOf (arg1.view.read (Elt F) f1) i = v1) (hv : v1.toNat ≤ 4096) :
    iprop(pt c arg1 f1 ∗ pt c arg2 f2 ∗ pt c arg3 f3 ∗ pt c arg4 f4 ∗ pt c arg5 f5 ∗ pt c arg6 f6 ∗ pt c arg7 f7 ∗ pt c arg8 f8 ∗ pt c arg9 f9 ∗ pt c arg10 f10)
    ⊢ wp frame (wpE (defs₀ (F := F)) Variants.none (c : Thread nD τ) none) Set.univ
      (cc0_body (F := F) i arg1 harg1 arg2 harg2 arg3 harg3 arg4 harg4 arg5 harg5 arg6 harg6 arg7 harg7 arg8 harg8 arg9 harg9 arg10 harg10)
      (fun _ => iprop(pt c arg1 f1 ∗ pt c arg2 f2 ∗ pt c arg3 f3 ∗ pt c arg4 f4 ∗ pt c arg5 f5
        ∗ (∃ f9' : Bf (F := F) c arg9, pt c arg9 f9')
        ∗ stP c arg6 arg7 arg8 arg10 (stAt (arg2.view.read (Elt F) f2) (arg4.view.read (Elt F) f4) (arg5.view.read (Elt F) f5)
            (planes (arg3.view.read (Elt F) f3)) v1 hv st0 v1.toNat))) := by
  subst hv1
  iintro ⟨H1, H2, H3, H4, H5, H6, H7, H8, H9, H10⟩
  sl_unfold [cc0_body]
  have er : ∀ x, View.readAt (Elt F) arg1.view (Rect.unit (s := S2) (k0_off1 i) S1.size (k0_off1_inb i)).toLoadRect f1 x
      = cntOf (arg1.view.read (Elt F) f1) i := by
    intro x
    rw [View.readAt_unit arg1.view f1 _ rfl (k0_off1_inb i), window_off1]
  have hw : ∀ x, k0_chk1 (View.readAt (Elt F) arg1.view (Rect.unit (s := S2) (k0_off1 i) S1.size (k0_off1_inb i)).toLoadRect f1 x) := by
    intro x; rw [er]; exact chk1 hv
  sl_exec (disch := (exact hw _))
  have er' : body_run.sl.r c i arg1 f1 = cntOf (arg1.view.read (Elt F) f1) i := er _
  have hv' : (body_run.sl.r c i arg1 f1).toNat ≤ 4096 := by rw [er']; exact hv
  sl_for (fun n _ => iprop(pt c arg2 f2 ∗ pt c arg4 f4 ∗ pt c arg5 f5
      ∗ (∃ f9' : Bf (F := F) c arg9, pt c arg9 f9' ∗ ⌜rowsOf (arg9.view.read (Elt F) f9') = planes (arg3.view.read (Elt F) f3)⌝)
      ∗ stP c arg6 arg7 arg8 arg10 (stAt (arg2.view.read (Elt F) f2) (arg4.view.read (Elt F) f4) (arg5.view.read (Elt F) f5)
            (planes (arg3.view.read (Elt F) f3)) _ hv' st0 n))) $$ [H2 H4 H5 H6 H7 H8 H9 H10]
  · intro k acc
    have hk : k.val < 4096 := lt_of_lt_of_le k.isLt (le_of_eq_of_le (trips_eq hv') hv')
    iintro ⟨H2, H4, H5, ⟨%f9', H9, %e9⟩, HS⟩
    have hp : (stAt (arg2.view.read (Elt F) f2) (arg4.view.read (Elt F) f4) (arg5.view.read (Elt F) f5)
        (planes (arg3.view.read (Elt F) f3)) _ hv' st0 k.val).p.toNat ≤ 4096 :=
      (stAt_p_le _ _ _ _ _ hv' k.val (by omega)).trans (by omega)
    have ht := trip c i arg1 harg1 arg2 harg2 arg3 harg3 arg4 harg4 arg5 harg5 arg6 harg6 arg7 harg7 arg8 harg8 arg9 harg9 arg10 harg10
      _ (hw _) k hk f2 f4 f5 f9' _ hp
    rw [e9] at ht
    iapply (wp_wand_r Idealize.ShloMosaic.frame (wpE (defs₀ (F := F)) Variants.none (c : Thread nD τ) none) Set.univ)
    isplitl [H2 H4 H5 H9 HS]
    · iapply ht
      isplitl [H2]; · iexact H2
      isplitl [H4]; · iexact H4
      isplitl [H5]; · iexact H5
      isplitl [H9]; · iexact H9
      iexact HS
    · iintro %_ ⟨H2, H4, H5, H9, HS⟩
      isplitl [H2]; · iexact H2
      isplitl [H4]; · iexact H4
      isplitl [H5]; · iexact H5
      isplitl [H9]
      · iexists f9'
        isplitl [H9]; · iexact H9
        ipureintro; exact e9
      rw [stAt, dif_pos k.isLt]
      iexact HS
  · isplitl [H2]; · iexact H2
    isplitl [H4]; · iexact H4
    isplitl [H5]; · iexact H5
    isplitl [H9]
    · iexists _
      isplitl [H9]; · iexact H9
      ipureintro
      sl_open_run
      rw [rows_of_writes]
      unfold planes w3
      have b := fun r inb => View.readAt_unit (off := ![0, r, 0, 0]) (size := S1x1x32x128.size) arg3.view f3 inb rfl inb
      simp only [b]
    · iexists _, _, _, _
      isplitl [H6]; · iexact H6
      isplitl [H7]; · iexact H7
      isplitl [H8]; · iexact H8
      isplitl [H10]; · iexact H10
      ipureintro
      sl_open_run
      refine ⟨?_, ?_, ?_, ?_⟩ <;> rw [View.read_writes_full] <;> rfl
  iintro %acc ⟨H2, H4, H5, ⟨%f9', H9, %e9⟩, HS⟩
  sl_exec
  sl_step
  isplitl [H1]; · iexact H1
  isplitl [H2]; · iexact H2
  isplitl [H3]; · iexact H3
  isplitl [H4]; · iexact H4
  isplitl [H5]; · iexact H5
  isplitl [H9]; · iexists _; iexact H9
  have hfin : stAt (arg2.view.read (Elt F) f2) (arg4.view.read (Elt F) f4) (arg5.view.read (Elt F) f5)
        (planes (arg3.view.read (Elt F) f3)) _ hv' st0 (k0_t1_loop (body_run.sl.r c i arg1 f1)).trips
      = stAt (arg2.view.read (Elt F) f2) (arg4.view.read (Elt F) f4) (arg5.view.read (Elt F) f5)
        (planes (arg3.view.read (Elt F) f3)) _ hv st0 (cntOf (arg1.view.read (Elt F) f1) i).toNat := by
    rw [trips_eq hv']
    congr 1
    rw [er']
  rw [← hfin]
  iexact HS

end Body
end Cert.KernelIdeal.Nms
end
-- ==== Proof.ILaunch.lean ====
module

public import proofs.«01_k».proof.Proof.IHost
public import proofs.«01_k».proof.Proof.IBody
public import proofs.«01_k».proof.Proof.Gen.KernelIdeal.Points
public import Idealize.ShloMosaic.Lib.Claim

@[expose] public section

set_option maxRecDepth 16384

noncomputable section

namespace Cert.KernelIdeal.Nms

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UR sig nD τ) ℕ
variable (m : (ℓ : Loc nD τ sig) → Buf (Elt F) ℓ) (ρ : Dev nD → PrngReg)

/-! ## What the kernel's body finds and leaves at each point -/

/-- The number of valid rows of batch row `t`, as the body reads it. -/
abbrev cnt (c : Dev nD) (t : Fin cfg0.N) : BitVec 32 := cntOf (iblk m c 0 t) (grid0.coords t)

theorem cnt_le (c : Dev nD) (t : Fin cfg0.N) : (cnt m c t).toNat ≤ 4096 := by
  have h : ∃ j, (iblk m c 0 t : S2.Idx → BitVec 32) (fun a => ⟨(grid0.coords t 0).val, by
      have := (grid0.coords t 0).isLt; fin_cases a; exact this⟩) = (V m c main_v18 : IVec S2 32) j := ⟨_, rfl⟩
  obtain ⟨j, hj⟩ := h
  refine le_trans (le_of_eq (congrArg BitVec.toNat hj)) (v18_le m c j)

/-- The state the trips leave at point `t`. -/
def final (c : Dev nD) (t : Fin cfg0.N) : St F :=
  stAt (iblk m c 1 t) (iblk m c 3 t) (iblk m c 4 t) (planes (F := F) (iblk m c 2 t)) (cnt m c t) (cnt_le m c t) st0 (cnt m c t).toNat

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (final m c t).out
    | ⟨6, _⟩ => (final m c t).lab
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (final m c t).out := by dsimp only [dats]
theorem after0_6 (c : Dev nD) (t : Fin cfg0.N) : (dats m 0 c).after 6 t = (final m c t).lab := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body at a point of the grid -/

/-- A memref over a whole buffer is owned exactly when its buffer is. -/
theorem owns_whole (c : Dev nD) {sp : Space} {S : Shape} {e : EltTy} (M : Memref sig .tc sp S e) (hM : M.IsWhole)
    (X : S.Idx → Elt F e) :
    (owns (c : Thread nD τ) M fullShare X : sProp 𝕄)
      = iprop(∃ f : Bf (F := F) c M, ⌜M.view.read (Elt F) f = X⌝ ∗ pt c M f) := by
  unfold owns pt
  rw [hM.set_eq_univ]

/-- The body's triple over the staging memrefs and the scratch buffers. -/
theorem sound_kernel (c : Dev nD) (i : grid0.Coords) (arg1 : Memref sig .tc .smem S2 .i32) (harg1 : arg1.IsWhole) (arg2 : Memref sig .tc .vmem S1x4096x16 .f32) (harg2 : arg2.IsWhole)
    (arg3 : Memref sig .tc .vmem S1x4x32x128 .f32) (harg3 : arg3.IsWhole) (arg4 : Memref sig .tc .vmem S1x4x4096x1 .f32) (harg4 : arg4.IsWhole)
    (arg5 : Memref sig .tc .vmem S1x4096x1 .i32) (harg5 : arg5.IsWhole) (arg6 : Memref sig .tc .vmem S1x512x16 .f32) (harg6 : arg6.IsWhole)
    (arg7 : Memref sig .tc .vmem S1x512x1 .i32) (harg7 : arg7.IsWhole)
    (X1 : S2.Idx → Elt F .i32) (X2 : S1x4096x16.Idx → Elt F .f32) (X3 : S1x4x32x128.Idx → Elt F .f32) (X4 : S1x4x4096x1.Idx → Elt F .f32)
    (X5 : S1x4096x1.Idx → Elt F .i32) (hv : (cntOf X1 i).toNat ≤ 4096) :
    (iprop(owns (c : Thread nD τ) arg1 fullShare X1 ∗ owns (c : Thread nD τ) arg2 fullShare X2 ∗ owns (c : Thread nD τ) arg3 fullShare X3
      ∗ owns (c : Thread nD τ) arg4 fullShare X4 ∗ owns (c : Thread nD τ) arg5 fullShare X5
      ∗ (∃ X6, owns (c : Thread nD τ) arg6 fullShare X6) ∗ (∃ X7, owns (c : Thread nD τ) arg7 fullShare X7)
      ∗ (∃ f : Buf (Elt F) ((c : Thread nD τ).loc cc0_scratch0), ((c : Thread nD τ).loc cc0_scratch0) ↦{fullShare} f)
      ∗ (∃ f : Buf (Elt F) ((c : Thread nD τ).loc cc0_scratch1), ((c : Thread nD τ).loc cc0_scratch1) ↦{fullShare} f)
      ∗ (∃ f : Buf (Elt F) ((c : Thread nD τ).loc cc0_scratch2), ((c : Thread nD τ).loc cc0_scratch2) ↦{fullShare} f)) : sProp 𝕄)
    ⊢ wp Idealize.ShloMosaic.frame (wpE (defs₀ (F := F)) Variants.none (c : Thread nD τ) none) Set.univ
      (cc0_body (F := F) i arg1 harg1 arg2 harg2 arg3 harg3 arg4 harg4 arg5 harg5 arg6 harg6 arg7 harg7
        (Memref.whole cc0_scratch0) (Memref.isWhole_whole _) (Memref.whole cc0_scratch1) (Memref.isWhole_whole _) (Memref.whole cc0_scratch2) (Memref.isWhole_whole _))
      (fun _ => iprop(owns (c : Thread nD τ) arg1 fullShare X1 ∗ owns (c : Thread nD τ) arg2 fullShare X2 ∗ owns (c : Thread nD τ) arg3 fullShare X3
      ∗ owns (c : Thread nD τ) arg4 fullShare X4 ∗ owns (c : Thread nD τ) arg5 fullShare X5
      ∗ owns (c : Thread nD τ) arg6 fullShare (stAt (F := F) X2 X4 X5 (planes (F := F) X3) (cntOf X1 i) hv st0 (cntOf X1 i).toNat).out
      ∗ owns (c : Thread nD τ) arg7 fullShare (stAt (F := F) X2 X4 X5 (planes (F := F) X3) (cntOf X1 i) hv st0 (cntOf X1 i).toNat).lab
      ∗ (∃ f : Buf (Elt F) ((c : Thread nD τ).loc cc0_scratch0), ((c : Thread nD τ).loc cc0_scratch0) ↦{fullShare} f)
      ∗ (∃ f : Buf (Elt F) ((c : Thread nD τ).loc cc0_scratch1), ((c : Thread nD τ).loc cc0_scratch1) ↦{fullShare} f)
      ∗ (∃ f : Buf (Elt F) ((c : Thread nD τ).loc cc0_scratch2), ((c : Thread nD τ).loc cc0_scratch2) ↦{fullShare} f))) := by
  rw [owns_whole c arg1 harg1, owns_whole c arg2 harg2, owns_whole c arg3 harg3, owns_whole c arg4 harg4, owns_whole c arg5 harg5,
    owns_whole c arg6 harg6, owns_whole c arg7 harg7]
  simp only [owns_whole c arg6 harg6, owns_whole c arg7 harg7]
  iintro ⟨⟨%f1, %h1, H1⟩, ⟨%f2, %h2, H2⟩, ⟨%f3, %h3, H3⟩, ⟨%f4, %h4, H4⟩, ⟨%f5, %h5, H5⟩, ⟨%X6, %f6, %h6, H6⟩, ⟨%X7, %f7, %h7, H7⟩, ⟨%f8, H8⟩, ⟨%f9, H9⟩, ⟨%f10, H10⟩⟩
  subst h1 h2 h3 h4 h5
  ihave Hr := (body_run c i arg1 harg1 arg2 harg2 arg3 harg3 arg4 harg4 arg5 harg5 arg6 harg6 arg7 harg7
        (Memref.whole cc0_scratch0) (Memref.isWhole_whole _) (Memref.whole cc0_scratch1) (Memref.isWhole_whole _) (Memref.whole cc0_scratch2) (Memref.isWhole_whole _)
        f1 f2 f3 f4 f5 f6 f7 f8 f9 f10 _ rfl hv) $$ [H1 H2 H3 H4 H5 H6 H7 H8 H9 H10]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  iapply (wp_wand_r Idealize.ShloMosaic.frame (wpE (defs₀ (F := F)) Variants.none (c : Thread nD τ) none) Set.univ)
  isplitl [Hr]; · iexact Hr
  iintro %u ⟨H1, H2, H3, H4, H5, ⟨%g9, H9⟩, Hs⟩
  icases Hs with ⟨%g6, %g7, %g8, %g10, H6, H7, H8, H10, %hs⟩
  obtain ⟨e6, e7, e8, e10⟩ := hs
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists g6; isplitr; · ipureintro; assumption
                  iexact H6
  isplitl [H7]; · iexists g7; isplitr; · ipureintro; assumption
                  iexact H7
  isplitl [H8]; · iexists _; iexact H8
  isplitl [H9]; · iexists _; iexact H9
  iexists _; iexact H10

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

theorem sound_body (c : Dev nD) (t : Fin cfg0.N) :
    bodyPre m c t ⊢ wp Idealize.ShloMosaic.frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl,
    after0_0, after0_1, after0_2, after0_3, after0_4, after0_5, after0_6]
  unfold Pipeline.ΦA
  rw [scopedRest0_eq]
  iintro ⟨⟨⟨H8, H9, H10⟩, Hp⟩, Ho, ⟨%d0, H0⟩, ⟨%d1, H1⟩, ⟨%d2, H2⟩, ⟨%d3, H3⟩, ⟨%d4, H4⟩, ⟨%d5, H5⟩, ⟨%d6, H6⟩⟩
  ihave Hr := (sound_kernel c (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ (hstage0_6 ((cfg0.slots t 6).cast nbuf0_6))
    (iblk m c 0 t) (iblk m c 1 t) (iblk m c 2 t) (iblk m c 3 t) (iblk m c 4 t) (cnt_le m c t)) $$ [H0 H1 H2 H3 H4 H5 H6 H8 H9 H10]
  · isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H8]; · iexact H8
    isplitl [H9]; · iexact H9
    iexact H10
  iapply (wp_wand_r Idealize.ShloMosaic.frame (wpE (defs₀ (F := F)) Variants.none (c : Thread nD τ) none) Set.univ)
  isplitl [Hr]; · iexact Hr
  iintro %u ⟨H0, H1, H2, H3, H4, H5, H6, H8, H9, H10⟩
  isplitl [H8 H9 H10 Hp]
  · isplitl [H8 H9 H10]
    · isplitl [H8]; · iexact H8
      isplitl [H9]; · iexact H9
      iexact H10
    · iexact Hp
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- The launch: every array of the pipeline ends at what the points left, every other buffer at what the host operations
    leave, and every semaphore counter at zero. -/
theorem run_main_quiescent : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

/-- The argument arrays end unchanged and every semaphore counter at zero. -/
theorem frame_kernel : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) (run_main m ρ)) ((θ_run defs _ _).mono (fun _ h => h.2) (run_main_quiescent m ρ))

end Cert.KernelIdeal.Nms
end
-- ==== Proof.RefOps.lean ====
/-
  The reference's operations, in order: the stretches before its loop, one trip of the loop, the stretches after it, and
  @main as their chain.
-/
module

public import proofs.«01_k».proof.Proof.Gen.ReferenceIdeal
public import Idealize.ShloMosaic.Lib.StableHlo.RunLoop
public import Idealize.ShloMosaic.Lib.StableHlo.RunRead

@[expose] public section

set_option maxRecDepth 16384
set_option Elab.async false

noncomputable section

namespace Cert.ReferenceIdeal.Nms

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- Operations of main. -/
abbrev pre0 : List (HloOp τ sig (Elt F)) :=
  [ StableHlo.unary main_arg0 main_v0 (Host.negf : (⟨S2x20000x3, .f32⟩ : BufTy).Contents (Elt F) → (⟨S2x20000x3, .f32⟩ : BufTy).Contents (Elt F)),
    StableHlo.unary main_v0 main_v1 (Host.exp : (⟨S2x20000x3, .f32⟩ : BufTy).Contents (Elt F) → (⟨S2x20000x3, .f32⟩ : BufTy).Contents (Elt F)),
    StableHlo.nullary main_cst (constant S_ .f32 0x3F800000#32),
    StableHlo.unary main_cst main_v2 (broadcastInDim S2x20000x3 ![] bcast_S_S2x20000x3 : (⟨S_, .f32⟩ : BufTy).Contents (Elt F) → (⟨S2x20000x3, .f32⟩ : BufTy).Contents (Elt F)),
    StableHlo.binary main_v2 main_v1 main_v3 (addf : (⟨S2x20000x3, .f32⟩ : BufTy).Contents (Elt F) → (⟨S2x20000x3, .f32⟩ : BufTy).Contents (Elt F) → (⟨S2x20000x3, .f32⟩ : BufTy).Contents (Elt F)),
    StableHlo.nullary main_cst_0 (constant S_ .f32 0x3F800000#32),
    StableHlo.unary main_cst_0 main_v4 (broadcastInDim S2x20000x3 ![] bcast_S_S2x20000x3 : (⟨S_, .f32⟩ : BufTy).Contents (Elt F) → (⟨S2x20000x3, .f32⟩ : BufTy).Contents (Elt F)),
    StableHlo.binary main_v4 main_v3 main_v5 (Host.divf : (⟨S2x20000x3, .f32⟩ : BufTy).Contents (Elt F) → (⟨S2x20000x3, .f32⟩ : BufTy).Contents (Elt F) → (⟨S2x20000x3, .f32⟩ : BufTy).Contents (Elt F)),
    StableHlo.nullary main_cst_1 (constant S_ .f32 0xFF800000#32),
    StableHlo.binary main_v5 main_cst_1 main_v6 ((fun x v => Host.reduce FloatOps.maximumf x v reducesTo_S2x20000x3_S2x20000_d2 h_S_) : (⟨S2x20000x3, .f32⟩ : BufTy).Contents (Elt F) → (⟨S_, .f32⟩ : BufTy).Contents (Elt F) → (⟨S2x20000, .f32⟩ : BufTy).Contents (Elt F)) ]

theorem pre0_sub : (pre0 : List (HloOp τ sig (Elt F))).Forall fun op => op.bufs ⊆ StableHlo.tcRefs τ sig :=
  ⟨StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.binary_bufs_sub ..⟩

/-- Operations of argmax (main_call0). -/
abbrev pre1 : List (HloOp τ sig (Elt F)) :=
  [ StableHlo.TRef.nullary (.of main_call0_v0 : StableHlo.TRef sig ⟨S2x20000x3, .i32⟩) (iotaInDim S2x20000x3 32 2),
    StableHlo.TRef.nullary (.of main_call0_cst : StableHlo.TRef sig ⟨S_, .f32⟩) (constant S_ .f32 0xFF800000#32),
    StableHlo.TRef.nullary (.of main_call0_c : StableHlo.TRef sig ⟨S_, .i32⟩) (constantI S_ 32 0#32),
    StableHlo.TRef.quaternary (.of main_v5 : StableHlo.TRef sig ⟨S2x20000x3, .f32⟩) (.of main_call0_v0 : StableHlo.TRef sig ⟨S2x20000x3, .i32⟩) (.of main_call0_cst : StableHlo.TRef sig ⟨S_, .f32⟩) (.of main_call0_c : StableHlo.TRef sig ⟨S_, .i32⟩) (.of main_call0_v1_0 : StableHlo.TRef sig ⟨S2x20000, .f32⟩) (fun x y u v j => (Host.argReduce reducer_argmax_f32_i32 x y u v reducesTo_S2x20000x3_S2x20000_d2 h_S_ j).1),
    StableHlo.TRef.quaternary (.of main_v5 : StableHlo.TRef sig ⟨S2x20000x3, .f32⟩) (.of main_call0_v0 : StableHlo.TRef sig ⟨S2x20000x3, .i32⟩) (.of main_call0_cst : StableHlo.TRef sig ⟨S_, .f32⟩) (.of main_call0_c : StableHlo.TRef sig ⟨S_, .i32⟩) (.of main_v7 : StableHlo.TRef sig ⟨S2x20000, .i32⟩) (fun x y u v j => (Host.argReduce reducer_argmax_f32_i32 x y u v reducesTo_S2x20000x3_S2x20000_d2 h_S_ j).2) ]

theorem pre1_sub : (pre1 : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩

/-- Operations of main. -/
abbrev pre2 : List (HloOp τ sig (Elt F)) :=
  [ StableHlo.nullary main_cst_2 (constant S_ .f32 0x3DCCCCCD#32),
    StableHlo.unary main_cst_2 main_v8 (broadcastInDim S2x20000 ![] bcast_S_S2x20000 : (⟨S_, .f32⟩ : BufTy).Contents (Elt F) → (⟨S2x20000, .f32⟩ : BufTy).Contents (Elt F)),
    StableHlo.binary main_v6 main_v8 main_v9 (cmpf .oge : (⟨S2x20000, .f32⟩ : BufTy).Contents (Elt F) → (⟨S2x20000, .f32⟩ : BufTy).Contents (Elt F) → (⟨S2x20000, .i1⟩ : BufTy).Contents (Elt F)),
    StableHlo.nullary main_cst_3 (constant S_ .f32 0xBF800000#32) ]

theorem pre2_sub : (pre2 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub ..⟩

/-- Operations of where (main_call1). -/
abbrev pre3 : List (HloOp τ sig (Elt F)) :=
  [ StableHlo.TRef.unary (.of main_cst_3 : StableHlo.TRef sig ⟨S_, .f32⟩) (.of main_call1_v0 : StableHlo.TRef sig ⟨S_, .f32⟩) id,
    StableHlo.TRef.unary (.of main_call1_v0 : StableHlo.TRef sig ⟨S_, .f32⟩) (.of main_call1_v1 : StableHlo.TRef sig ⟨S2x20000, .f32⟩) (broadcastInDim S2x20000 ![] bcast_S_S2x20000),
    StableHlo.TRef.ternary (.of main_v9 : StableHlo.TRef sig ⟨S2x20000, .i1⟩) (.of main_v6 : StableHlo.TRef sig ⟨S2x20000, .f32⟩) (.of main_call1_v1 : StableHlo.TRef sig ⟨S2x20000, .f32⟩) (.of main_v10 : StableHlo.TRef sig ⟨S2x20000, .f32⟩) select ]

theorem pre3_sub : (pre3 : List (HloOp τ sig (Elt F))).Forall fun op => op.bufs ⊆ StableHlo.tcRefs τ sig :=
  ⟨StableHlo.unary_bufs_sub .., StableHlo.unary_bufs_sub .., StableHlo.ternary_bufs_sub ..⟩

/-- Operations of main. -/
abbrev pre4 : List (HloOp τ sig (Elt F)) :=
  [ StableHlo.unary main_v10 main_values ((fun x => (Host.topK S2x4096 1 (FloatOps.cmpfTotal .gt) x sliceFits_S2x20000_S2x4096).1) : (⟨S2x20000, .f32⟩ : BufTy).Contents (Elt F) → (⟨S2x4096, .f32⟩ : BufTy).Contents (Elt F)),
    StableHlo.unary main_v10 main_indices ((fun x => (Host.topK S2x4096 1 (FloatOps.cmpfTotal .gt) x sliceFits_S2x20000_S2x4096).2) : (⟨S2x20000, .f32⟩ : BufTy).Contents (Elt F) → (⟨S2x4096, .i32⟩ : BufTy).Contents (Elt F)),
    StableHlo.unary main_indices main_v11 (broadcastInDim S2x4096x1 ![0, 1] bcast_S2x4096_S2x4096x1_0_1 : (⟨S2x4096, .i32⟩ : BufTy).Contents (Elt F) → (⟨S2x4096x1, .i32⟩ : BufTy).Contents (Elt F)) ]

theorem pre4_sub : (pre4 : List (HloOp τ sig (Elt F))).Forall fun op => op.bufs ⊆ StableHlo.tcRefs τ sig :=
  ⟨StableHlo.unary_bufs_sub .., StableHlo.unary_bufs_sub .., StableHlo.unary_bufs_sub ..⟩

/-- Operations of take_along_axis (main_call2). -/
abbrev pre5 : List (HloOp τ sig (Elt F)) :=
  [ StableHlo.TRef.nullary (.of main_call2_c : StableHlo.TRef sig ⟨S_, .i32⟩) (constantI S_ 32 0#32),
    StableHlo.TRef.unary (.of main_call2_c : StableHlo.TRef sig ⟨S_, .i32⟩) (.of main_call2_v0 : StableHlo.TRef sig ⟨S2x4096x1, .i32⟩) (broadcastInDim S2x4096x1 ![] bcast_S_S2x4096x1),
    StableHlo.TRef.binary (.of main_v11 : StableHlo.TRef sig ⟨S2x4096x1, .i32⟩) (.of main_call2_v0 : StableHlo.TRef sig ⟨S2x4096x1, .i32⟩) (.of main_call2_v1 : StableHlo.TRef sig ⟨S2x4096x1, .i1⟩) (cmpi .slt),
    StableHlo.TRef.nullary (.of main_call2_c_0 : StableHlo.TRef sig ⟨S_, .i32⟩) (constantI S_ 32 20000#32),
    StableHlo.TRef.unary (.of main_call2_c_0 : StableHlo.TRef sig ⟨S_, .i32⟩) (.of main_call2_v2 : StableHlo.TRef sig ⟨S2x4096x1, .i32⟩) (broadcastInDim S2x4096x1 ![] bcast_S_S2x4096x1),
    StableHlo.TRef.binary (.of main_v11 : StableHlo.TRef sig ⟨S2x4096x1, .i32⟩) (.of main_call2_v2 : StableHlo.TRef sig ⟨S2x4096x1, .i32⟩) (.of main_call2_v3 : StableHlo.TRef sig ⟨S2x4096x1, .i32⟩) addi,
    StableHlo.TRef.ternary (.of main_call2_v1 : StableHlo.TRef sig ⟨S2x4096x1, .i1⟩) (.of main_call2_v3 : StableHlo.TRef sig ⟨S2x4096x1, .i32⟩) (.of main_v11 : StableHlo.TRef sig ⟨S2x4096x1, .i32⟩) (.of main_call2_v4 : StableHlo.TRef sig ⟨S2x4096x1, .i32⟩) select,
    StableHlo.TRef.nullary (.of main_call2_c_1 : StableHlo.TRef sig ⟨S1, .i32⟩) (constantI S1 32 19999#32),
    StableHlo.TRef.nullary (.of main_call2_c_2 : StableHlo.TRef sig ⟨S_, .i32⟩) (constantI S_ 32 0#32),
    StableHlo.TRef.unary (.of main_call2_c_2 : StableHlo.TRef sig ⟨S_, .i32⟩) (.of main_call2_v5 : StableHlo.TRef sig ⟨S2x4096x1, .i32⟩) (broadcastInDim S2x4096x1 ![] bcast_S_S2x4096x1),
    StableHlo.TRef.binary (.of main_call2_v4 : StableHlo.TRef sig ⟨S2x4096x1, .i32⟩) (.of main_call2_v5 : StableHlo.TRef sig ⟨S2x4096x1, .i32⟩) (.of main_call2_v6 : StableHlo.TRef sig ⟨S2x4096x1, .i1⟩) (cmpi .sge),
    StableHlo.TRef.unary (.of main_call2_c_1 : StableHlo.TRef sig ⟨S1, .i32⟩) (.of main_call2_v7 : StableHlo.TRef sig ⟨S1x1x1, .i32⟩) (broadcastInDim S1x1x1 ![2] bcast_S1_S1x1x1_2),
    StableHlo.TRef.unary (.of main_call2_v7 : StableHlo.TRef sig ⟨S1x1x1, .i32⟩) (.of main_call2_v8 : StableHlo.TRef sig ⟨S2x4096x1, .i32⟩) (broadcastInDim S2x4096x1 ![0, 1, 2] bcast_S1x1x1_S2x4096x1_0_1_2),
    StableHlo.TRef.binary (.of main_call2_v4 : StableHlo.TRef sig ⟨S2x4096x1, .i32⟩) (.of main_call2_v8 : StableHlo.TRef sig ⟨S2x4096x1, .i32⟩) (.of main_call2_v9 : StableHlo.TRef sig ⟨S2x4096x1, .i1⟩) (cmpi .sle),
    StableHlo.TRef.binary (.of main_call2_v6 : StableHlo.TRef sig ⟨S2x4096x1, .i1⟩) (.of main_call2_v9 : StableHlo.TRef sig ⟨S2x4096x1, .i1⟩) (.of main_call2_v10 : StableHlo.TRef sig ⟨S2x4096x1, .i1⟩) andi,
    StableHlo.TRef.nullary (.of main_call2_c_3 : StableHlo.TRef sig ⟨S_, .i1⟩) (constantI S_ 1 1#1),
    StableHlo.TRef.binary (.of main_call2_v10 : StableHlo.TRef sig ⟨S2x4096x1, .i1⟩) (.of main_call2_c_3 : StableHlo.TRef sig ⟨S_, .i1⟩) (.of main_call2_v11 : StableHlo.TRef sig ⟨S2x4096, .i1⟩) (fun x v => Host.reduce IntOp.andi x v reducesTo_S2x4096x1_S2x4096_d2 h_S_),
    StableHlo.TRef.binary (.of main_arg1 : StableHlo.TRef sig ⟨S2x20000x7, .f32⟩) (.of main_call2_v4 : StableHlo.TRef sig ⟨S2x4096x1, .i32⟩) (.of main_call2_v12 : StableHlo.TRef sig ⟨S2x4096x7, .f32⟩) (fun x i => Host.gather gather_S2x20000x7_S2x4096x1_S2x4096x7_2_1_0_0_1_2_117 x i),
    StableHlo.TRef.unary (.of main_call2_v11 : StableHlo.TRef sig ⟨S2x4096, .i1⟩) (.of main_call2_v13 : StableHlo.TRef sig ⟨S2x4096x7, .i1⟩) (broadcastInDim S2x4096x7 ![0, 1] bcast_S2x4096_S2x4096x7_0_1),
    StableHlo.TRef.nullary (.of main_call2_cst : StableHlo.TRef sig ⟨S_, .f32⟩) (constant S_ .f32 0x7FC00000#32),
    StableHlo.TRef.unary (.of main_call2_cst : StableHlo.TRef sig ⟨S_, .f32⟩) (.of main_call2_v14 : StableHlo.TRef sig ⟨S2x4096x7, .f32⟩) (broadcastInDim S2x4096x7 ![] bcast_S_S2x4096x7),
    StableHlo.TRef.ternary (.of main_call2_v13 : StableHlo.TRef sig ⟨S2x4096x7, .i1⟩) (.of main_call2_v12 : StableHlo.TRef sig ⟨S2x4096x7, .f32⟩) (.of main_call2_v14 : StableHlo.TRef sig ⟨S2x4096x7, .f32⟩) (.of main_v12 : StableHlo.TRef sig ⟨S2x4096x7, .f32⟩) select ]

theorem pre5_sub : (pre5 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.unary_bufs_sub .., StableHlo.nullary_bufs_sub .., StableHlo.unary_bufs_sub .., StableHlo.ternary_bufs_sub ..⟩

/-- Operations of take_along_axis_0 (main_call3). -/
abbrev pre6 : List (HloOp τ sig (Elt F)) :=
  [ StableHlo.TRef.nullary (.of main_call3_c : StableHlo.TRef sig ⟨S_, .i32⟩) (constantI S_ 32 0#32),
    StableHlo.TRef.unary (.of main_call3_c : StableHlo.TRef sig ⟨S_, .i32⟩) (.of main_call3_v0 : StableHlo.TRef sig ⟨S2x4096, .i32⟩) (broadcastInDim S2x4096 ![] bcast_S_S2x4096),
    StableHlo.TRef.binary (.of main_indices : StableHlo.TRef sig ⟨S2x4096, .i32⟩) (.of main_call3_v0 : StableHlo.TRef sig ⟨S2x4096, .i32⟩) (.of main_call3_v1 : StableHlo.TRef sig ⟨S2x4096, .i1⟩) (cmpi .slt),
    StableHlo.TRef.nullary (.of main_call3_c_0 : StableHlo.TRef sig ⟨S_, .i32⟩) (constantI S_ 32 20000#32),
    StableHlo.TRef.unary (.of main_call3_c_0 : StableHlo.TRef sig ⟨S_, .i32⟩) (.of main_call3_v2 : StableHlo.TRef sig ⟨S2x4096, .i32⟩) (broadcastInDim S2x4096 ![] bcast_S_S2x4096),
    StableHlo.TRef.binary (.of main_indices : StableHlo.TRef sig ⟨S2x4096, .i32⟩) (.of main_call3_v2 : StableHlo.TRef sig ⟨S2x4096, .i32⟩) (.of main_call3_v3 : StableHlo.TRef sig ⟨S2x4096, .i32⟩) addi,
    StableHlo.TRef.ternary (.of main_call3_v1 : StableHlo.TRef sig ⟨S2x4096, .i1⟩) (.of main_call3_v3 : StableHlo.TRef sig ⟨S2x4096, .i32⟩) (.of main_indices : StableHlo.TRef sig ⟨S2x4096, .i32⟩) (.of main_call3_v4 : StableHlo.TRef sig ⟨S2x4096, .i32⟩) select,
    StableHlo.TRef.reshape (.of main_call3_v4 : StableHlo.TRef sig ⟨S2x4096, .i32⟩) (.of main_call3_v5 : StableHlo.TRef sig ⟨S2x4096x1, .i32⟩) (rfl : (.i32 : EltTy) = .i32) shapeCasts_S2x4096_S2x4096x1,
    StableHlo.TRef.nullary (.of main_call3_c_1 : StableHlo.TRef sig ⟨S1, .i32⟩) (constantI S1 32 19999#32),
    StableHlo.TRef.nullary (.of main_call3_c_2 : StableHlo.TRef sig ⟨S_, .i32⟩) (constantI S_ 32 0#32),
    StableHlo.TRef.unary (.of main_call3_c_2 : StableHlo.TRef sig ⟨S_, .i32⟩) (.of main_call3_v6 : StableHlo.TRef sig ⟨S2x4096x1, .i32⟩) (broadcastInDim S2x4096x1 ![] bcast_S_S2x4096x1),
    StableHlo.TRef.binary (.of main_call3_v5 : StableHlo.TRef sig ⟨S2x4096x1, .i32⟩) (.of main_call3_v6 : StableHlo.TRef sig ⟨S2x4096x1, .i32⟩) (.of main_call3_v7 : StableHlo.TRef sig ⟨S2x4096x1, .i1⟩) (cmpi .sge),
    StableHlo.TRef.unary (.of main_call3_c_1 : StableHlo.TRef sig ⟨S1, .i32⟩) (.of main_call3_v8 : StableHlo.TRef sig ⟨S1x1x1, .i32⟩) (broadcastInDim S1x1x1 ![2] bcast_S1_S1x1x1_2),
    StableHlo.TRef.unary (.of main_call3_v8 : StableHlo.TRef sig ⟨S1x1x1, .i32⟩) (.of main_call3_v9 : StableHlo.TRef sig ⟨S2x4096x1, .i32⟩) (broadcastInDim S2x4096x1 ![0, 1, 2] bcast_S1x1x1_S2x4096x1_0_1_2),
    StableHlo.TRef.binary (.of main_call3_v5 : StableHlo.TRef sig ⟨S2x4096x1, .i32⟩) (.of main_call3_v9 : StableHlo.TRef sig ⟨S2x4096x1, .i32⟩) (.of main_call3_v10 : StableHlo.TRef sig ⟨S2x4096x1, .i1⟩) (cmpi .sle),
    StableHlo.TRef.binary (.of main_call3_v7 : StableHlo.TRef sig ⟨S2x4096x1, .i1⟩) (.of main_call3_v10 : StableHlo.TRef sig ⟨S2x4096x1, .i1⟩) (.of main_call3_v11 : StableHlo.TRef sig ⟨S2x4096x1, .i1⟩) andi,
    StableHlo.TRef.nullary (.of main_call3_c_3 : StableHlo.TRef sig ⟨S_, .i1⟩) (constantI S_ 1 1#1),
    StableHlo.TRef.binary (.of main_call3_v11 : StableHlo.TRef sig ⟨S2x4096x1, .i1⟩) (.of main_call3_c_3 : StableHlo.TRef sig ⟨S_, .i1⟩) (.of main_call3_v12 : StableHlo.TRef sig ⟨S2x4096, .i1⟩) (fun x v => Host.reduce IntOp.andi x v reducesTo_S2x4096x1_S2x4096_d2 h_S_),
    StableHlo.TRef.binary (.of main_v7 : StableHlo.TRef sig ⟨S2x20000, .i32⟩) (.of main_call3_v5 : StableHlo.TRef sig ⟨S2x4096x1, .i32⟩) (.of main_call3_v13 : StableHlo.TRef sig ⟨S2x4096, .i32⟩) (fun x i => Host.gather gather_S2x20000_S2x4096x1_S2x4096_n_1_0_0_1_2_11 x i),
    StableHlo.TRef.nullary (.of main_call3_c_4 : StableHlo.TRef sig ⟨S_, .i32⟩) (constantI S_ 32 2147483648#32),
    StableHlo.TRef.unary (.of main_call3_c_4 : StableHlo.TRef sig ⟨S_, .i32⟩) (.of main_call3_v14 : StableHlo.TRef sig ⟨S2x4096, .i32⟩) (broadcastInDim S2x4096 ![] bcast_S_S2x4096),
    StableHlo.TRef.ternary (.of main_call3_v12 : StableHlo.TRef sig ⟨S2x4096, .i1⟩) (.of main_call3_v13 : StableHlo.TRef sig ⟨S2x4096, .i32⟩) (.of main_call3_v14 : StableHlo.TRef sig ⟨S2x4096, .i32⟩) (.of main_v13 : StableHlo.TRef sig ⟨S2x4096, .i32⟩) select ]

theorem pre6_sub : (pre6 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.reshape_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.nullary_bufs_sub .., StableHlo.unary_bufs_sub .., StableHlo.ternary_bufs_sub ..⟩

/-- Operations of main. -/
abbrev pre7 : List (HloOp τ sig (Elt F)) :=
  [ StableHlo.nullary main_cst_4 (constant S_ .f32 0x3DCCCCCD#32),
    StableHlo.unary main_cst_4 main_v14 (broadcastInDim S2x4096 ![] bcast_S_S2x4096 : (⟨S_, .f32⟩ : BufTy).Contents (Elt F) → (⟨S2x4096, .f32⟩ : BufTy).Contents (Elt F)),
    StableHlo.binary main_values main_v14 main_v15 (cmpf .oge : (⟨S2x4096, .f32⟩ : BufTy).Contents (Elt F) → (⟨S2x4096, .f32⟩ : BufTy).Contents (Elt F) → (⟨S2x4096, .i1⟩ : BufTy).Contents (Elt F)),
    StableHlo.unary main_v12 main_v16 ((extractStridedSlice S2x4096x1 ![0, 0, 0] · slices_S2x4096x7_S2x4096x1_0_0_0) : (⟨S2x4096x7, .f32⟩ : BufTy).Contents (Elt F) → (⟨S2x4096x1, .f32⟩ : BufTy).Contents (Elt F)),
    StableHlo.reshape main_v16 main_v17 (rfl : (.f32 : EltTy) = .f32) shapeCasts_S2x4096x1_S2x4096,
    StableHlo.unary main_v12 main_v18 ((extractStridedSlice S2x4096x1 ![0, 0, 3] · slices_S2x4096x7_S2x4096x1_0_0_3) : (⟨S2x4096x7, .f32⟩ : BufTy).Contents (Elt F) → (⟨S2x4096x1, .f32⟩ : BufTy).Contents (Elt F)),
    StableHlo.reshape main_v18 main_v19 (rfl : (.f32 : EltTy) = .f32) shapeCasts_S2x4096x1_S2x4096,
    StableHlo.nullary main_cst_5 (constant S_ .f32 0x3F000000#32),
    StableHlo.unary main_cst_5 main_v20 (broadcastInDim S2x4096 ![] bcast_S_S2x4096 : (⟨S_, .f32⟩ : BufTy).Contents (Elt F) → (⟨S2x4096, .f32⟩ : BufTy).Contents (Elt F)),
    StableHlo.binary main_v19 main_v20 main_v21 (mulf : (⟨S2x4096, .f32⟩ : BufTy).Contents (Elt F) → (⟨S2x4096, .f32⟩ : BufTy).Contents (Elt F) → (⟨S2x4096, .f32⟩ : BufTy).Contents (Elt F)),
    StableHlo.binary main_v17 main_v21 main_v22 (subf : (⟨S2x4096, .f32⟩ : BufTy).Contents (Elt F) → (⟨S2x4096, .f32⟩ : BufTy).Contents (Elt F) → (⟨S2x4096, .f32⟩ : BufTy).Contents (Elt F)),
    StableHlo.unary main_v12 main_v23 ((extractStridedSlice S2x4096x1 ![0, 0, 0] · slices_S2x4096x7_S2x4096x1_0_0_0) : (⟨S2x4096x7, .f32⟩ : BufTy).Contents (Elt F) → (⟨S2x4096x1, .f32⟩ : BufTy).Contents (Elt F)),
    StableHlo.reshape main_v23 main_v24 (rfl : (.f32 : EltTy) = .f32) shapeCasts_S2x4096x1_S2x4096,
    StableHlo.unary main_v12 main_v25 ((extractStridedSlice S2x4096x1 ![0, 0, 3] · slices_S2x4096x7_S2x4096x1_0_0_3) : (⟨S2x4096x7, .f32⟩ : BufTy).Contents (Elt F) → (⟨S2x4096x1, .f32⟩ : BufTy).Contents (Elt F)),
    StableHlo.reshape main_v25 main_v26 (rfl : (.f32 : EltTy) = .f32) shapeCasts_S2x4096x1_S2x4096,
    StableHlo.nullary main_cst_6 (constant S_ .f32 0x3F000000#32),
    StableHlo.unary main_cst_6 main_v27 (broadcastInDim S2x4096 ![] bcast_S_S2x4096 : (⟨S_, .f32⟩ : BufTy).Contents (Elt F) → (⟨S2x4096, .f32⟩ : BufTy).Contents (Elt F)),
    StableHlo.binary main_v26 main_v27 main_v28 (mulf : (⟨S2x4096, .f32⟩ : BufTy).Contents (Elt F) → (⟨S2x4096, .f32⟩ : BufTy).Contents (Elt F) → (⟨S2x4096, .f32⟩ : BufTy).Contents (Elt F)),
    StableHlo.binary main_v24 main_v28 main_v29 (addf : (⟨S2x4096, .f32⟩ : BufTy).Contents (Elt F) → (⟨S2x4096, .f32⟩ : BufTy).Contents (Elt F) → (⟨S2x4096, .f32⟩ : BufTy).Contents (Elt F)),
    StableHlo.unary main_v12 main_v30 ((extractStridedSlice S2x4096x1 ![0, 0, 1] · slices_S2x4096x7_S2x4096x1_0_0_1) : (⟨S2x4096x7, .f32⟩ : BufTy).Contents (Elt F) → (⟨S2x4096x1, .f32⟩ : BufTy).Contents (Elt F)),
    StableHlo.reshape main_v30 main_v31 (rfl : (.f32 : EltTy) = .f32) shapeCasts_S2x4096x1_S2x4096,
    StableHlo.unary main_v12 main_v32 ((extractStridedSlice S2x4096x1 ![0, 0, 4] · slices_S2x4096x7_S2x4096x1_0_0_4) : (⟨S2x4096x7, .f32⟩ : BufTy).Contents (Elt F) → (⟨S2x4096x1, .f32⟩ : BufTy).Contents (Elt F)),
    StableHlo.reshape main_v32 main_v33 (rfl : (.f32 : EltTy) = .f32) shapeCasts_S2x4096x1_S2x4096,
    StableHlo.nullary main_cst_7 (constant S_ .f32 0x3F000000#32),
    StableHlo.unary main_cst_7 main_v34 (broadcastInDim S2x4096 ![] bcast_S_S2x4096 : (⟨S_, .f32⟩ : BufTy).Contents (Elt F) → (⟨S2x4096, .f32⟩ : BufTy).Contents (Elt F)),
    StableHlo.binary main_v33 main_v34 main_v35 (mulf : (⟨S2x4096, .f32⟩ : BufTy).Contents (Elt F) → (⟨S2x4096, .f32⟩ : BufTy).Contents (Elt F) → (⟨S2x4096, .f32⟩ : BufTy).Contents (Elt F)),
    StableHlo.binary main_v31 main_v35 main_v36 (subf : (⟨S2x4096, .f32⟩ : BufTy).Contents (Elt F) → (⟨S2x4096, .f32⟩ : BufTy).Contents (Elt F) → (⟨S2x4096, .f32⟩ : BufTy).Contents (Elt F)),
    StableHlo.unary main_v12 main_v37 ((extractStridedSlice S2x4096x1 ![0, 0, 1] · slices_S2x4096x7_S2x4096x1_0_0_1) : (⟨S2x4096x7, .f32⟩ : BufTy).Contents (Elt F) → (⟨S2x4096x1, .f32⟩ : BufTy).Contents (Elt F)),
    StableHlo.reshape main_v37 main_v38 (rfl : (.f32 : EltTy) = .f32) shapeCasts_S2x4096x1_S2x4096,
    StableHlo.unary main_v12 main_v39 ((extractStridedSlice S2x4096x1 ![0, 0, 4] · slices_S2x4096x7_S2x4096x1_0_0_4) : (⟨S2x4096x7, .f32⟩ : BufTy).Contents (Elt F) → (⟨S2x4096x1, .f32⟩ : BufTy).Contents (Elt F)),
    StableHlo.reshape main_v39 main_v40 (rfl : (.f32 : EltTy) = .f32) shapeCasts_S2x4096x1_S2x4096,
    StableHlo.nullary main_cst_8 (constant S_ .f32 0x3F000000#32),
    StableHlo.unary main_cst_8 main_v41 (broadcastInDim S2x4096 ![] bcast_S_S2x4096 : (⟨S_, .f32⟩ : BufTy).Contents (Elt F) → (⟨S2x4096, .f32⟩ : BufTy).Contents (Elt F)),
    StableHlo.binary main_v40 main_v41 main_v42 (mulf : (⟨S2x4096, .f32⟩ : BufTy).Contents (Elt F) → (⟨S2x4096, .f32⟩ : BufTy).Contents (Elt F) → (⟨S2x4096, .f32⟩ : BufTy).Contents (Elt F)),
    StableHlo.binary main_v38 main_v42 main_v43 (addf : (⟨S2x4096, .f32⟩ : BufTy).Contents (Elt F) → (⟨S2x4096, .f32⟩ : BufTy).Contents (Elt F) → (⟨S2x4096, .f32⟩ : BufTy).Contents (Elt F)),
    StableHlo.binary main_v29 main_v22 main_v44 (subf : (⟨S2x4096, .f32⟩ : BufTy).Contents (Elt F) → (⟨S2x4096, .f32⟩ : BufTy).Contents (Elt F) → (⟨S2x4096, .f32⟩ : BufTy).Contents (Elt F)),
    StableHlo.binary main_v43 main_v36 main_v45 (subf : (⟨S2x4096, .f32⟩ : BufTy).Contents (Elt F) → (⟨S2x4096, .f32⟩ : BufTy).Contents (Elt F) → (⟨S2x4096, .f32⟩ : BufTy).Contents (Elt F)),
    StableHlo.binary main_v44 main_v45 main_v46 (mulf : (⟨S2x4096, .f32⟩ : BufTy).Contents (Elt F) → (⟨S2x4096, .f32⟩ : BufTy).Contents (Elt F) → (⟨S2x4096, .f32⟩ : BufTy).Contents (Elt F)) ]

theorem pre7_sub : (pre7 : List (HloOp τ sig (Elt F))).Forall fun op => op.bufs ⊆ StableHlo.tcRefs τ sig :=
  ⟨StableHlo.nullary_bufs_sub .., StableHlo.unary_bufs_sub .., StableHlo.binary_bufs_sub .., StableHlo.unary_bufs_sub .., StableHlo.reshape_bufs_sub .., StableHlo.unary_bufs_sub .., StableHlo.reshape_bufs_sub .., StableHlo.nullary_bufs_sub .., StableHlo.unary_bufs_sub .., StableHlo.binary_bufs_sub .., StableHlo.binary_bufs_sub .., StableHlo.unary_bufs_sub .., StableHlo.reshape_bufs_sub .., StableHlo.unary_bufs_sub .., StableHlo.reshape_bufs_sub .., StableHlo.nullary_bufs_sub .., StableHlo.unary_bufs_sub .., StableHlo.binary_bufs_sub .., StableHlo.binary_bufs_sub .., StableHlo.unary_bufs_sub .., StableHlo.reshape_bufs_sub .., StableHlo.unary_bufs_sub .., StableHlo.reshape_bufs_sub .., StableHlo.nullary_bufs_sub .., StableHlo.unary_bufs_sub .., StableHlo.binary_bufs_sub .., StableHlo.binary_bufs_sub .., StableHlo.unary_bufs_sub .., StableHlo.reshape_bufs_sub .., StableHlo.unary_bufs_sub .., StableHlo.reshape_bufs_sub .., StableHlo.nullary_bufs_sub .., StableHlo.unary_bufs_sub .., StableHlo.binary_bufs_sub .., StableHlo.binary_bufs_sub .., StableHlo.binary_bufs_sub .., StableHlo.binary_bufs_sub .., StableHlo.binary_bufs_sub ..⟩

/-- Operations of main. -/
abbrev pre8 : List (HloOp τ sig (Elt F)) :=
  [ StableHlo.unary main_v22 main_v47 (broadcastInDim S2x4096x1 ![0, 1] bcast_S2x4096_S2x4096x1_0_1 : (⟨S2x4096, .f32⟩ : BufTy).Contents (Elt F) → (⟨S2x4096x1, .f32⟩ : BufTy).Contents (Elt F)),
    StableHlo.unary main_v22 main_v48 (broadcastInDim S2x1x4096 ![0, 2] bcast_S2x4096_S2x1x4096_0_2 : (⟨S2x4096, .f32⟩ : BufTy).Contents (Elt F) → (⟨S2x1x4096, .f32⟩ : BufTy).Contents (Elt F)),
    StableHlo.unary main_v47 main_v49 (broadcastInDim S2x4096x4096 ![0, 1, 2] bcast_S2x4096x1_S2x4096x4096_0_1_2 : (⟨S2x4096x1, .f32⟩ : BufTy).Contents (Elt F) → (⟨S2x4096x4096, .f32⟩ : BufTy).Contents (Elt F)),
    StableHlo.unary main_v48 main_v50 (broadcastInDim S2x4096x4096 ![0, 1, 2] bcast_S2x1x4096_S2x4096x4096_0_1_2 : (⟨S2x1x4096, .f32⟩ : BufTy).Contents (Elt F) → (⟨S2x4096x4096, .f32⟩ : BufTy).Contents (Elt F)),
    StableHlo.binary main_v49 main_v50 main_v51 (maximumf : (⟨S2x4096x4096, .f32⟩ : BufTy).Contents (Elt F) → (⟨S2x4096x4096, .f32⟩ : BufTy).Contents (Elt F) → (⟨S2x4096x4096, .f32⟩ : BufTy).Contents (Elt F)),
    StableHlo.unary main_v36 main_v52 (broadcastInDim S2x4096x1 ![0, 1] bcast_S2x4096_S2x4096x1_0_1 : (⟨S2x4096, .f32⟩ : BufTy).Contents (Elt F) → (⟨S2x4096x1, .f32⟩ : BufTy).Contents (Elt F)),
    StableHlo.unary main_v36 main_v53 (broadcastInDim S2x1x4096 ![0, 2] bcast_S2x4096_S2x1x4096_0_2 : (⟨S2x4096, .f32⟩ : BufTy).Contents (Elt F) → (⟨S2x1x4096, .f32⟩ : BufTy).Contents (Elt F)),
    StableHlo.unary main_v52 main_v54 (broadcastInDim S2x4096x4096 ![0, 1, 2] bcast_S2x4096x1_S2x4096x4096_0_1_2 : (⟨S2x4096x1, .f32⟩ : BufTy).Contents (Elt F) → (⟨S2x4096x4096, .f32⟩ : BufTy).Contents (Elt F)),
    StableHlo.unary main_v53 main_v55 (broadcastInDim S2x4096x4096 ![0, 1, 2] bcast_S2x1x4096_S2x4096x4096_0_1_2 : (⟨S2x1x4096, .f32⟩ : BufTy).Contents (Elt F) → (⟨S2x4096x4096, .f32⟩ : BufTy).Contents (Elt F)),
    StableHlo.binary main_v54 main_v55 main_v56 (maximumf : (⟨S2x4096x4096, .f32⟩ : BufTy).Contents (Elt F) → (⟨S2x4096x4096, .f32⟩ : BufTy).Contents (Elt F) → (⟨S2x4096x4096, .f32⟩ : BufTy).Contents (Elt F)),
    StableHlo.unary main_v29 main_v57 (broadcastInDim S2x4096x1 ![0, 1] bcast_S2x4096_S2x4096x1_0_1 : (⟨S2x4096, .f32⟩ : BufTy).Contents (Elt F) → (⟨S2x4096x1, .f32⟩ : BufTy).Contents (Elt F)),
    StableHlo.unary main_v29 main_v58 (broadcastInDim S2x1x4096 ![0, 2] bcast_S2x4096_S2x1x4096_0_2 : (⟨S2x4096, .f32⟩ : BufTy).Contents (Elt F) → (⟨S2x1x4096, .f32⟩ : BufTy).Contents (Elt F)),
    StableHlo.unary main_v57 main_v59 (broadcastInDim S2x4096x4096 ![0, 1, 2] bcast_S2x4096x1_S2x4096x4096_0_1_2 : (⟨S2x4096x1, .f32⟩ : BufTy).Contents (Elt F) → (⟨S2x4096x4096, .f32⟩ : BufTy).Contents (Elt F)),
    StableHlo.unary main_v58 main_v60 (broadcastInDim S2x4096x4096 ![0, 1, 2] bcast_S2x1x4096_S2x4096x4096_0_1_2 : (⟨S2x1x4096, .f32⟩ : BufTy).Contents (Elt F) → (⟨S2x4096x4096, .f32⟩ : BufTy).Contents (Elt F)),
    StableHlo.binary main_v59 main_v60 main_v61 (minimumf : (⟨S2x4096x4096, .f32⟩ : BufTy).Contents (Elt F) → (⟨S2x4096x4096, .f32⟩ : BufTy).Contents (Elt F) → (⟨S2x4096x4096, .f32⟩ : BufTy).Contents (Elt F)),
    StableHlo.unary main_v43 main_v62 (broadcastInDim S2x4096x1 ![0, 1] bcast_S2x4096_S2x4096x1_0_1 : (⟨S2x4096, .f32⟩ : BufTy).Contents (Elt F) → (⟨S2x4096x1, .f32⟩ : BufTy).Contents (Elt F)),
    StableHlo.unary main_v43 main_v63 (broadcastInDim S2x1x4096 ![0, 2] bcast_S2x4096_S2x1x4096_0_2 : (⟨S2x4096, .f32⟩ : BufTy).Contents (Elt F) → (⟨S2x1x4096, .f32⟩ : BufTy).Contents (Elt F)),
    StableHlo.unary main_v62 main_v64 (broadcastInDim S2x4096x4096 ![0, 1, 2] bcast_S2x4096x1_S2x4096x4096_0_1_2 : (⟨S2x4096x1, .f32⟩ : BufTy).Contents (Elt F) → (⟨S2x4096x4096, .f32⟩ : BufTy).Contents (Elt F)),
    StableHlo.unary main_v63 main_v65 (broadcastInDim S2x4096x4096 ![0, 1, 2] bcast_S2x1x4096_S2x4096x4096_0_1_2 : (⟨S2x1x4096, .f32⟩ : BufTy).Contents (Elt F) → (⟨S2x4096x4096, .f32⟩ : BufTy).Contents (Elt F)),
    StableHlo.binary main_v64 main_v65 main_v66 (minimumf : (⟨S2x4096x4096, .f32⟩ : BufTy).Contents (Elt F) → (⟨S2x4096x4096, .f32⟩ : BufTy).Contents (Elt F) → (⟨S2x4096x4096, .f32⟩ : BufTy).Contents (Elt F)),
    StableHlo.binary main_v61 main_v51 main_v67 (subf : (⟨S2x4096x4096, .f32⟩ : BufTy).Contents (Elt F) → (⟨S2x4096x4096, .f32⟩ : BufTy).Contents (Elt F) → (⟨S2x4096x4096, .f32⟩ : BufTy).Contents (Elt F)),
    StableHlo.nullary main_cst_9 (constant S_ .f32 0x00000000#32),
    StableHlo.unary main_cst_9 main_v68 (broadcastInDim S2x4096x4096 ![] bcast_S_S2x4096x4096 : (⟨S_, .f32⟩ : BufTy).Contents (Elt F) → (⟨S2x4096x4096, .f32⟩ : BufTy).Contents (Elt F)),
    StableHlo.binary main_v67 main_v68 main_v69 (maximumf : (⟨S2x4096x4096, .f32⟩ : BufTy).Contents (Elt F) → (⟨S2x4096x4096, .f32⟩ : BufTy).Contents (Elt F) → (⟨S2x4096x4096, .f32⟩ : BufTy).Contents (Elt F)),
    StableHlo.binary main_v66 main_v56 main_v70 (subf : (⟨S2x4096x4096, .f32⟩ : BufTy).Contents (Elt F) → (⟨S2x4096x4096, .f32⟩ : BufTy).Contents (Elt F) → (⟨S2x4096x4096, .f32⟩ : BufTy).Contents (Elt F)),
    StableHlo.nullary main_cst_10 (constant S_ .f32 0x00000000#32),
    StableHlo.unary main_cst_10 main_v71 (broadcastInDim S2x4096x4096 ![] bcast_S_S2x4096x4096 : (⟨S_, .f32⟩ : BufTy).Contents (Elt F) → (⟨S2x4096x4096, .f32⟩ : BufTy).Contents (Elt F)),
    StableHlo.binary main_v70 main_v71 main_v72 (maximumf : (⟨S2x4096x4096, .f32⟩ : BufTy).Contents (Elt F) → (⟨S2x4096x4096, .f32⟩ : BufTy).Contents (Elt F) → (⟨S2x4096x4096, .f32⟩ : BufTy).Contents (Elt F)),
    StableHlo.binary main_v69 main_v72 main_v73 (mulf : (⟨S2x4096x4096, .f32⟩ : BufTy).Contents (Elt F) → (⟨S2x4096x4096, .f32⟩ : BufTy).Contents (Elt F) → (⟨S2x4096x4096, .f32⟩ : BufTy).Contents (Elt F)),
    StableHlo.unary main_v46 main_v74 (broadcastInDim S2x4096x1 ![0, 1] bcast_S2x4096_S2x4096x1_0_1 : (⟨S2x4096, .f32⟩ : BufTy).Contents (Elt F) → (⟨S2x4096x1, .f32⟩ : BufTy).Contents (Elt F)),
    StableHlo.unary main_v46 main_v75 (broadcastInDim S2x1x4096 ![0, 2] bcast_S2x4096_S2x1x4096_0_2 : (⟨S2x4096, .f32⟩ : BufTy).Contents (Elt F) → (⟨S2x1x4096, .f32⟩ : BufTy).Contents (Elt F)),
    StableHlo.unary main_v74 main_v76 (broadcastInDim S2x4096x4096 ![0, 1, 2] bcast_S2x4096x1_S2x4096x4096_0_1_2 : (⟨S2x4096x1, .f32⟩ : BufTy).Contents (Elt F) → (⟨S2x4096x4096, .f32⟩ : BufTy).Contents (Elt F)),
    StableHlo.unary main_v75 main_v77 (broadcastInDim S2x4096x4096 ![0, 1, 2] bcast_S2x1x4096_S2x4096x4096_0_1_2 : (⟨S2x1x4096, .f32⟩ : BufTy).Contents (Elt F) → (⟨S2x4096x4096, .f32⟩ : BufTy).Contents (Elt F)),
    StableHlo.binary main_v76 main_v77 main_v78 (addf : (⟨S2x4096x4096, .f32⟩ : BufTy).Contents (Elt F) → (⟨S2x4096x4096, .f32⟩ : BufTy).Contents (Elt F) → (⟨S2x4096x4096, .f32⟩ : BufTy).Contents (Elt F)),
    StableHlo.binary main_v78 main_v73 main_v79 (subf : (⟨S2x4096x4096, .f32⟩ : BufTy).Contents (Elt F) → (⟨S2x4096x4096, .f32⟩ : BufTy).Contents (Elt F) → (⟨S2x4096x4096, .f32⟩ : BufTy).Contents (Elt F)),
    StableHlo.nullary main_cst_11 (constant S_ .f32 0x322BCC77#32),
    StableHlo.unary main_cst_11 main_v80 (broadcastInDim S2x4096x4096 ![] bcast_S_S2x4096x4096 : (⟨S_, .f32⟩ : BufTy).Contents (Elt F) → (⟨S2x4096x4096, .f32⟩ : BufTy).Contents (Elt F)),
    StableHlo.binary main_v79 main_v80 main_v81 (maximumf : (⟨S2x4096x4096, .f32⟩ : BufTy).Contents (Elt F) → (⟨S2x4096x4096, .f32⟩ : BufTy).Contents (Elt F) → (⟨S2x4096x4096, .f32⟩ : BufTy).Contents (Elt F)),
    StableHlo.binary main_v73 main_v81 main_v82 (Host.divf : (⟨S2x4096x4096, .f32⟩ : BufTy).Contents (Elt F) → (⟨S2x4096x4096, .f32⟩ : BufTy).Contents (Elt F) → (⟨S2x4096x4096, .f32⟩ : BufTy).Contents (Elt F)) ]

theorem pre8_sub : (pre8 : List (HloOp τ sig (Elt F))).Forall fun op => op.bufs ⊆ StableHlo.tcRefs τ sig :=
  ⟨StableHlo.unary_bufs_sub .., StableHlo.unary_bufs_sub .., StableHlo.unary_bufs_sub .., StableHlo.unary_bufs_sub .., StableHlo.binary_bufs_sub .., StableHlo.unary_bufs_sub .., StableHlo.unary_bufs_sub .., StableHlo.unary_bufs_sub .., StableHlo.unary_bufs_sub .., StableHlo.binary_bufs_sub .., StableHlo.unary_bufs_sub .., StableHlo.unary_bufs_sub .., StableHlo.unary_bufs_sub .., StableHlo.unary_bufs_sub .., StableHlo.binary_bufs_sub .., StableHlo.unary_bufs_sub .., StableHlo.unary_bufs_sub .., StableHlo.unary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.unary_bufs_sub .., StableHlo.unary_bufs_sub .., StableHlo.unary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub ..⟩

/-- Operations of main. -/
abbrev pre9 : List (HloOp τ sig (Elt F)) :=
  [ StableHlo.nullary main_v83 (iotaInDim S4096 32 0),
    StableHlo.nullary main_c (constantI S_ 1 0#1),
    StableHlo.unary main_c main_v84 (broadcastInDim S2x4096 ![] bcast_S_S2x4096 : (⟨S_, .i1⟩ : BufTy).Contents (Elt F) → (⟨S2x4096, .i1⟩ : BufTy).Contents (Elt F)),
    StableHlo.nullary main_c_12 (constantI S_ 32 0#32),
    StableHlo.nullary main_c_13 (constantI S_ 32 0#32),
    StableHlo.unary main_v15 main_v85_0 id,
    StableHlo.unary main_v82 main_v85_1 id,
    StableHlo.unary main_v83 main_v85_2 id,
    StableHlo.unary main_c_13 main_v85_3 id,
    StableHlo.unary main_c_12 main_v85_4 id,
    StableHlo.unary main_v84 main_v85_5 id ]

theorem pre9_sub : (pre9 : List (HloOp τ sig (Elt F))).Forall fun op => op.bufs ⊆ StableHlo.tcRefs τ sig :=
  ⟨StableHlo.nullary_bufs_sub .., StableHlo.nullary_bufs_sub .., StableHlo.unary_bufs_sub .., StableHlo.nullary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub ..⟩

/-- Operations of main. -/
abbrev post0 : List (HloOp τ sig (Elt F)) :=
  [ StableHlo.unary main_v85_5 main_v86 (noti : (⟨S2x4096, .i1⟩ : BufTy).Contents (Elt F) → (⟨S2x4096, .i1⟩ : BufTy).Contents (Elt F)),
    StableHlo.binary main_v15 main_v86 main_v87 (andi : (⟨S2x4096, .i1⟩ : BufTy).Contents (Elt F) → (⟨S2x4096, .i1⟩ : BufTy).Contents (Elt F) → (⟨S2x4096, .i1⟩ : BufTy).Contents (Elt F)),
    StableHlo.unary main_v83 main_v88 (broadcastInDim S1x4096 ![1] bcast_S4096_S1x4096_1 : (⟨S4096, .i32⟩ : BufTy).Contents (Elt F) → (⟨S1x4096, .i32⟩ : BufTy).Contents (Elt F)),
    StableHlo.unary main_v83 main_v89 (broadcastInDim S1x4096 ![1] bcast_S4096_S1x4096_1 : (⟨S4096, .i32⟩ : BufTy).Contents (Elt F) → (⟨S1x4096, .i32⟩ : BufTy).Contents (Elt F)),
    StableHlo.nullary main_c_14 (constantI S_ 32 4096#32),
    StableHlo.unary main_c_14 main_v90 (broadcastInDim S1x4096 ![] bcast_S_S1x4096 : (⟨S_, .i32⟩ : BufTy).Contents (Elt F) → (⟨S1x4096, .i32⟩ : BufTy).Contents (Elt F)),
    StableHlo.binary main_v89 main_v90 main_v91 (addi : (⟨S1x4096, .i32⟩ : BufTy).Contents (Elt F) → (⟨S1x4096, .i32⟩ : BufTy).Contents (Elt F) → (⟨S1x4096, .i32⟩ : BufTy).Contents (Elt F)) ]

theorem post0_sub : (post0 : List (HloOp τ sig (Elt F))).Forall fun op => op.bufs ⊆ StableHlo.tcRefs τ sig :=
  ⟨StableHlo.unary_bufs_sub .., StableHlo.binary_bufs_sub .., StableHlo.unary_bufs_sub .., StableHlo.unary_bufs_sub .., StableHlo.nullary_bufs_sub .., StableHlo.unary_bufs_sub .., StableHlo.binary_bufs_sub ..⟩

/-- Operations of where_1 (main_call4). -/
abbrev post1 : List (HloOp τ sig (Elt F)) :=
  [ StableHlo.TRef.unary (.of main_v88 : StableHlo.TRef sig ⟨S1x4096, .i32⟩) (.of main_call4_v0 : StableHlo.TRef sig ⟨S2x4096, .i32⟩) (broadcastInDim S2x4096 ![0, 1] bcast_S1x4096_S2x4096_0_1),
    StableHlo.TRef.unary (.of main_v91 : StableHlo.TRef sig ⟨S1x4096, .i32⟩) (.of main_call4_v1 : StableHlo.TRef sig ⟨S2x4096, .i32⟩) (broadcastInDim S2x4096 ![0, 1] bcast_S1x4096_S2x4096_0_1),
    StableHlo.TRef.ternary (.of main_v87 : StableHlo.TRef sig ⟨S2x4096, .i1⟩) (.of main_call4_v0 : StableHlo.TRef sig ⟨S2x4096, .i32⟩) (.of main_call4_v1 : StableHlo.TRef sig ⟨S2x4096, .i32⟩) (.of main_v92 : StableHlo.TRef sig ⟨S2x4096, .i32⟩) select ]

theorem post1_sub : (post1 : List (HloOp τ sig (Elt F))).Forall fun op => op.bufs ⊆ StableHlo.tcRefs τ sig :=
  ⟨StableHlo.unary_bufs_sub .., StableHlo.unary_bufs_sub .., StableHlo.ternary_bufs_sub ..⟩

/-- Operations of argsort (main_call5). -/
abbrev post2 : List (HloOp τ sig (Elt F)) :=
  [ StableHlo.TRef.nullary (.of main_call5_v0 : StableHlo.TRef sig ⟨S2x4096, .i32⟩) (iotaInDim S2x4096 32 1),
    StableHlo.TRef.binary (.of main_v92 : StableHlo.TRef sig ⟨S2x4096, .i32⟩) (.of main_call5_v0 : StableHlo.TRef sig ⟨S2x4096, .i32⟩) (.of main_call5_v1_0 : StableHlo.TRef sig ⟨S2x4096, .i32⟩) (fun x y => (Host.sort2 S2x4096 1 comparator_i32_i32_d1 x y).1),
    StableHlo.TRef.binary (.of main_v92 : StableHlo.TRef sig ⟨S2x4096, .i32⟩) (.of main_call5_v0 : StableHlo.TRef sig ⟨S2x4096, .i32⟩) (.of main_v93 : StableHlo.TRef sig ⟨S2x4096, .i32⟩) (fun x y => (Host.sort2 S2x4096 1 comparator_i32_i32_d1 x y).2) ]

theorem post2_sub : (post2 : List (HloOp τ sig (Elt F))).Forall fun op => op.bufs ⊆ StableHlo.tcRefs τ sig :=
  ⟨StableHlo.nullary_bufs_sub .., StableHlo.binary_bufs_sub .., StableHlo.binary_bufs_sub ..⟩

/-- Operations of main. -/
abbrev post3 : List (HloOp τ sig (Elt F)) :=
  [ StableHlo.unary main_v93 main_v94 ((extractStridedSlice S2x500 ![0, 0] · slices_S2x4096_S2x500_0_0) : (⟨S2x4096, .i32⟩ : BufTy).Contents (Elt F) → (⟨S2x500, .i32⟩ : BufTy).Contents (Elt F)) ]

theorem post3_sub : (post3 : List (HloOp τ sig (Elt F))).Forall fun op => op.bufs ⊆ StableHlo.tcRefs τ sig :=
  StableHlo.unary_bufs_sub ..

/-- Operations of take_along_axis_2 (main_call6). -/
abbrev post4 : List (HloOp τ sig (Elt F)) :=
  [ StableHlo.TRef.nullary (.of main_call6_c : StableHlo.TRef sig ⟨S_, .i32⟩) (constantI S_ 32 0#32),
    StableHlo.TRef.unary (.of main_call6_c : StableHlo.TRef sig ⟨S_, .i32⟩) (.of main_call6_v0 : StableHlo.TRef sig ⟨S2x500, .i32⟩) (broadcastInDim S2x500 ![] bcast_S_S2x500),
    StableHlo.TRef.binary (.of main_v94 : StableHlo.TRef sig ⟨S2x500, .i32⟩) (.of main_call6_v0 : StableHlo.TRef sig ⟨S2x500, .i32⟩) (.of main_call6_v1 : StableHlo.TRef sig ⟨S2x500, .i1⟩) (cmpi .slt),
    StableHlo.TRef.nullary (.of main_call6_c_0 : StableHlo.TRef sig ⟨S_, .i32⟩) (constantI S_ 32 4096#32),
    StableHlo.TRef.unary (.of main_call6_c_0 : StableHlo.TRef sig ⟨S_, .i32⟩) (.of main_call6_v2 : StableHlo.TRef sig ⟨S2x500, .i32⟩) (broadcastInDim S2x500 ![] bcast_S_S2x500),
    StableHlo.TRef.binary (.of main_v94 : StableHlo.TRef sig ⟨S2x500, .i32⟩) (.of main_call6_v2 : StableHlo.TRef sig ⟨S2x500, .i32⟩) (.of main_call6_v3 : StableHlo.TRef sig ⟨S2x500, .i32⟩) addi,
    StableHlo.TRef.ternary (.of main_call6_v1 : StableHlo.TRef sig ⟨S2x500, .i1⟩) (.of main_call6_v3 : StableHlo.TRef sig ⟨S2x500, .i32⟩) (.of main_v94 : StableHlo.TRef sig ⟨S2x500, .i32⟩) (.of main_call6_v4 : StableHlo.TRef sig ⟨S2x500, .i32⟩) select,
    StableHlo.TRef.reshape (.of main_call6_v4 : StableHlo.TRef sig ⟨S2x500, .i32⟩) (.of main_call6_v5 : StableHlo.TRef sig ⟨S2x500x1, .i32⟩) (rfl : (.i32 : EltTy) = .i32) shapeCasts_S2x500_S2x500x1,
    StableHlo.TRef.nullary (.of main_call6_c_1 : StableHlo.TRef sig ⟨S1, .i32⟩) (constantI S1 32 4095#32),
    StableHlo.TRef.nullary (.of main_call6_c_2 : StableHlo.TRef sig ⟨S_, .i32⟩) (constantI S_ 32 0#32),
    StableHlo.TRef.unary (.of main_call6_c_2 : StableHlo.TRef sig ⟨S_, .i32⟩) (.of main_call6_v6 : StableHlo.TRef sig ⟨S2x500x1, .i32⟩) (broadcastInDim S2x500x1 ![] bcast_S_S2x500x1),
    StableHlo.TRef.binary (.of main_call6_v5 : StableHlo.TRef sig ⟨S2x500x1, .i32⟩) (.of main_call6_v6 : StableHlo.TRef sig ⟨S2x500x1, .i32⟩) (.of main_call6_v7 : StableHlo.TRef sig ⟨S2x500x1, .i1⟩) (cmpi .sge),
    StableHlo.TRef.unary (.of main_call6_c_1 : StableHlo.TRef sig ⟨S1, .i32⟩) (.of main_call6_v8 : StableHlo.TRef sig ⟨S1x1x1, .i32⟩) (broadcastInDim S1x1x1 ![2] bcast_S1_S1x1x1_2),
    StableHlo.TRef.unary (.of main_call6_v8 : StableHlo.TRef sig ⟨S1x1x1, .i32⟩) (.of main_call6_v9 : StableHlo.TRef sig ⟨S2x500x1, .i32⟩) (broadcastInDim S2x500x1 ![0, 1, 2] bcast_S1x1x1_S2x500x1_0_1_2),
    StableHlo.TRef.binary (.of main_call6_v5 : StableHlo.TRef sig ⟨S2x500x1, .i32⟩) (.of main_call6_v9 : StableHlo.TRef sig ⟨S2x500x1, .i32⟩) (.of main_call6_v10 : StableHlo.TRef sig ⟨S2x500x1, .i1⟩) (cmpi .sle),
    StableHlo.TRef.binary (.of main_call6_v7 : StableHlo.TRef sig ⟨S2x500x1, .i1⟩) (.of main_call6_v10 : StableHlo.TRef sig ⟨S2x500x1, .i1⟩) (.of main_call6_v11 : StableHlo.TRef sig ⟨S2x500x1, .i1⟩) andi,
    StableHlo.TRef.nullary (.of main_call6_c_3 : StableHlo.TRef sig ⟨S_, .i1⟩) (constantI S_ 1 1#1),
    StableHlo.TRef.binary (.of main_call6_v11 : StableHlo.TRef sig ⟨S2x500x1, .i1⟩) (.of main_call6_c_3 : StableHlo.TRef sig ⟨S_, .i1⟩) (.of main_call6_v12 : StableHlo.TRef sig ⟨S2x500, .i1⟩) (fun x v => Host.reduce IntOp.andi x v reducesTo_S2x500x1_S2x500_d2 h_S_),
    StableHlo.TRef.binary (.of main_v87 : StableHlo.TRef sig ⟨S2x4096, .i1⟩) (.of main_call6_v5 : StableHlo.TRef sig ⟨S2x500x1, .i32⟩) (.of main_call6_v13 : StableHlo.TRef sig ⟨S2x500, .i1⟩) (fun x i => Host.gather gather_S2x4096_S2x500x1_S2x500_n_1_0_0_1_2_11 x i),
    StableHlo.TRef.nullary (.of main_call6_c_4 : StableHlo.TRef sig ⟨S_, .i1⟩) (constantI S_ 1 1#1),
    StableHlo.TRef.unary (.of main_call6_c_4 : StableHlo.TRef sig ⟨S_, .i1⟩) (.of main_call6_v14 : StableHlo.TRef sig ⟨S2x500, .i1⟩) (broadcastInDim S2x500 ![] bcast_S_S2x500),
    StableHlo.TRef.ternary (.of main_call6_v12 : StableHlo.TRef sig ⟨S2x500, .i1⟩) (.of main_call6_v13 : StableHlo.TRef sig ⟨S2x500, .i1⟩) (.of main_call6_v14 : StableHlo.TRef sig ⟨S2x500, .i1⟩) (.of main_v95 : StableHlo.TRef sig ⟨S2x500, .i1⟩) select ]

theorem post4_sub : (post4 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.reshape_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.nullary_bufs_sub .., StableHlo.unary_bufs_sub .., StableHlo.ternary_bufs_sub ..⟩

/-- Operations of take_along_axis_3 (main_call7). -/
abbrev post5 : List (HloOp τ sig (Elt F)) :=
  [ StableHlo.TRef.nullary (.of main_call7_c : StableHlo.TRef sig ⟨S_, .i32⟩) (constantI S_ 32 0#32),
    StableHlo.TRef.unary (.of main_call7_c : StableHlo.TRef sig ⟨S_, .i32⟩) (.of main_call7_v0 : StableHlo.TRef sig ⟨S2x500, .i32⟩) (broadcastInDim S2x500 ![] bcast_S_S2x500),
    StableHlo.TRef.binary (.of main_v94 : StableHlo.TRef sig ⟨S2x500, .i32⟩) (.of main_call7_v0 : StableHlo.TRef sig ⟨S2x500, .i32⟩) (.of main_call7_v1 : StableHlo.TRef sig ⟨S2x500, .i1⟩) (cmpi .slt),
    StableHlo.TRef.nullary (.of main_call7_c_0 : StableHlo.TRef sig ⟨S_, .i32⟩) (constantI S_ 32 4096#32),
    StableHlo.TRef.unary (.of main_call7_c_0 : StableHlo.TRef sig ⟨S_, .i32⟩) (.of main_call7_v2 : StableHlo.TRef sig ⟨S2x500, .i32⟩) (broadcastInDim S2x500 ![] bcast_S_S2x500),
    StableHlo.TRef.binary (.of main_v94 : StableHlo.TRef sig ⟨S2x500, .i32⟩) (.of main_call7_v2 : StableHlo.TRef sig ⟨S2x500, .i32⟩) (.of main_call7_v3 : StableHlo.TRef sig ⟨S2x500, .i32⟩) addi,
    StableHlo.TRef.ternary (.of main_call7_v1 : StableHlo.TRef sig ⟨S2x500, .i1⟩) (.of main_call7_v3 : StableHlo.TRef sig ⟨S2x500, .i32⟩) (.of main_v94 : StableHlo.TRef sig ⟨S2x500, .i32⟩) (.of main_call7_v4 : StableHlo.TRef sig ⟨S2x500, .i32⟩) select,
    StableHlo.TRef.reshape (.of main_call7_v4 : StableHlo.TRef sig ⟨S2x500, .i32⟩) (.of main_call7_v5 : StableHlo.TRef sig ⟨S2x500x1, .i32⟩) (rfl : (.i32 : EltTy) = .i32) shapeCasts_S2x500_S2x500x1,
    StableHlo.TRef.nullary (.of main_call7_c_1 : StableHlo.TRef sig ⟨S1, .i32⟩) (constantI S1 32 4095#32),
    StableHlo.TRef.nullary (.of main_call7_c_2 : StableHlo.TRef sig ⟨S_, .i32⟩) (constantI S_ 32 0#32),
    StableHlo.TRef.unary (.of main_call7_c_2 : StableHlo.TRef sig ⟨S_, .i32⟩) (.of main_call7_v6 : StableHlo.TRef sig ⟨S2x500x1, .i32⟩) (broadcastInDim S2x500x1 ![] bcast_S_S2x500x1),
    StableHlo.TRef.binary (.of main_call7_v5 : StableHlo.TRef sig ⟨S2x500x1, .i32⟩) (.of main_call7_v6 : StableHlo.TRef sig ⟨S2x500x1, .i32⟩) (.of main_call7_v7 : StableHlo.TRef sig ⟨S2x500x1, .i1⟩) (cmpi .sge),
    StableHlo.TRef.unary (.of main_call7_c_1 : StableHlo.TRef sig ⟨S1, .i32⟩) (.of main_call7_v8 : StableHlo.TRef sig ⟨S1x1x1, .i32⟩) (broadcastInDim S1x1x1 ![2] bcast_S1_S1x1x1_2),
    StableHlo.TRef.unary (.of main_call7_v8 : StableHlo.TRef sig ⟨S1x1x1, .i32⟩) (.of main_call7_v9 : StableHlo.TRef sig ⟨S2x500x1, .i32⟩) (broadcastInDim S2x500x1 ![0, 1, 2] bcast_S1x1x1_S2x500x1_0_1_2),
    StableHlo.TRef.binary (.of main_call7_v5 : StableHlo.TRef sig ⟨S2x500x1, .i32⟩) (.of main_call7_v9 : StableHlo.TRef sig ⟨S2x500x1, .i32⟩) (.of main_call7_v10 : StableHlo.TRef sig ⟨S2x500x1, .i1⟩) (cmpi .sle),
    StableHlo.TRef.binary (.of main_call7_v7 : StableHlo.TRef sig ⟨S2x500x1, .i1⟩) (.of main_call7_v10 : StableHlo.TRef sig ⟨S2x500x1, .i1⟩) (.of main_call7_v11 : StableHlo.TRef sig ⟨S2x500x1, .i1⟩) andi,
    StableHlo.TRef.nullary (.of main_call7_c_3 : StableHlo.TRef sig ⟨S_, .i1⟩) (constantI S_ 1 1#1),
    StableHlo.TRef.binary (.of main_call7_v11 : StableHlo.TRef sig ⟨S2x500x1, .i1⟩) (.of main_call7_c_3 : StableHlo.TRef sig ⟨S_, .i1⟩) (.of main_call7_v12 : StableHlo.TRef sig ⟨S2x500, .i1⟩) (fun x v => Host.reduce IntOp.andi x v reducesTo_S2x500x1_S2x500_d2 h_S_),
    StableHlo.TRef.binary (.of main_values : StableHlo.TRef sig ⟨S2x4096, .f32⟩) (.of main_call7_v5 : StableHlo.TRef sig ⟨S2x500x1, .i32⟩) (.of main_call7_v13 : StableHlo.TRef sig ⟨S2x500, .f32⟩) (fun x i => Host.gather gather_S2x4096_S2x500x1_S2x500_n_1_0_0_1_2_11 x i),
    StableHlo.TRef.nullary (.of main_call7_cst : StableHlo.TRef sig ⟨S_, .f32⟩) (constant S_ .f32 0x7FC00000#32),
    StableHlo.TRef.unary (.of main_call7_cst : StableHlo.TRef sig ⟨S_, .f32⟩) (.of main_call7_v14 : StableHlo.TRef sig ⟨S2x500, .f32⟩) (broadcastInDim S2x500 ![] bcast_S_S2x500),
    StableHlo.TRef.ternary (.of main_call7_v12 : StableHlo.TRef sig ⟨S2x500, .i1⟩) (.of main_call7_v13 : StableHlo.TRef sig ⟨S2x500, .f32⟩) (.of main_call7_v14 : StableHlo.TRef sig ⟨S2x500, .f32⟩) (.of main_v96 : StableHlo.TRef sig ⟨S2x500, .f32⟩) select ]

theorem post5_sub : (post5 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.reshape_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.nullary_bufs_sub .., StableHlo.unary_bufs_sub .., StableHlo.ternary_bufs_sub ..⟩

/-- Operations of main. -/
abbrev post6 : List (HloOp τ sig (Elt F)) :=
  [ StableHlo.nullary main_cst_15 (constant S_ .f32 0x00000000#32) ]

theorem post6_sub : (post6 : List (HloOp τ sig (Elt F))).Forall fun op => op.bufs ⊆ StableHlo.tcRefs τ sig :=
  StableHlo.nullary_bufs_sub ..

/-- Operations of where_4 (main_call8). -/
abbrev post7 : List (HloOp τ sig (Elt F)) :=
  [ StableHlo.TRef.unary (.of main_cst_15 : StableHlo.TRef sig ⟨S_, .f32⟩) (.of main_call8_v0 : StableHlo.TRef sig ⟨S_, .f32⟩) id,
    StableHlo.TRef.unary (.of main_call8_v0 : StableHlo.TRef sig ⟨S_, .f32⟩) (.of main_call8_v1 : StableHlo.TRef sig ⟨S2x500, .f32⟩) (broadcastInDim S2x500 ![] bcast_S_S2x500),
    StableHlo.TRef.ternary (.of main_v95 : StableHlo.TRef sig ⟨S2x500, .i1⟩) (.of main_v96 : StableHlo.TRef sig ⟨S2x500, .f32⟩) (.of main_call8_v1 : StableHlo.TRef sig ⟨S2x500, .f32⟩) (.of main_v97 : StableHlo.TRef sig ⟨S2x500, .f32⟩) select ]

theorem post7_sub : (post7 : List (HloOp τ sig (Elt F))).Forall fun op => op.bufs ⊆ StableHlo.tcRefs τ sig :=
  ⟨StableHlo.unary_bufs_sub .., StableHlo.unary_bufs_sub .., StableHlo.ternary_bufs_sub ..⟩

/-- Operations of main. -/
abbrev post8 : List (HloOp τ sig (Elt F)) :=
  [ StableHlo.unary main_v95 main_v98 (broadcastInDim S2x500x1 ![0, 1] bcast_S2x500_S2x500x1_0_1 : (⟨S2x500, .i1⟩ : BufTy).Contents (Elt F) → (⟨S2x500x1, .i1⟩ : BufTy).Contents (Elt F)),
    StableHlo.unary main_v94 main_v99 (broadcastInDim S2x500x1 ![0, 1] bcast_S2x500_S2x500x1_0_1 : (⟨S2x500, .i32⟩ : BufTy).Contents (Elt F) → (⟨S2x500x1, .i32⟩ : BufTy).Contents (Elt F)) ]

theorem post8_sub : (post8 : List (HloOp τ sig (Elt F))).Forall fun op => op.bufs ⊆ StableHlo.tcRefs τ sig :=
  ⟨StableHlo.unary_bufs_sub .., StableHlo.unary_bufs_sub ..⟩

/-- Operations of take_along_axis_5 (main_call9). -/
abbrev post9 : List (HloOp τ sig (Elt F)) :=
  [ StableHlo.TRef.nullary (.of main_call9_c : StableHlo.TRef sig ⟨S_, .i32⟩) (constantI S_ 32 0#32),
    StableHlo.TRef.unary (.of main_call9_c : StableHlo.TRef sig ⟨S_, .i32⟩) (.of main_call9_v0 : StableHlo.TRef sig ⟨S2x500x1, .i32⟩) (broadcastInDim S2x500x1 ![] bcast_S_S2x500x1),
    StableHlo.TRef.binary (.of main_v99 : StableHlo.TRef sig ⟨S2x500x1, .i32⟩) (.of main_call9_v0 : StableHlo.TRef sig ⟨S2x500x1, .i32⟩) (.of main_call9_v1 : StableHlo.TRef sig ⟨S2x500x1, .i1⟩) (cmpi .slt),
    StableHlo.TRef.nullary (.of main_call9_c_0 : StableHlo.TRef sig ⟨S_, .i32⟩) (constantI S_ 32 4096#32),
    StableHlo.TRef.unary (.of main_call9_c_0 : StableHlo.TRef sig ⟨S_, .i32⟩) (.of main_call9_v2 : StableHlo.TRef sig ⟨S2x500x1, .i32⟩) (broadcastInDim S2x500x1 ![] bcast_S_S2x500x1),
    StableHlo.TRef.binary (.of main_v99 : StableHlo.TRef sig ⟨S2x500x1, .i32⟩) (.of main_call9_v2 : StableHlo.TRef sig ⟨S2x500x1, .i32⟩) (.of main_call9_v3 : StableHlo.TRef sig ⟨S2x500x1, .i32⟩) addi,
    StableHlo.TRef.ternary (.of main_call9_v1 : StableHlo.TRef sig ⟨S2x500x1, .i1⟩) (.of main_call9_v3 : StableHlo.TRef sig ⟨S2x500x1, .i32⟩) (.of main_v99 : StableHlo.TRef sig ⟨S2x500x1, .i32⟩) (.of main_call9_v4 : StableHlo.TRef sig ⟨S2x500x1, .i32⟩) select,
    StableHlo.TRef.nullary (.of main_call9_c_1 : StableHlo.TRef sig ⟨S1, .i32⟩) (constantI S1 32 4095#32),
    StableHlo.TRef.nullary (.of main_call9_c_2 : StableHlo.TRef sig ⟨S_, .i32⟩) (constantI S_ 32 0#32),
    StableHlo.TRef.unary (.of main_call9_c_2 : StableHlo.TRef sig ⟨S_, .i32⟩) (.of main_call9_v5 : StableHlo.TRef sig ⟨S2x500x1, .i32⟩) (broadcastInDim S2x500x1 ![] bcast_S_S2x500x1),
    StableHlo.TRef.binary (.of main_call9_v4 : StableHlo.TRef sig ⟨S2x500x1, .i32⟩) (.of main_call9_v5 : StableHlo.TRef sig ⟨S2x500x1, .i32⟩) (.of main_call9_v6 : StableHlo.TRef sig ⟨S2x500x1, .i1⟩) (cmpi .sge),
    StableHlo.TRef.unary (.of main_call9_c_1 : StableHlo.TRef sig ⟨S1, .i32⟩) (.of main_call9_v7 : StableHlo.TRef sig ⟨S1x1x1, .i32⟩) (broadcastInDim S1x1x1 ![2] bcast_S1_S1x1x1_2),
    StableHlo.TRef.unary (.of main_call9_v7 : StableHlo.TRef sig ⟨S1x1x1, .i32⟩) (.of main_call9_v8 : StableHlo.TRef sig ⟨S2x500x1, .i32⟩) (broadcastInDim S2x500x1 ![0, 1, 2] bcast_S1x1x1_S2x500x1_0_1_2),
    StableHlo.TRef.binary (.of main_call9_v4 : StableHlo.TRef sig ⟨S2x500x1, .i32⟩) (.of main_call9_v8 : StableHlo.TRef sig ⟨S2x500x1, .i32⟩) (.of main_call9_v9 : StableHlo.TRef sig ⟨S2x500x1, .i1⟩) (cmpi .sle),
    StableHlo.TRef.binary (.of main_call9_v6 : StableHlo.TRef sig ⟨S2x500x1, .i1⟩) (.of main_call9_v9 : StableHlo.TRef sig ⟨S2x500x1, .i1⟩) (.of main_call9_v10 : StableHlo.TRef sig ⟨S2x500x1, .i1⟩) andi,
    StableHlo.TRef.nullary (.of main_call9_c_3 : StableHlo.TRef sig ⟨S_, .i1⟩) (constantI S_ 1 1#1),
    StableHlo.TRef.binary (.of main_call9_v10 : StableHlo.TRef sig ⟨S2x500x1, .i1⟩) (.of main_call9_c_3 : StableHlo.TRef sig ⟨S_, .i1⟩) (.of main_call9_v11 : StableHlo.TRef sig ⟨S2x500, .i1⟩) (fun x v => Host.reduce IntOp.andi x v reducesTo_S2x500x1_S2x500_d2 h_S_),
    StableHlo.TRef.binary (.of main_v12 : StableHlo.TRef sig ⟨S2x4096x7, .f32⟩) (.of main_call9_v4 : StableHlo.TRef sig ⟨S2x500x1, .i32⟩) (.of main_call9_v12 : StableHlo.TRef sig ⟨S2x500x7, .f32⟩) (fun x i => Host.gather gather_S2x4096x7_S2x500x1_S2x500x7_2_1_0_0_1_2_117 x i),
    StableHlo.TRef.unary (.of main_call9_v11 : StableHlo.TRef sig ⟨S2x500, .i1⟩) (.of main_call9_v13 : StableHlo.TRef sig ⟨S2x500x7, .i1⟩) (broadcastInDim S2x500x7 ![0, 1] bcast_S2x500_S2x500x7_0_1),
    StableHlo.TRef.nullary (.of main_call9_cst : StableHlo.TRef sig ⟨S_, .f32⟩) (constant S_ .f32 0x7FC00000#32),
    StableHlo.TRef.unary (.of main_call9_cst : StableHlo.TRef sig ⟨S_, .f32⟩) (.of main_call9_v14 : StableHlo.TRef sig ⟨S2x500x7, .f32⟩) (broadcastInDim S2x500x7 ![] bcast_S_S2x500x7),
    StableHlo.TRef.ternary (.of main_call9_v13 : StableHlo.TRef sig ⟨S2x500x7, .i1⟩) (.of main_call9_v12 : StableHlo.TRef sig ⟨S2x500x7, .f32⟩) (.of main_call9_v14 : StableHlo.TRef sig ⟨S2x500x7, .f32⟩) (.of main_v100 : StableHlo.TRef sig ⟨S2x500x7, .f32⟩) select ]

theorem post9_sub : (post9 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.unary_bufs_sub .., StableHlo.nullary_bufs_sub .., StableHlo.unary_bufs_sub .., StableHlo.ternary_bufs_sub ..⟩

/-- Operations of main. -/
abbrev post10 : List (HloOp τ sig (Elt F)) :=
  [ StableHlo.nullary main_cst_16 (constant S_ .f32 0x00000000#32) ]

theorem post10_sub : (post10 : List (HloOp τ sig (Elt F))).Forall fun op => op.bufs ⊆ StableHlo.tcRefs τ sig :=
  StableHlo.nullary_bufs_sub ..

/-- Operations of where_6 (main_call10). -/
abbrev post11 : List (HloOp τ sig (Elt F)) :=
  [ StableHlo.TRef.unary (.of main_cst_16 : StableHlo.TRef sig ⟨S_, .f32⟩) (.of main_call10_v0 : StableHlo.TRef sig ⟨S_, .f32⟩) id,
    StableHlo.TRef.unary (.of main_v98 : StableHlo.TRef sig ⟨S2x500x1, .i1⟩) (.of main_call10_v1 : StableHlo.TRef sig ⟨S2x500x7, .i1⟩) (broadcastInDim S2x500x7 ![0, 1, 2] bcast_S2x500x1_S2x500x7_0_1_2),
    StableHlo.TRef.unary (.of main_call10_v0 : StableHlo.TRef sig ⟨S_, .f32⟩) (.of main_call10_v2 : StableHlo.TRef sig ⟨S2x500x7, .f32⟩) (broadcastInDim S2x500x7 ![] bcast_S_S2x500x7),
    StableHlo.TRef.ternary (.of main_call10_v1 : StableHlo.TRef sig ⟨S2x500x7, .i1⟩) (.of main_v100 : StableHlo.TRef sig ⟨S2x500x7, .f32⟩) (.of main_call10_v2 : StableHlo.TRef sig ⟨S2x500x7, .f32⟩) (.of main_v101 : StableHlo.TRef sig ⟨S2x500x7, .f32⟩) select ]

theorem post11_sub : (post11 : List (HloOp τ sig (Elt F))).Forall fun op => op.bufs ⊆ StableHlo.tcRefs τ sig :=
  ⟨StableHlo.unary_bufs_sub .., StableHlo.unary_bufs_sub .., StableHlo.unary_bufs_sub .., StableHlo.ternary_bufs_sub ..⟩

/-- Operations of take_along_axis_7 (main_call11). -/
abbrev post12 : List (HloOp τ sig (Elt F)) :=
  [ StableHlo.TRef.nullary (.of main_call11_c : StableHlo.TRef sig ⟨S_, .i32⟩) (constantI S_ 32 0#32),
    StableHlo.TRef.unary (.of main_call11_c : StableHlo.TRef sig ⟨S_, .i32⟩) (.of main_call11_v0 : StableHlo.TRef sig ⟨S2x500, .i32⟩) (broadcastInDim S2x500 ![] bcast_S_S2x500),
    StableHlo.TRef.binary (.of main_v94 : StableHlo.TRef sig ⟨S2x500, .i32⟩) (.of main_call11_v0 : StableHlo.TRef sig ⟨S2x500, .i32⟩) (.of main_call11_v1 : StableHlo.TRef sig ⟨S2x500, .i1⟩) (cmpi .slt),
    StableHlo.TRef.nullary (.of main_call11_c_0 : StableHlo.TRef sig ⟨S_, .i32⟩) (constantI S_ 32 4096#32),
    StableHlo.TRef.unary (.of main_call11_c_0 : StableHlo.TRef sig ⟨S_, .i32⟩) (.of main_call11_v2 : StableHlo.TRef sig ⟨S2x500, .i32⟩) (broadcastInDim S2x500 ![] bcast_S_S2x500),
    StableHlo.TRef.binary (.of main_v94 : StableHlo.TRef sig ⟨S2x500, .i32⟩) (.of main_call11_v2 : StableHlo.TRef sig ⟨S2x500, .i32⟩) (.of main_call11_v3 : StableHlo.TRef sig ⟨S2x500, .i32⟩) addi,
    StableHlo.TRef.ternary (.of main_call11_v1 : StableHlo.TRef sig ⟨S2x500, .i1⟩) (.of main_call11_v3 : StableHlo.TRef sig ⟨S2x500, .i32⟩) (.of main_v94 : StableHlo.TRef sig ⟨S2x500, .i32⟩) (.of main_call11_v4 : StableHlo.TRef sig ⟨S2x500, .i32⟩) select,
    StableHlo.TRef.reshape (.of main_call11_v4 : StableHlo.TRef sig ⟨S2x500, .i32⟩) (.of main_call11_v5 : StableHlo.TRef sig ⟨S2x500x1, .i32⟩) (rfl : (.i32 : EltTy) = .i32) shapeCasts_S2x500_S2x500x1,
    StableHlo.TRef.nullary (.of main_call11_c_1 : StableHlo.TRef sig ⟨S1, .i32⟩) (constantI S1 32 4095#32),
    StableHlo.TRef.nullary (.of main_call11_c_2 : StableHlo.TRef sig ⟨S_, .i32⟩) (constantI S_ 32 0#32),
    StableHlo.TRef.unary (.of main_call11_c_2 : StableHlo.TRef sig ⟨S_, .i32⟩) (.of main_call11_v6 : StableHlo.TRef sig ⟨S2x500x1, .i32⟩) (broadcastInDim S2x500x1 ![] bcast_S_S2x500x1),
    StableHlo.TRef.binary (.of main_call11_v5 : StableHlo.TRef sig ⟨S2x500x1, .i32⟩) (.of main_call11_v6 : StableHlo.TRef sig ⟨S2x500x1, .i32⟩) (.of main_call11_v7 : StableHlo.TRef sig ⟨S2x500x1, .i1⟩) (cmpi .sge),
    StableHlo.TRef.unary (.of main_call11_c_1 : StableHlo.TRef sig ⟨S1, .i32⟩) (.of main_call11_v8 : StableHlo.TRef sig ⟨S1x1x1, .i32⟩) (broadcastInDim S1x1x1 ![2] bcast_S1_S1x1x1_2),
    StableHlo.TRef.unary (.of main_call11_v8 : StableHlo.TRef sig ⟨S1x1x1, .i32⟩) (.of main_call11_v9 : StableHlo.TRef sig ⟨S2x500x1, .i32⟩) (broadcastInDim S2x500x1 ![0, 1, 2] bcast_S1x1x1_S2x500x1_0_1_2),
    StableHlo.TRef.binary (.of main_call11_v5 : StableHlo.TRef sig ⟨S2x500x1, .i32⟩) (.of main_call11_v9 : StableHlo.TRef sig ⟨S2x500x1, .i32⟩) (.of main_call11_v10 : StableHlo.TRef sig ⟨S2x500x1, .i1⟩) (cmpi .sle),
    StableHlo.TRef.binary (.of main_call11_v7 : StableHlo.TRef sig ⟨S2x500x1, .i1⟩) (.of main_call11_v10 : StableHlo.TRef sig ⟨S2x500x1, .i1⟩) (.of main_call11_v11 : StableHlo.TRef sig ⟨S2x500x1, .i1⟩) andi,
    StableHlo.TRef.nullary (.of main_call11_c_3 : StableHlo.TRef sig ⟨S_, .i1⟩) (constantI S_ 1 1#1),
    StableHlo.TRef.binary (.of main_call11_v11 : StableHlo.TRef sig ⟨S2x500x1, .i1⟩) (.of main_call11_c_3 : StableHlo.TRef sig ⟨S_, .i1⟩) (.of main_call11_v12 : StableHlo.TRef sig ⟨S2x500, .i1⟩) (fun x v => Host.reduce IntOp.andi x v reducesTo_S2x500x1_S2x500_d2 h_S_),
    StableHlo.TRef.binary (.of main_v13 : StableHlo.TRef sig ⟨S2x4096, .i32⟩) (.of main_call11_v5 : StableHlo.TRef sig ⟨S2x500x1, .i32⟩) (.of main_call11_v13 : StableHlo.TRef sig ⟨S2x500, .i32⟩) (fun x i => Host.gather gather_S2x4096_S2x500x1_S2x500_n_1_0_0_1_2_11 x i),
    StableHlo.TRef.nullary (.of main_call11_c_4 : StableHlo.TRef sig ⟨S_, .i32⟩) (constantI S_ 32 2147483648#32),
    StableHlo.TRef.unary (.of main_call11_c_4 : StableHlo.TRef sig ⟨S_, .i32⟩) (.of main_call11_v14 : StableHlo.TRef sig ⟨S2x500, .i32⟩) (broadcastInDim S2x500 ![] bcast_S_S2x500),
    StableHlo.TRef.ternary (.of main_call11_v12 : StableHlo.TRef sig ⟨S2x500, .i1⟩) (.of main_call11_v13 : StableHlo.TRef sig ⟨S2x500, .i32⟩) (.of main_call11_v14 : StableHlo.TRef sig ⟨S2x500, .i32⟩) (.of main_v102 : StableHlo.TRef sig ⟨S2x500, .i32⟩) select ]

theorem post12_sub : (post12 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.reshape_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.nullary_bufs_sub .., StableHlo.unary_bufs_sub .., StableHlo.ternary_bufs_sub ..⟩

/-- Operations of main. -/
abbrev post13 : List (HloOp τ sig (Elt F)) :=
  [ StableHlo.nullary main_c_17 (constantI S_ 32 4294967295#32) ]

theorem post13_sub : (post13 : List (HloOp τ sig (Elt F))).Forall fun op => op.bufs ⊆ StableHlo.tcRefs τ sig :=
  StableHlo.nullary_bufs_sub ..

/-- Operations of where_8 (main_call12). -/
abbrev post14 : List (HloOp τ sig (Elt F)) :=
  [ StableHlo.TRef.unary (.of main_c_17 : StableHlo.TRef sig ⟨S_, .i32⟩) (.of main_call12_v0 : StableHlo.TRef sig ⟨S_, .i32⟩) id,
    StableHlo.TRef.unary (.of main_call12_v0 : StableHlo.TRef sig ⟨S_, .i32⟩) (.of main_call12_v1 : StableHlo.TRef sig ⟨S2x500, .i32⟩) (broadcastInDim S2x500 ![] bcast_S_S2x500),
    StableHlo.TRef.ternary (.of main_v95 : StableHlo.TRef sig ⟨S2x500, .i1⟩) (.of main_v102 : StableHlo.TRef sig ⟨S2x500, .i32⟩) (.of main_call12_v1 : StableHlo.TRef sig ⟨S2x500, .i32⟩) (.of main_v103 : StableHlo.TRef sig ⟨S2x500, .i32⟩) select ]

theorem post14_sub : (post14 : List (HloOp τ sig (Elt F))).Forall fun op => op.bufs ⊆ StableHlo.tcRefs τ sig :=
  ⟨StableHlo.unary_bufs_sub .., StableHlo.unary_bufs_sub .., StableHlo.ternary_bufs_sub ..⟩

/-- Operations of main. -/
abbrev post15 : List (HloOp τ sig (Elt F)) :=
  [ StableHlo.nullary main_v104 (sitofp .f32 (iotaInDim S2 32 0)),
    StableHlo.unary main_v104 main_v105 (broadcastInDim S2x1 ![0] bcast_S2_S2x1_0 : (⟨S2, .f32⟩ : BufTy).Contents (Elt F) → (⟨S2x1, .f32⟩ : BufTy).Contents (Elt F)),
    StableHlo.nullary main_cst_18 (constant S_ .f32 0x00000000#32) ]

theorem post15_sub : (post15 : List (HloOp τ sig (Elt F))).Forall fun op => op.bufs ⊆ StableHlo.tcRefs τ sig :=
  ⟨StableHlo.nullary_bufs_sub .., StableHlo.unary_bufs_sub .., StableHlo.nullary_bufs_sub ..⟩

/-- Operations of where_9 (main_call13). -/
abbrev post16 : List (HloOp τ sig (Elt F)) :=
  [ StableHlo.TRef.unary (.of main_cst_18 : StableHlo.TRef sig ⟨S_, .f32⟩) (.of main_call13_v0 : StableHlo.TRef sig ⟨S_, .f32⟩) id,
    StableHlo.TRef.unary (.of main_v105 : StableHlo.TRef sig ⟨S2x1, .f32⟩) (.of main_call13_v1 : StableHlo.TRef sig ⟨S2x500, .f32⟩) (broadcastInDim S2x500 ![0, 1] bcast_S2x1_S2x500_0_1),
    StableHlo.TRef.unary (.of main_call13_v0 : StableHlo.TRef sig ⟨S_, .f32⟩) (.of main_call13_v2 : StableHlo.TRef sig ⟨S2x500, .f32⟩) (broadcastInDim S2x500 ![] bcast_S_S2x500),
    StableHlo.TRef.ternary (.of main_v95 : StableHlo.TRef sig ⟨S2x500, .i1⟩) (.of main_call13_v1 : StableHlo.TRef sig ⟨S2x500, .f32⟩) (.of main_call13_v2 : StableHlo.TRef sig ⟨S2x500, .f32⟩) (.of main_v106 : StableHlo.TRef sig ⟨S2x500, .f32⟩) select ]

theorem post16_sub : (post16 : List (HloOp τ sig (Elt F))).Forall fun op => op.bufs ⊆ StableHlo.tcRefs τ sig :=
  ⟨StableHlo.unary_bufs_sub .., StableHlo.unary_bufs_sub .., StableHlo.unary_bufs_sub .., StableHlo.ternary_bufs_sub ..⟩

/-- Operations of main. -/
abbrev post17 : List (HloOp τ sig (Elt F)) :=
  [ StableHlo.unary main_v106 main_v107 (broadcastInDim S2x500x1 ![0, 1] bcast_S2x500_S2x500x1_0_1 : (⟨S2x500, .f32⟩ : BufTy).Contents (Elt F) → (⟨S2x500x1, .f32⟩ : BufTy).Contents (Elt F)),
    StableHlo.unary main_v97 main_v108 (broadcastInDim S2x500x1 ![0, 1] bcast_S2x500_S2x500x1_0_1 : (⟨S2x500, .f32⟩ : BufTy).Contents (Elt F) → (⟨S2x500x1, .f32⟩ : BufTy).Contents (Elt F)),
    StableHlo.nary ![main_v108, main_v101, main_v107] main_v109 (fun u => (concatenate S2x500x9 2 [⟨S2x500x1, (u 0 : (⟨S2x500x1, .f32⟩ : BufTy).Contents (Elt F))⟩, ⟨S2x500x7, (u 1 : (⟨S2x500x7, .f32⟩ : BufTy).Contents (Elt F))⟩, ⟨S2x500x1, (u 2 : (⟨S2x500x1, .f32⟩ : BufTy).Contents (Elt F))⟩] concatenates_S2x500x1_S2x500x7_S2x500x1_S2x500x9_d2 : (⟨S2x500x9, .f32⟩ : BufTy).Contents (Elt F))) ]

theorem post17_sub : (post17 : List (HloOp τ sig (Elt F))).Forall fun op => op.bufs ⊆ StableHlo.tcRefs τ sig :=
  ⟨StableHlo.unary_bufs_sub .., StableHlo.unary_bufs_sub .., StableHlo.nary_bufs_sub ..⟩

/-- One trip of the loop. -/
abbrev trip0 : List (HloOp τ sig (Elt F)) :=
  [ StableHlo.nullary main_while0b_c_24 (constantI S_ 32 1#32),
    StableHlo.binary main_v85_4 main_while0b_c_24 main_while0b_v110 (addi : (⟨S_, .i32⟩ : BufTy).Contents (Elt F) → (⟨S_, .i32⟩ : BufTy).Contents (Elt F) → (⟨S_, .i32⟩ : BufTy).Contents (Elt F)),
    StableHlo.nullary main_while0b_c_25 (constantI S_ 32 0#32),
    StableHlo.binary main_v85_4 main_while0b_c_25 main_while0b_v111 (cmpi .slt : (⟨S_, .i32⟩ : BufTy).Contents (Elt F) → (⟨S_, .i32⟩ : BufTy).Contents (Elt F) → (⟨S_, .i1⟩ : BufTy).Contents (Elt F)),
    StableHlo.unary main_v85_4 main_while0b_v112 (id : (⟨S_, .i32⟩ : BufTy).Contents (Elt F) → (⟨S_, .i32⟩ : BufTy).Contents (Elt F)),
    StableHlo.nullary main_while0b_c_26 (constantI S_ 32 4096#32),
    StableHlo.binary main_while0b_v112 main_while0b_c_26 main_while0b_v113 (addi : (⟨S_, .i32⟩ : BufTy).Contents (Elt F) → (⟨S_, .i32⟩ : BufTy).Contents (Elt F) → (⟨S_, .i32⟩ : BufTy).Contents (Elt F)),
    StableHlo.ternary main_while0b_v111 main_while0b_v113 main_v85_4 main_while0b_v114 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.nullary main_while0b_c_27 (constantI S_ 32 0#32),
    StableHlo.unaryIndexed main_v85_5 ![main_while0b_c_27, main_while0b_v114] ⟨S_, .i32⟩ main_while0b_v115 ((fun x i => Host.dynamicSlice S2x1 x (fun k => (i k (Shape.Idx.first h_S_)).toInt) sliceFits_S2x4096_S2x1) : (⟨S2x4096, .i1⟩ : BufTy).Contents (Elt F) → (Fin 2 → (⟨S_, .i32⟩ : BufTy).Contents (Elt F)) → (⟨S2x1, .i1⟩ : BufTy).Contents (Elt F)),
    StableHlo.nullary main_while0b_c_28 (constantI S_ 32 0#32),
    StableHlo.binary main_v85_4 main_while0b_c_28 main_while0b_v116 (cmpi .slt : (⟨S_, .i32⟩ : BufTy).Contents (Elt F) → (⟨S_, .i32⟩ : BufTy).Contents (Elt F) → (⟨S_, .i1⟩ : BufTy).Contents (Elt F)),
    StableHlo.unary main_v85_4 main_while0b_v117 (id : (⟨S_, .i32⟩ : BufTy).Contents (Elt F) → (⟨S_, .i32⟩ : BufTy).Contents (Elt F)),
    StableHlo.nullary main_while0b_c_29 (constantI S_ 32 4096#32),
    StableHlo.binary main_while0b_v117 main_while0b_c_29 main_while0b_v118 (addi : (⟨S_, .i32⟩ : BufTy).Contents (Elt F) → (⟨S_, .i32⟩ : BufTy).Contents (Elt F) → (⟨S_, .i32⟩ : BufTy).Contents (Elt F)),
    StableHlo.ternary main_while0b_v116 main_while0b_v118 main_v85_4 main_while0b_v119 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.nullary main_while0b_c_30 (constantI S_ 32 0#32),
    StableHlo.unaryIndexed main_v85_0 ![main_while0b_c_30, main_while0b_v119] ⟨S_, .i32⟩ main_while0b_v120 ((fun x i => Host.dynamicSlice S2x1 x (fun k => (i k (Shape.Idx.first h_S_)).toInt) sliceFits_S2x4096_S2x1) : (⟨S2x4096, .i1⟩ : BufTy).Contents (Elt F) → (Fin 2 → (⟨S_, .i32⟩ : BufTy).Contents (Elt F)) → (⟨S2x1, .i1⟩ : BufTy).Contents (Elt F)),
    StableHlo.nullary main_while0b_c_31 (constantI S_ 32 0#32),
    StableHlo.binary main_v85_4 main_while0b_c_31 main_while0b_v121 (cmpi .slt : (⟨S_, .i32⟩ : BufTy).Contents (Elt F) → (⟨S_, .i32⟩ : BufTy).Contents (Elt F) → (⟨S_, .i1⟩ : BufTy).Contents (Elt F)),
    StableHlo.unary main_v85_4 main_while0b_v122 (id : (⟨S_, .i32⟩ : BufTy).Contents (Elt F) → (⟨S_, .i32⟩ : BufTy).Contents (Elt F)),
    StableHlo.nullary main_while0b_c_32 (constantI S_ 32 4096#32),
    StableHlo.binary main_while0b_v122 main_while0b_c_32 main_while0b_v123 (addi : (⟨S_, .i32⟩ : BufTy).Contents (Elt F) → (⟨S_, .i32⟩ : BufTy).Contents (Elt F) → (⟨S_, .i32⟩ : BufTy).Contents (Elt F)),
    StableHlo.ternary main_while0b_v121 main_while0b_v123 main_v85_4 main_while0b_v124 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.nullary main_while0b_c_33 (constantI S_ 32 0#32),
    StableHlo.nullary main_while0b_c_34 (constantI S_ 32 0#32),
    StableHlo.unaryIndexed main_v85_1 ![main_while0b_c_33, main_while0b_v124, main_while0b_c_34] ⟨S_, .i32⟩ main_while0b_v125 ((fun x i => Host.dynamicSlice S2x1x4096 x (fun k => (i k (Shape.Idx.first h_S_)).toInt) sliceFits_S2x4096x4096_S2x1x4096) : (⟨S2x4096x4096, .f32⟩ : BufTy).Contents (Elt F) → (Fin 3 → (⟨S_, .i32⟩ : BufTy).Contents (Elt F)) → (⟨S2x1x4096, .f32⟩ : BufTy).Contents (Elt F)),
    StableHlo.reshape main_while0b_v125 main_while0b_v126 (rfl : (.f32 : EltTy) = .f32) shapeCasts_S2x1x4096_S2x4096,
    StableHlo.unary main_while0b_v115 main_while0b_v127 (noti : (⟨S2x1, .i1⟩ : BufTy).Contents (Elt F) → (⟨S2x1, .i1⟩ : BufTy).Contents (Elt F)),
    StableHlo.binary main_while0b_v127 main_while0b_v120 main_while0b_v128 (andi : (⟨S2x1, .i1⟩ : BufTy).Contents (Elt F) → (⟨S2x1, .i1⟩ : BufTy).Contents (Elt F) → (⟨S2x1, .i1⟩ : BufTy).Contents (Elt F)),
    StableHlo.nullary main_while0b_cst_35 (constant S_ .f32 0x3C23D70A#32),
    StableHlo.unary main_while0b_cst_35 main_while0b_v129 (broadcastInDim S2x4096 ![] bcast_S_S2x4096 : (⟨S_, .f32⟩ : BufTy).Contents (Elt F) → (⟨S2x4096, .f32⟩ : BufTy).Contents (Elt F)),
    StableHlo.binary main_while0b_v126 main_while0b_v129 main_while0b_v130 (cmpf .ogt : (⟨S2x4096, .f32⟩ : BufTy).Contents (Elt F) → (⟨S2x4096, .f32⟩ : BufTy).Contents (Elt F) → (⟨S2x4096, .i1⟩ : BufTy).Contents (Elt F)),
    StableHlo.unary main_while0b_v128 main_while0b_v131 (broadcastInDim S2x4096 ![0, 1] bcast_S2x1_S2x4096_0_1 : (⟨S2x1, .i1⟩ : BufTy).Contents (Elt F) → (⟨S2x4096, .i1⟩ : BufTy).Contents (Elt F)),
    StableHlo.binary main_while0b_v131 main_while0b_v130 main_while0b_v132 (andi : (⟨S2x4096, .i1⟩ : BufTy).Contents (Elt F) → (⟨S2x4096, .i1⟩ : BufTy).Contents (Elt F) → (⟨S2x4096, .i1⟩ : BufTy).Contents (Elt F)),
    StableHlo.unary main_v85_2 main_while0b_v133 (broadcastInDim S1x4096 ![1] bcast_S4096_S1x4096_1 : (⟨S4096, .i32⟩ : BufTy).Contents (Elt F) → (⟨S1x4096, .i32⟩ : BufTy).Contents (Elt F)),
    StableHlo.unary main_v85_4 main_while0b_v134 (id : (⟨S_, .i32⟩ : BufTy).Contents (Elt F) → (⟨S_, .i32⟩ : BufTy).Contents (Elt F)),
    StableHlo.unary main_while0b_v134 main_while0b_v135 (broadcastInDim S1x4096 ![] bcast_S_S1x4096 : (⟨S_, .i32⟩ : BufTy).Contents (Elt F) → (⟨S1x4096, .i32⟩ : BufTy).Contents (Elt F)),
    StableHlo.binary main_while0b_v133 main_while0b_v135 main_while0b_v136 (cmpi .sgt : (⟨S1x4096, .i32⟩ : BufTy).Contents (Elt F) → (⟨S1x4096, .i32⟩ : BufTy).Contents (Elt F) → (⟨S1x4096, .i1⟩ : BufTy).Contents (Elt F)),
    StableHlo.unary main_while0b_v136 main_while0b_v137 (broadcastInDim S2x4096 ![0, 1] bcast_S1x4096_S2x4096_0_1 : (⟨S1x4096, .i1⟩ : BufTy).Contents (Elt F) → (⟨S2x4096, .i1⟩ : BufTy).Contents (Elt F)),
    StableHlo.binary main_while0b_v132 main_while0b_v137 main_while0b_v138 (andi : (⟨S2x4096, .i1⟩ : BufTy).Contents (Elt F) → (⟨S2x4096, .i1⟩ : BufTy).Contents (Elt F) → (⟨S2x4096, .i1⟩ : BufTy).Contents (Elt F)),
    StableHlo.binary main_v85_5 main_while0b_v138 main_while0b_v139 (ori : (⟨S2x4096, .i1⟩ : BufTy).Contents (Elt F) → (⟨S2x4096, .i1⟩ : BufTy).Contents (Elt F) → (⟨S2x4096, .i1⟩ : BufTy).Contents (Elt F)),
    StableHlo.nullary main_while0b_c_36 (constantI S_ 32 1#32),
    StableHlo.binary main_v85_3 main_while0b_c_36 main_while0b_v140 (addi : (⟨S_, .i32⟩ : BufTy).Contents (Elt F) → (⟨S_, .i32⟩ : BufTy).Contents (Elt F) → (⟨S_, .i32⟩ : BufTy).Contents (Elt F)),
    StableHlo.unary main_while0b_v140 main_v85_3 id,
    StableHlo.unary main_while0b_v110 main_v85_4 id,
    StableHlo.unary main_while0b_v139 main_v85_5 id ]

theorem trip0_sub : (trip0 : List (HloOp τ sig (Elt F))).Forall fun op => op.bufs ⊆ StableHlo.tcRefs τ sig :=
  ⟨StableHlo.nullary_bufs_sub .., StableHlo.binary_bufs_sub .., StableHlo.nullary_bufs_sub .., StableHlo.binary_bufs_sub .., StableHlo.unary_bufs_sub .., StableHlo.nullary_bufs_sub .., StableHlo.binary_bufs_sub .., StableHlo.ternary_bufs_sub .., StableHlo.nullary_bufs_sub .., StableHlo.unaryIndexed_bufs_sub .., StableHlo.nullary_bufs_sub .., StableHlo.binary_bufs_sub .., StableHlo.unary_bufs_sub .., StableHlo.nullary_bufs_sub .., StableHlo.binary_bufs_sub .., StableHlo.ternary_bufs_sub .., StableHlo.nullary_bufs_sub .., StableHlo.unaryIndexed_bufs_sub .., StableHlo.nullary_bufs_sub .., StableHlo.binary_bufs_sub .., StableHlo.unary_bufs_sub .., StableHlo.nullary_bufs_sub .., StableHlo.binary_bufs_sub .., StableHlo.ternary_bufs_sub .., StableHlo.nullary_bufs_sub .., StableHlo.nullary_bufs_sub .., StableHlo.unaryIndexed_bufs_sub .., StableHlo.reshape_bufs_sub .., StableHlo.unary_bufs_sub .., StableHlo.binary_bufs_sub .., StableHlo.nullary_bufs_sub .., StableHlo.unary_bufs_sub .., StableHlo.binary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.binary_bufs_sub .., StableHlo.nullary_bufs_sub .., StableHlo.binary_bufs_sub .., StableHlo.unary_bufs_sub .., StableHlo.unary_bufs_sub .., StableHlo.unary_bufs_sub ..⟩

/-- The loop's condition. -/
abbrev cond0 : List (HloOp τ sig (Elt F)) :=
  [ StableHlo.nullary main_while0c_c_24 (constantI S_ 32 4096#32),
    StableHlo.binary main_v85_3 main_while0c_c_24 main_while0c_v110 (cmpi .slt : (⟨S_, .i32⟩ : BufTy).Contents (Elt F) → (⟨S_, .i32⟩ : BufTy).Contents (Elt F) → (⟨S_, .i1⟩ : BufTy).Contents (Elt F)) ]

theorem cond0_sub : (cond0 : List (HloOp τ sig (Elt F))).Forall fun op => op.bufs ⊆ StableHlo.tcRefs τ sig :=
  ⟨StableHlo.nullary_bufs_sub .., StableHlo.binary_bufs_sub ..⟩

/-- The stretches before the loop. -/
abbrev preI : List (List (HloOp τ sig (Elt F))) := [pre0, pre1, pre2, pre3, pre4, pre5, pre6, pre7, pre8, pre9]

theorem preI_plain : StableHlo.Plain (preI (F := F)) :=
  .cons pre0_sub (.cons pre1_sub (.cons pre2_sub (.cons pre3_sub (.cons pre4_sub (.cons pre5_sub (.cons pre6_sub (.cons pre7_sub (.cons pre8_sub (.cons pre9_sub (.nil))))))))))

/-- The stretches after the loop. -/
abbrev postI : List (List (HloOp τ sig (Elt F))) := [post0, post1, post2, post3, post4, post5, post6, post7, post8, post9, post10, post11, post12, post13, post14, post15, post16, post17]

theorem postI_plain : StableHlo.Plain (postI (F := F)) :=
  .cons post0_sub (.cons post1_sub (.cons post2_sub (.cons post3_sub (.cons post4_sub (.cons post5_sub (.cons post6_sub (.cons post7_sub (.cons post8_sub (.cons post9_sub (.cons post10_sub (.cons post11_sub (.cons post12_sub (.cons post13_sub (.cons post14_sub (.cons post15_sub (.cons post16_sub (.cons post17_sub (.nil))))))))))))))))))

theorem tripI_plain : StableHlo.Plain [trip0 (F := F)] := .cons trip0_sub .nil

set_option maxHeartbeats 4000000 in
set_option maxRecDepth 65536 in
/-- @main is the chain of its stretches, the loop between them. -/
theorem main_chain (c : Dev nD) : main (F := F) c = (Pipeline.chain
  [ StableHlo.seq pre0,
    StableHlo.seq pre1,
    StableHlo.seq pre2,
    StableHlo.seq pre3,
    StableHlo.seq pre4,
    StableHlo.seq pre5,
    StableHlo.seq pre6,
    StableHlo.seq pre7,
    StableHlo.seq pre8,
    StableHlo.seq pre9,
    HostLoop.enter 0,
    StableHlo.seq post0,
    StableHlo.seq post1,
    StableHlo.seq post2,
    StableHlo.seq post3,
    StableHlo.seq post4,
    StableHlo.seq post5,
    StableHlo.seq post6,
    StableHlo.seq post7,
    StableHlo.seq post8,
    StableHlo.seq post9,
    StableHlo.seq post10,
    StableHlo.seq post11,
    StableHlo.seq post12,
    StableHlo.seq post13,
    StableHlo.seq post14,
    StableHlo.seq post15,
    StableHlo.seq post16,
    StableHlo.seq post17 ] : Prog (TpuEff nD τ sig (Elt F) (HostLoop.Sig (Pipeline.Sig Λ₀ (Fin 0) fun p => (pcfgs (F := F) p).Adm) 1) .tc) PUnit) := by
  rewrite [StableHlo.chain_seq_cons, Pipeline.chain_cons, StableHlo.chain_seq_cons, Pipeline.chain_cons, StableHlo.chain_seq_cons, Pipeline.chain_cons, Pipeline.chain_cons, StableHlo.chain_seq_cons, StableHlo.chain_seq_cons, StableHlo.chain_seq_cons, Pipeline.chain_cons, StableHlo.chain_seq_cons, Pipeline.chain_cons, Pipeline.chain_cons, StableHlo.chain_seq_cons, Pipeline.chain_cons, Pipeline.chain_cons, StableHlo.chain_seq_cons, Pipeline.chain_cons, StableHlo.chain_seq_cons, Pipeline.chain_cons, StableHlo.chain_seq_cons, Pipeline.chain_cons, Pipeline.chain_cons, StableHlo.chain_seq_cons, Pipeline.chain_cons, StableHlo.chain_seq_cons, Pipeline.chain_cons, StableHlo.chain_seq_cons]
  chain_rfl

set_option maxHeartbeats 4000000 in
/-- A trip of the loop is its one stretch. -/
theorem body_chain : main_while0_body (F := F) = (Pipeline.chain [ StableHlo.seq trip0 ] : Prog (TpuEff nD τ sig (Elt F) (HostLoop.Sig (Pipeline.Sig Λ₀ (Fin 0) fun p => (pcfgs (F := F) p).Adm) 1) .tc) PUnit) := by
  rewrite [StableHlo.chain_seq_cons]
  chain_rfl

end Cert.ReferenceIdeal.Nms

end
-- ==== Proof.RefRun.lean ====
/-
  The reference's run: its loop makes 4096 trips, and every buffer ends at the fold of the operations.
-/
module

public import proofs.«01_k».proof.Proof.RefOps
public import Idealize.ShloMosaic.Lib.Claim

@[expose] public section

set_option maxRecDepth 16384

noncomputable section

namespace Cert.ReferenceIdeal.Nms

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (CSeg Ticket PCfg ucRefs unscopedBufs_held sub_ucRefs)
open Idealize.ShloMosaic.StableHlo

variable {F : FTy → Type} [FloatOps F]
variable (m : (ℓ : Loc nD τ sig) → Buf (Elt F) ℓ) (ρ : Dev nD → PrngReg)

local notation "𝕄" => MT nD τ sig Unit (Elt F) ℕ (Option PUnit) ℕ

/-- The buffers before the `k`-th trip. -/
abbrev atK (k : ℕ) (c : Dev nD) : Valuation τ sig (Elt F) := atTrip cond0 [trip0] (entryContents preI m) k c

/-- The buffers at the end. -/
abbrev fin (c : Dev nD) : Valuation τ sig (Elt F) := finalContents cond0 preI [trip0] postI 4096 m c

theorem entry_counter (W : Valuation τ sig (Elt F)) :
    (after pre9 W (Proc.devRef .tc main_v85_3) : IVec S_ 32) = constantI S_ 32 0#32 := by
  unfold pre9
  after_reads_simp
  rfl

theorem trip_counter (W : Valuation τ sig (Elt F)) :
    (after trip0 (after cond0 W) (Proc.devRef .tc main_v85_3) : IVec S_ 32) = addi (W (Proc.devRef .tc main_v85_3) : IVec S_ 32) (constantI S_ 32 1#32) := by
  unfold trip0 cond0
  after_reads_simp
  rfl

/-- The loop's counter counts the trips. -/
theorem counter (c : Dev nD) : ∀ k : ℕ, (atK m k c (Proc.devRef .tc main_v85_3) : IVec S_ 32) = fun _ => BitVec.ofNat 32 k
  | 0 => by
    exact entry_counter (afterL [pre0, pre1, pre2, pre3, pre4, pre5, pre6, pre7, pre8] (launchContents m c))
  | k + 1 => by
    show (after trip0 (after cond0 (atK m k c)) (Proc.devRef .tc main_v85_3) : IVec S_ 32) = _
    rw [trip_counter, counter c k]
    funext i
    show BitVec.ofNat 32 k + 1#32 = _
    rw [show (1#32 : BitVec 32) = BitVec.ofNat 32 1 from rfl, ← BitVec.ofNat_add]

theorem lt_word (k : ℕ) (hk : k ≤ 4096) : (Scalar.cmpi .slt (BitVec.ofNat 32 k) 4096#32 = 1#1) ↔ k < 4096 := by
  have h1 : (BitVec.ofNat 32 k).toNat = k := by simp; omega
  have h2 : (BitVec.ofNat 32 k).toInt = k := by
    rw [BitVec.toInt_eq_toNat_of_lt (by rw [h1]; omega), h1]
  have h3 : (4096#32 : BitVec 32).toInt = 4096 := by decide
  rw [show Scalar.cmpi .slt (BitVec.ofNat 32 k) 4096#32 = BitVec.ofBool (decide (k < 4096)) by
    simp [Scalar.cmpi, IntOp.cmpi, BitVec.slt, h2, h3]]
  by_cases h : k < 4096 <;> simp [h]

/-- The loop's condition, run for the `k`-th time, is true exactly when `k < 4096`. -/
theorem cond_spec : CondSpec (pcfgs (F := F)) defs₀ loops main_while0_cond cond0 [trip0] (entryContents preI m) 4096 := by
  intro k hk c bd
  have hctr := counter m c k
  unfold main_while0_cond
  rw [wp_bind]
  iintro ⟨Hb, Hh⟩
  iapply (StableHlo.wp_hlo_within (Variants.lift Variants.none) (c : Thread nD τ) bd Set.univ (sub_ucRefs _ (StableHlo.nullary_bufs_sub ..))) $$ [Hb Hh]
  · isplitl [Hb] <;> iassumption
  iintro ⟨Hb, Hh⟩
  rw [wp_ret]; imodintro
  iapply (StableHlo.wp_hlo_within (Variants.lift Variants.none) (c : Thread nD τ) bd Set.univ (sub_ucRefs _ (StableHlo.binary_bufs_sub ..))) $$ [Hb Hh]
  · isplitl [Hb] <;> iassumption
  iintro ⟨Hb, Hh⟩
  erw [HostLoop.elt_apply, wp_ret]; imodintro
  isplitr
  · ipureintro
    show Iff (IntOp.cmpi .slt (HloOp.result _ (atK m k c) main_v85_3 HostLoop.idx0)
        (HloOp.result _ (atK m k c) main_while0c_c_24 HostLoop.idx0) = 1#1) (k < 4096)
    rw [StableHlo.nullary_result_ne _ _ _ _ (by decide), StableHlo.nullary_result, hctr]
    exact lt_word k hk
  isplitl [Hb]; · iexact Hb
  rw [StableHlo.after_cons, StableHlo.after_cons, StableHlo.after_nil]
  iexact Hh

/-- What stands beside the buffers: what the core owes. -/
abbrev owed (c : Dev nD) : sProp 𝕄 := iprop(∃ W, owes (c : Thread nD τ) (0 : CellTallies nD τ sig Unit) W)

/-- The condition's specification with what the core owes carried along. -/
theorem loop_cond : LoopCond (pcfgs (F := F)) defs₀ Variants.none loops owed main_while0_cond cond0 [trip0] (entryContents preI m) 4096 := by
  intro k hk c bd
  refine BIBase.Entails.trans (Q := iprop(iprop(boundary (c : Thread nD τ) ∗ held (c : Thread nD τ) (ucRefs τ sig) (atK m k c)) ∗ owed c)) ?_
    (((sep_mono_left (cond_spec m k hk c bd)).trans (wp_frame_r _ _ _)).trans (wp_mono _ _ _ fun v => ?_))
  · iintro ⟨H1, H2, H3⟩
    isplitl [H1 H2]
    · isplitl [H1] <;> iassumption
    · iexact H3
  · iintro ⟨⟨%hv, H1, H2⟩, H3⟩
    isplitr
    · ipureintro; exact hv
    isplitl [H1]
    · iexact H1
    isplitl [H2] <;> iassumption

/-- No pipeline: nothing is admitted, no ticket is held. -/
abbrev noAdm : (p : Fin 0) → (pcfgs (F := F) p).Adm := fun p => p.elim0
abbrev noTk : Fin 0 → Ticket (Ix := Unit) (Name := ℕ) (U := Option PUnit) (Lvl := ℕ) (nD := nD) (τ := τ) (pcfgs (F := F)) noAdm := fun p => p.elim0
abbrev noL : GSem nD τ sig → Finset Unit := fun _ => ∅
abbrev noLv : GSem nD τ sig → Unit → ℕ := fun _ _ => 0

/-- The reference's parts: before the loop, the loop, after it. -/
def parts : List (CSeg (pcfgs (F := F)) noAdm defs₀ Variants.none noL noLv loops noTk) :=
  segsOf _ _ _ _ _ _ _ _ owed preI preI_plain (launchContents m)
    ++ loopSeg _ _ _ _ _ _ _ _ 0 main_while0_cond main_while0_body rfl cond0 [trip0] tripI_plain body_chain 4096 (entryContents preI m) owed (loop_cond m)
      :: segsOf _ _ _ _ _ _ _ _ owed postI postI_plain (fun c => after cond0 (atK m 4096 c))

theorem parts_prog : (parts m).map CSeg.prog
    = (preI.map fun ops => (seq ops : Prog (TpuEff nD τ sig (Elt F) (HostLoop.Sig (Pipeline.Sig Λ₀ (Fin 0) fun p => (pcfgs (F := F) p).Adm) 1) .tc) PUnit))
      ++ HostLoop.enter 0 :: postI.map fun ops => (seq ops : Prog _ PUnit) := by
  unfold parts
  rw [List.map_append, List.map_cons, segsOf_prog, segsOf_prog]
  rfl

theorem parts_chain : CSeg.Chains (fun c => iprop(held (c : Thread nD τ) (ucRefs τ sig) (launchContents m c) ∗ owed c)) (parts m)
    (fun c => iprop(iprop(held (c : Thread nD τ) (ucRefs τ sig) (fin m c)) ∗ ∃ W, owes (c : Thread nD τ) (0 : CellTallies nD τ sig Unit) W)) :=
  CSeg.Chains.append (segsOf_chains _ _ _ _ _ _ _ _ owed preI preI_plain _)
    ⟨fun _ => .rfl, segsOf_chains _ _ _ _ _ _ _ _ owed postI postI_plain _⟩

/-- The run: it ends, with every buffer at `fin` and every counter at zero. -/
theorem run : θ_run (defs (F := F)) (onTc (τ := τ) (main (F := F))) ⟨m, fun _ => 0, ρ⟩
    (fun r => (∀ (c : Dev nD) (b : Ref sig .tc), (Proc.devRef .tc b : DevRef τ sig).isScoped = false →
        r.2.mem ((c.tc : Thread nD τ).loc b) = fin m c (Proc.devRef .tc b)) ∧ r.2.sem = fun _ => 0) :=
  Pipeline.θ_run_regions_loop_kit_sems (Ix := Unit) (Name := ℕ) (U := Option PUnit) (Lvl := ℕ) (J := Fin 0) (P := Fin 0) (Val := Elt F)
    (pcfgs (F := F)) noAdm (fun k => k.1.elim0) defs₀ Variants.none noL noLv loops noTk m ρ main (parts m)
    (fun c Q => by
      rw [show main (F := F) c = Pipeline.chain ((parts m).map CSeg.prog) from (main_chain c).trans (by rw [parts_prog]; rfl)]
      exact BIBase.Entails.rfl)
    (CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp 𝕄) ⊢ bigSep Finset.univ (fun _ : Dev nD => (BI.emp : sProp 𝕄)) from by rw [BI.bigSep_emp_const])
        iempintro)
    (T₀ := fun c => iprop(held (c : Thread nD τ) (ucRefs τ sig) (launchContents m c) ∗ owed c))
    (Tₙ := fun c => iprop(held (c : Thread nD τ) (ucRefs τ sig) (fin m c)))
    (hch := parts_chain m)
    (hinit := by
      refine Pipeline.initEach noL noLv fun c => ?_
      rw [show unscopedBufs c (fun b => m ((c : Thread nD τ).loc b)) = held (c : Thread nD τ) (ucRefs τ sig) (launchContents m c) from unscopedBufs_held c (launchContents m c)]
      iintro ⟨⟨Hh, -, HO, -, -, -⟩, -⟩
      imodintro
      isplitl [Hh]
      · iexact Hh
      · iexists ∅; iexact HO)
    (QY := fun c s => ∀ b ∈ ucRefs τ sig, s.mem ((c : Dev nD), b) = fin m c b)
    (hfin := fun c s' => by
      unfold held
      iintro ⟨Hh, HS⟩
      ihave Hr := (pointsTo_read_all (ucRefs τ sig) (fun b => ((c : Dev nD), b)) (fun b => fin m c b) s') $$ [Hh HS]
      · isplitl [Hh] <;> iassumption
      icases Hr with ⟨%h, HS⟩
      imodintro
      isplitr
      · ipureintro; exact h
      · iexact HS)
    (hQ := fun s h hz => ⟨fun c b hb => h c _ (devRef_mem_ucRefs b hb), funext fun g => hz g (by
      rcases g with ⟨⟨d, p⟩, q⟩
      by_cases hp : p = .tc
      · subst hp; exact .inr (by show SemLoc.isScoped .tc q = true; revert q; decide)
      · exact .inl hp)⟩)

/-- A buffer none of whose writers is in the stretches is as it was. -/
theorem afterL_untouched {b : DevRef τ sig} : ∀ (l : List (List (HloOp τ sig (Elt F)))) (W : Valuation τ sig (Elt F)),
    (∀ ops ∈ l, ∀ op ∈ ops, b ∉ op.writes) → afterL l W b = W b
  | [], _, _ => rfl
  | ops :: l, W, h => (afterL_untouched l _ fun o ho => h o (List.mem_cons_of_mem _ ho)).trans
      (after_of_forall_not_mem ops W (h ops List.mem_cons_self))

/-- The same over the loop's trips. -/
theorem atK_untouched {b : DevRef τ sig} (c : Dev nD) (hc : ∀ op ∈ (cond0 : List (HloOp τ sig (Elt F))), b ∉ op.writes)
    (ht : ∀ op ∈ (trip0 : List (HloOp τ sig (Elt F))), b ∉ op.writes) : ∀ k, atK m k c b = atK m 0 c b
  | 0 => rfl
  | k + 1 => by
    show after trip0 (after cond0 (atK m k c)) b = _
    rw [after_of_forall_not_mem _ _ ht, after_of_forall_not_mem _ _ hc]
    exact atK_untouched c hc ht k

/-! No operation writes an argument. -/

theorem preI_args (b : Ref sig .tc) (hb : b = main_arg0 ∨ b = main_arg1) :
    ∀ op ∈ (preI.flatten : List (HloOp τ sig (Elt F))), (Proc.devRef .tc b : DevRef τ sig) ∉ op.writes :=
  List.forall_iff_forall_mem.mp (by
    simp only [preI, pre0, pre1, pre2, pre3, pre4, pre5, pre6, pre7, pre8, pre9, List.flatten_cons, List.flatten_nil, List.append_nil, List.cons_append, List.nil_append, List.Forall, StableHlo.nullary_writes, StableHlo.unary_writes, StableHlo.binary_writes, StableHlo.ternary_writes, StableHlo.quaternary_writes,
    StableHlo.reshape_writes, StableHlo.binaryIndexed_writes, StableHlo.unaryIndexed_writes, StableHlo.nary_writes, Finset.mem_singleton]
    repeat' apply And.intro
    all_goals exact StableHlo.devRef_ne_of_ne (by rcases hb with rfl | rfl <;> decide))

theorem postI_args (b : Ref sig .tc) (hb : b = main_arg0 ∨ b = main_arg1) :
    ∀ op ∈ (postI.flatten : List (HloOp τ sig (Elt F))), (Proc.devRef .tc b : DevRef τ sig) ∉ op.writes :=
  List.forall_iff_forall_mem.mp (by
    simp only [postI, post0, post1, post2, post3, post4, post5, post6, post7, post8, post9, post10, post11, post12, post13, post14, post15, post16, post17, List.flatten_cons, List.flatten_nil, List.append_nil, List.cons_append, List.nil_append, List.Forall, StableHlo.nullary_writes, StableHlo.unary_writes, StableHlo.binary_writes, StableHlo.ternary_writes, StableHlo.quaternary_writes,
    StableHlo.reshape_writes, StableHlo.binaryIndexed_writes, StableHlo.unaryIndexed_writes, StableHlo.nary_writes, Finset.mem_singleton]
    repeat' apply And.intro
    all_goals exact StableHlo.devRef_ne_of_ne (by rcases hb with rfl | rfl <;> decide))

theorem trip_args (b : Ref sig .tc) (hb : b = main_arg0 ∨ b = main_arg1) :
    ∀ op ∈ (trip0 : List (HloOp τ sig (Elt F))), (Proc.devRef .tc b : DevRef τ sig) ∉ op.writes :=
  List.forall_iff_forall_mem.mp (by
    simp only [trip0, List.flatten_cons, List.flatten_nil, List.append_nil, List.cons_append, List.nil_append, List.Forall, StableHlo.nullary_writes, StableHlo.unary_writes, StableHlo.binary_writes, StableHlo.ternary_writes, StableHlo.quaternary_writes,
    StableHlo.reshape_writes, StableHlo.binaryIndexed_writes, StableHlo.unaryIndexed_writes, StableHlo.nary_writes, Finset.mem_singleton]
    repeat' apply And.intro
    all_goals exact StableHlo.devRef_ne_of_ne (by rcases hb with rfl | rfl <;> decide))

theorem cond_args (b : Ref sig .tc) (hb : b = main_arg0 ∨ b = main_arg1) :
    ∀ op ∈ (cond0 : List (HloOp τ sig (Elt F))), (Proc.devRef .tc b : DevRef τ sig) ∉ op.writes :=
  List.forall_iff_forall_mem.mp (by
    simp only [cond0, List.flatten_cons, List.flatten_nil, List.append_nil, List.cons_append, List.nil_append, List.Forall, StableHlo.nullary_writes, StableHlo.unary_writes, StableHlo.binary_writes, StableHlo.ternary_writes, StableHlo.quaternary_writes,
    StableHlo.reshape_writes, StableHlo.binaryIndexed_writes, StableHlo.unaryIndexed_writes, StableHlo.nary_writes, Finset.mem_singleton]
    repeat' apply And.intro
    all_goals exact StableHlo.devRef_ne_of_ne (by rcases hb with rfl | rfl <;> decide))

/-- An argument ends as it began. -/
theorem fin_arg (b : Ref sig .tc) (hb : b = main_arg0 ∨ b = main_arg1) (c : Dev nD) : fin m c (Proc.devRef .tc b) = m ((c.tc : Thread nD τ).loc b) := by
  show afterL postI (after cond0 (atK m 4096 c)) _ = _
  rw [afterL_eq_after_flatten, after_of_forall_not_mem _ _ (postI_args b hb), after_of_forall_not_mem _ _ (cond_args b hb),
    atK_untouched m c (cond_args b hb) (trip_args b hb)]
  show afterL preI (launchContents m c) _ = _
  rw [afterL_eq_after_flatten, after_of_forall_not_mem _ _ (preI_args b hb)]

/-- The reference ends, its arguments as they began, every counter at zero. -/
theorem frame_reference : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run (defs (F := F)) _ _).mono (fun r h => ⟨fun c => ⟨(h.1 c main_arg0 (by decide)).trans (fin_arg m _ (.inl rfl) c),
    (h.1 c main_arg1 (by decide)).trans (fin_arg m _ (.inr rfl) c)⟩, h.2⟩) (run m ρ)

end Cert.ReferenceIdeal.Nms

end
-- ==== Proof.IIn.lean ====
/-
  What the kernel is given, element by element: the rows, the labels, the coordinates in both layouts and the number of
  valid rows, in terms of the top scores, their boxes and their labels.
-/
module

public import proofs.«01_k».proof.Proof.ILaunch
public import Idealize.ShloMosaic.Lib.Pointwise
public import Idealize.ShloMosaic.Lib.IdealHost

@[expose] public section

set_option maxRecDepth 16384

noncomputable section

namespace Cert.KernelIdeal.Nms

open Cert.KernelIdeal Cert.KernelIdeal.Gen
open Idealize.ShloMosaic Idealize.ShloMosaic.TcCoe Idealize.ShloMosaic.Tactic

section Line7
variable (W : Valuation τ sig (Elt Ideal))

/-- The labels as a column. -/
theorem in_v14 (b : Fin 2) (k : Fin 4096) (z : Fin 1) :
    (StableHlo.after hostOps0_7 W (Proc.devRef .tc main_v14) : S2x4096x1.Idx → BitVec 32) (ix3 b k z)
      = (W (Proc.devRef .tc main_v13) : S2x4096.Idx → BitVec 32) (ix2 b k) := by
  have e : StableHlo.after hostOps0_7 W (Proc.devRef .tc main_v14)
      = broadcastInDim S2x4096x1 ![0, 1] bcast_S2x4096_S2x4096x1_0_1 (W (Proc.devRef .tc main_v13) : S2x4096.Idx → BitVec 32) := by
    unfold hostOps0_7
    after_reads_simp
  rw [e]
  pointwise []

/-- The coordinates, one row of boxes per coordinate. -/
def coords (v12 : S2x4096x7.Idx → EReal) : S2x4x4096.Idx → EReal :=
  concatenate S2x4x4096 1 [⟨S2x1x4096, broadcastInDim S2x1x4096 ![0, 2] bcast_S2x4096_S2x1x4096_0_2 (shapeCast S2x4096 (extractStridedSlice S2x4096x1 ![0, 0, 0] v12 slices_S2x4096x7_S2x4096x1_0_0_0) shapeCasts_S2x4096x1_S2x4096)⟩,
    ⟨S2x1x4096, broadcastInDim S2x1x4096 ![0, 2] bcast_S2x4096_S2x1x4096_0_2 (shapeCast S2x4096 (extractStridedSlice S2x4096x1 ![0, 0, 1] v12 slices_S2x4096x7_S2x4096x1_0_0_1) shapeCasts_S2x4096x1_S2x4096)⟩,
    ⟨S2x1x4096, broadcastInDim S2x1x4096 ![0, 2] bcast_S2x4096_S2x1x4096_0_2 (shapeCast S2x4096 (extractStridedSlice S2x4096x1 ![0, 0, 3] v12 slices_S2x4096x7_S2x4096x1_0_0_3) shapeCasts_S2x4096x1_S2x4096)⟩,
    ⟨S2x1x4096, broadcastInDim S2x1x4096 ![0, 2] bcast_S2x4096_S2x1x4096_0_2 (shapeCast S2x4096 (extractStridedSlice S2x4096x1 ![0, 0, 4] v12 slices_S2x4096x7_S2x4096x1_0_0_4) shapeCasts_S2x4096x1_S2x4096)⟩]
    concatenates_S2x1x4096_S2x1x4096_S2x1x4096_S2x1x4096_S2x4x4096_d1

theorem coords_x (v12 : S2x4096x7.Idx → EReal) (b : Fin 2) (k : Fin 4096) : coords v12 (ix3 b (0 : Fin 4) k) = v12 (ix3 b k (0 : Fin 7)) := by
  pointwise [coords]
theorem coords_y (v12 : S2x4096x7.Idx → EReal) (b : Fin 2) (k : Fin 4096) : coords v12 (ix3 b (1 : Fin 4) k) = v12 (ix3 b k (1 : Fin 7)) := by
  pointwise [coords]
theorem coords_dx (v12 : S2x4096x7.Idx → EReal) (b : Fin 2) (k : Fin 4096) : coords v12 (ix3 b (2 : Fin 4) k) = v12 (ix3 b k (3 : Fin 7)) := by
  pointwise [coords]
theorem coords_dy (v12 : S2x4096x7.Idx → EReal) (b : Fin 2) (k : Fin 4096) : coords v12 (ix3 b (3 : Fin 4) k) = v12 (ix3 b k (4 : Fin 7)) := by
  pointwise [coords]

theorem line7_v38 : StableHlo.after hostOps0_7 W (Proc.devRef .tc main_v38)
    = shapeCast S2x4x32x128 (coords (W (Proc.devRef .tc main_v12))) shapeCasts_S2x4x4096_S2x4x32x128 := by
  unfold hostOps0_7
  after_reads_simp
  rfl
theorem line7_v39 : StableHlo.after hostOps0_7 W (Proc.devRef .tc main_v39)
    = broadcastInDim S2x4x4096x1 ![0, 1, 2] bcast_S2x4x4096_S2x4x4096x1_0_1_2 (coords (W (Proc.devRef .tc main_v12))) := by
  unfold hostOps0_7
  after_reads_simp
  rfl

theorem in_v39 (b : Fin 2) (r : Fin 4) (k : Fin 4096) :
    (StableHlo.after hostOps0_7 W (Proc.devRef .tc main_v39) : S2x4x4096x1.Idx → EReal) (ix4 b r k (0 : Fin 1))
      = coords (W (Proc.devRef .tc main_v12)) (ix3 b r k) := by
  rw [line7_v39]
  pointwise []
theorem in_v38 (b : Fin 2) (r : Fin 4) (u : Fin 32) (v : Fin 128) :
    (StableHlo.after hostOps0_7 W (Proc.devRef .tc main_v38) : S2x4x32x128.Idx → EReal) (ix4 b r u v)
      = coords (W (Proc.devRef .tc main_v12)) (ix3 b r ⟨u.val * 128 + v.val, by omega⟩) := by
  rw [line7_v38]
  refine shapeCast_apply _ _ _ _ ?_
  simp [Shape.rowMajor_val_three, Shape.rowMajor_val_four]
  omega

/-- Row `k` of batch `b` as the kernel takes it: the score, the box, the batch number, zeros. -/
def rowOf (vals : S2x4096.Idx → EReal) (v12 : S2x4096x7.Idx → EReal) (b : Fin 2) (k : Fin 4096) (c : Fin 9) : EReal :=
  if h0 : c.val = 0 then vals (ix2 b k)
  else if h7 : c.val < 8 then v12 (ix3 b k (⟨c.val - 1, by omega⟩ : Fin 7))
  else (((BitVec.ofNat 32 b.val).toInt : ℝ) : EReal)

theorem line7_v24 : StableHlo.after hostOps0_7 W (Proc.devRef .tc main_v24)
    = concatenate S2x4096x16 2 [⟨S2x4096x1, broadcastInDim S2x4096x1 ![0, 1] bcast_S2x4096_S2x4096x1_0_1 (W (Proc.devRef .tc main_values) : S2x4096.Idx → EReal)⟩,
        ⟨S2x4096x7, (W (Proc.devRef .tc main_v12) : S2x4096x7.Idx → EReal)⟩,
        ⟨S2x4096x1, broadcastInDim S2x4096x1 ![0, 1, 2] bcast_S2x1x1_S2x4096x1_0_1_2 (broadcastInDim S2x1x1 ![0] bcast_S2_S2x1x1_0 (sitofp (F := Ideal) .f32 (iotaInDim S2 32 0)))⟩,
        ⟨S2x4096x7, broadcastInDim S2x4096x7 ![] bcast_S_S2x4096x7 (constant (F := Ideal) S_ .f32 0x00000000#32)⟩]
        concatenates_S2x4096x1_S2x4096x7_S2x4096x1_S2x4096x7_S2x4096x16_d2 := by
  unfold hostOps0_7
  after_reads_simp
  rfl

theorem in_v24 (b : Fin 2) (k : Fin 4096) (c : Fin 9) :
    (StableHlo.after hostOps0_7 W (Proc.devRef .tc main_v24) : S2x4096x16.Idx → EReal) (ix3 b k (⟨c.val, by omega⟩ : Fin 16))
      = rowOf (W (Proc.devRef .tc main_values)) (W (Proc.devRef .tc main_v12)) b k c := by
  rw [line7_v24]
  fin_cases c
  all_goals pointwise [rowOf]
  all_goals rfl

end Line7

end Cert.KernelIdeal.Nms
-- ==== Proof.Take.lean ====
/-
  Rows taken at word indices: in range, the wrapped index is the index, the range test passes, and the gather reads the
  row at the index.
-/
module

public import Idealize.ShloMosaic.Lib.Pointwise

@[expose] public section

set_option maxRecDepth 16384

noncomputable section

namespace Cert.Nms

open Idealize.ShloMosaic Idealize.ShloMosaic.TcCoe

/-! ## Which element a batched gather reads -/

theorem siCoord_val {s si t : Shape} (d : GatherDims s si t) (j : t.Idx) (b : Fin si.rank) (hb) (n : ℕ) (hn : d.siKept.idxOf b = n)
    (a : Fin t.rank) (h : d.batchDims[n]? = some a) : (d.siCoord j b hb).val = (j a).val := by
  subst hn
  rw [List.getElem?_eq_some_iff] at h
  obtain ⟨h1, h2⟩ := h
  subst h2
  rfl

/-- Rows of seven numbers, one batch axis, `M` rows taken out of `N`. -/
def dims7 (N M : ℕ) (wf : GatherDims.WF ⟨3, ![2, N, 7]⟩ ⟨3, ![2, M, 1]⟩ ⟨3, ![2, M, 7]⟩ [2] [1] [0] [1] [0] 2 ![1, 1, 7]) :
    GatherDims ⟨3, ![2, N, 7]⟩ ⟨3, ![2, M, 1]⟩ ⟨3, ![2, M, 7]⟩ where
  offsetDims := [2]
  collapsedSliceDims := [1]
  operandBatchingDims := [0]
  startIndicesBatchingDims := [0]
  startIndexMap := [1]
  indexVectorDim := 2
  sliceSizes := ![1, 1, 7]
  wf := wf

/-- Single elements, one batch axis, `M` taken out of `N`. -/
def dims1 (N M : ℕ) (wf : GatherDims.WF ⟨2, ![2, N]⟩ ⟨3, ![2, M, 1]⟩ ⟨2, ![2, M]⟩ [] [1] [0] [1] [0] 2 ![1, 1]) :
    GatherDims ⟨2, ![2, N]⟩ ⟨3, ![2, M, 1]⟩ ⟨2, ![2, M]⟩ where
  offsetDims := []
  collapsedSliceDims := [1]
  operandBatchingDims := [0]
  startIndicesBatchingDims := [0]
  startIndexMap := [1]
  indexVectorDim := 2
  sliceSizes := ![1, 1]
  wf := wf

section Read
variable {N M : ℕ} {α : Type} (hN : 0 < N)

theorem toInt_toNat {w : BitVec 32} (h : w.toNat < 2 ^ 31) : w.toInt.toNat = w.toNat := by
  rw [BitVec.toInt_eq_toNat_cond]; split <;> omega

theorem gather7 (wf) (x : (⟨3, ![2, N, 7]⟩ : Shape).Idx → α) (idx : (⟨3, ![2, M, 1]⟩ : Shape).Idx → BitVec 32) (b : Fin 2) (i : Fin M) (c : Fin 7)
    (n : Fin N) (hn : (idx (ix3 b i (0 : Fin 1))).toNat = n.val) (hN : N ≤ 2 ^ 31) :
    Host.gather (dims7 N M wf) x idx (ix3 b i c) = x (ix3 b n c) := by
  have hidx : ∀ (z : Fin (dims7 N M wf).startIndexMap.length), (dims7 N M wf).siIdx (ix3 b i c) z = ix3 b i (0 : Fin 1) := by
    intro z
    have hz : z.val = 0 := by have : z.val < 1 := z.isLt; omega
    funext a; fin_cases a
    · exact Fin.ext (siCoord_val (dims7 N M wf) (ix3 b i c) 0 (show (0 : Fin 3) ∈ ([0, 1] : List (Fin 3)) by decide) 0 rfl 0 rfl)
    · exact Fin.ext (siCoord_val (dims7 N M wf) (ix3 b i c) 1 (show (1 : Fin 3) ∈ ([0, 1] : List (Fin 3)) by decide) 1 rfl 1 rfl)
    · exact Fin.ext hz
  unfold Host.gather
  congr 1
  funext a; fin_cases a
  · refine Fin.ext ?_
    show (dims7 N M wf).start _ _ 0 + (dims7 N M wf).batchCoord _ 0 + (dims7 N M wf).offCoord _ 0 = b.val
    have h1 : (dims7 N M wf).start (ix3 b i c) idx 0 = 0 := rfl
    have h2 : (dims7 N M wf).batchCoord (ix3 b i c) 0 = b.val := siCoord_val (dims7 N M wf) (ix3 b i c) 0 _ 0 rfl 0 rfl
    have h3 : (dims7 N M wf).offCoord (ix3 b i c) 0 = 0 := rfl
    omega
  · refine Fin.ext ?_
    show (dims7 N M wf).start _ _ 1 + (dims7 N M wf).batchCoord _ 1 + (dims7 N M wf).offCoord _ 1 = n.val
    have h1 : (dims7 N M wf).start (ix3 b i c) idx 1 = min (idx ((dims7 N M wf).siIdx (ix3 b i c) ⟨0, Nat.one_pos⟩)).toInt.toNat (N - 1) := rfl
    have h2 : (dims7 N M wf).batchCoord (ix3 b i c) 1 = 0 := rfl
    have h3 : (dims7 N M wf).offCoord (ix3 b i c) 1 = 0 := rfl
    have hlt := n.isLt
    rw [h1, h2, h3, hidx, toInt_toNat (by omega), hn]; omega
  · refine Fin.ext ?_
    show (dims7 N M wf).start _ _ 2 + (dims7 N M wf).batchCoord _ 2 + (dims7 N M wf).offCoord _ 2 = c.val
    have h1 : (dims7 N M wf).start (ix3 b i c) idx 2 = 0 := rfl
    have h2 : (dims7 N M wf).batchCoord (ix3 b i c) 2 = 0 := rfl
    have h3 : (dims7 N M wf).offCoord (ix3 b i c) 2 = c.val := rfl
    omega

theorem gather1 (wf) (x : (⟨2, ![2, N]⟩ : Shape).Idx → α) (idx : (⟨3, ![2, M, 1]⟩ : Shape).Idx → BitVec 32) (b : Fin 2) (i : Fin M)
    (n : Fin N) (hn : (idx (ix3 b i (0 : Fin 1))).toNat = n.val) (hN : N ≤ 2 ^ 31) :
    Host.gather (dims1 N M wf) x idx (ix2 b i) = x (ix2 b n) := by
  have hidx : ∀ (z : Fin (dims1 N M wf).startIndexMap.length), (dims1 N M wf).siIdx (ix2 b i) z = ix3 b i (0 : Fin 1) := by
    intro z
    have hz : z.val = 0 := by have : z.val < 1 := z.isLt; omega
    funext a; fin_cases a
    · exact Fin.ext (siCoord_val (dims1 N M wf) (ix2 b i) 0 (show (0 : Fin 3) ∈ ([0, 1] : List (Fin 3)) by decide) 0 rfl 0 rfl)
    · exact Fin.ext (siCoord_val (dims1 N M wf) (ix2 b i) 1 (show (1 : Fin 3) ∈ ([0, 1] : List (Fin 3)) by decide) 1 rfl 1 rfl)
    · exact Fin.ext hz
  unfold Host.gather
  congr 1
  funext a; fin_cases a
  · refine Fin.ext ?_
    show (dims1 N M wf).start _ _ 0 + (dims1 N M wf).batchCoord _ 0 + (dims1 N M wf).offCoord _ 0 = b.val
    have h1 : (dims1 N M wf).start (ix2 b i) idx 0 = 0 := rfl
    have h2 : (dims1 N M wf).batchCoord (ix2 b i) 0 = b.val := siCoord_val (dims1 N M wf) (ix2 b i) 0 _ 0 rfl 0 rfl
    have h3 : (dims1 N M wf).offCoord (ix2 b i) 0 = 0 := rfl
    omega
  · refine Fin.ext ?_
    show (dims1 N M wf).start _ _ 1 + (dims1 N M wf).batchCoord _ 1 + (dims1 N M wf).offCoord _ 1 = n.val
    have h1 : (dims1 N M wf).start (ix2 b i) idx 1 = min (idx ((dims1 N M wf).siIdx (ix2 b i) ⟨0, Nat.one_pos⟩)).toInt.toNat (N - 1) := rfl
    have h2 : (dims1 N M wf).batchCoord (ix2 b i) 1 = 0 := rfl
    have h3 : (dims1 N M wf).offCoord (ix2 b i) 1 = 0 := rfl
    have hlt := n.isLt
    rw [h1, h2, h3, hidx, toInt_toNat (by omega), hn]; omega

end Read

/-! ## The wrapping of negative indices and the range test -/

section Range
variable {s t u : Shape}

theorem wrap_id (v z n : s.Idx → BitVec 32) (hz : ∀ y, z y = 0#32) (hv : ∀ y, (v y).toNat < 2 ^ 31) :
    select (cmpi .slt v z) (addi v n) v = v := by
  funext y
  show (if BitVec.ofBool (BitVec.slt (v y) (z y)) = 1#1 then _ else v y) = v y
  rw [if_neg]
  rw [hz]
  have h : BitVec.slt (v y) 0#32 = false := by
    have e : (v y).toInt = (v y).toNat := by rw [BitVec.toInt_eq_toNat_cond]; have := hv y; split <;> omega
    simp [BitVec.slt, e]
  rw [h]; decide

theorem in_range (v lo hi : s.Idx → BitVec 32) (N : ℕ) (hN : N < 2 ^ 31) (hlo : ∀ y, lo y = 0#32) (hhi : ∀ y, hi y = BitVec.ofNat 32 N)
    (hv : ∀ y, (v y).toNat ≤ N) : andi (cmpi .sge v lo) (cmpi .sle v hi) = fun _ => 1#1 := by
  funext y
  show BitVec.ofBool (BitVec.sle (lo y) (v y)) &&& BitVec.ofBool (BitVec.sle (v y) (hi y)) = 1#1
  rw [hlo, hhi]
  have h0 := hv y
  have e : (v y).toInt = (v y).toNat := by rw [BitVec.toInt_eq_toNat_cond]; split <;> omega
  have eN : (BitVec.ofNat 32 N).toInt = N := by
    rw [BitVec.toInt_eq_toNat_cond, BitVec.toNat_ofNat]; split <;> omega
  have h1 : BitVec.sle 0#32 (v y) = true := by simp [BitVec.sle, e]
  have h2 : BitVec.sle (v y) (BitVec.ofNat 32 N) = true := by simp only [BitVec.sle, e, eN]; simpa using h0
  rw [h1, h2]; decide

theorem and_ones {axes : List (Fin s.rank)} (v : u.Idx → BitVec 1) (h : s.ReducesTo axes t) (hu : 0 < u.numel) (hv : ∀ y, v y = 1#1) :
    Host.reduce IntOp.andi (fun _ : s.Idx => 1#1) v h hu = fun _ => 1#1 := by
  funext j
  rw [Host.reduce_eq_foldl, hv]
  generalize (List.filter _ _ : List _) = l
  induction l with
  | nil => rfl
  | cons a l ih => exact ih

theorem select_ones {α : Type} (m : s.Idx → BitVec 1) (x y : s.Idx → α) (hm : ∀ j, m j = 1#1) : select m x y = x := by
  funext j
  show (if m j = 1#1 then x j else y j) = x j
  rw [if_pos (hm j)]

end Range

/-! ## The whole of `take_along_axis` -/

section Whole
variable (N M : ℕ) {α : Type}

/-- The index words with negative ones wrapped around. -/
def wrapped (s : Shape) (h0 : (⟨0, ![]⟩ : Shape).BroadcastsInDim s ![]) (v : s.Idx → BitVec 32) : s.Idx → BitVec 32 :=
  select (cmpi .slt v (broadcastInDim s ![] h0 (constantI ⟨0, ![]⟩ 32 0#32)))
    (addi v (broadcastInDim s ![] h0 (constantI ⟨0, ![]⟩ 32 (BitVec.ofNat 32 N)))) v

/-- Whether a wrapped index is in range. -/
def rangeBit (h0 : (⟨0, ![]⟩ : Shape).BroadcastsInDim ⟨3, ![2, M, 1]⟩ ![]) (h1 : (⟨1, ![1]⟩ : Shape).BroadcastsInDim ⟨3, ![1, 1, 1]⟩ ![2])
    (h2 : (⟨3, ![1, 1, 1]⟩ : Shape).BroadcastsInDim ⟨3, ![2, M, 1]⟩ ![0, 1, 2]) (hr : (⟨3, ![2, M, 1]⟩ : Shape).ReducesTo [2] ⟨2, ![2, M]⟩)
    (hu : 0 < (⟨0, ![]⟩ : Shape).numel) (v : (⟨3, ![2, M, 1]⟩ : Shape).Idx → BitVec 32) : (⟨2, ![2, M]⟩ : Shape).Idx → BitVec 1 :=
  Host.reduce IntOp.andi (andi (cmpi .sge v (broadcastInDim ⟨3, ![2, M, 1]⟩ ![] h0 (constantI ⟨0, ![]⟩ 32 0#32)))
    (cmpi .sle v (broadcastInDim ⟨3, ![2, M, 1]⟩ ![0, 1, 2] h2 (broadcastInDim ⟨3, ![1, 1, 1]⟩ ![2] h1 (constantI ⟨1, ![1]⟩ 32 (BitVec.ofNat 32 (N - 1)))))))
    (constantI ⟨0, ![]⟩ 1 1#1) hr hu

theorem wrapped_id (s : Shape) (h0) (v : s.Idx → BitVec 32) (hv : ∀ y, (v y).toNat < 2 ^ 31) : wrapped N s h0 v = v :=
  wrap_id _ _ _ (fun _ => rfl) hv

theorem rangeBit_one (h0 h1 h2 hr hu) (v : (⟨3, ![2, M, 1]⟩ : Shape).Idx → BitVec 32) (hN : N < 2 ^ 31) (hv : ∀ y, (v y).toNat < N) :
    rangeBit N M h0 h1 h2 hr hu v = fun _ => 1#1 := by
  unfold rangeBit
  refine (congrArg (fun z => Host.reduce IntOp.andi z _ hr hu) (in_range v _ _ (N - 1) (by omega) (fun _ => rfl) (fun _ => rfl)
    (fun y => by have := hv y; omega))).trans ?_
  exact and_ones _ _ _ (fun _ => rfl)

end Whole

end Cert.Nms
-- ==== Proof.Tops.lean ====
/-
  The top scores: which rows they are of, that they descend, and that the valid ones are the first so many.
-/
module

public import Idealize.ShloMosaic.Lib.Pointwise
public import Idealize.ShloMosaic.Lib.IdealHost
public import Idealize.ShloMosaic.Lib.SortFacts

@[expose] public section

set_option maxRecDepth 16384

noncomputable section

namespace Cert.Nms

open Idealize.ShloMosaic Idealize.ShloMosaic.TcCoe
open Classical

theorem along_ix2 {N : ℕ} (b : Fin 2) (k z : Fin N) : (ix2 b z : (⟨2, ![2, N]⟩ : Shape).Idx).along (1 : Fin 2) k = ix2 b k := by
  funext a; fin_cases a <;> rfl

/-- A row of a sort of pairs. -/
theorem sort2_read {N : ℕ} {α β : Type} (cmp : α × β → α × β → BitVec 1) (x : (⟨2, ![2, N]⟩ : Shape).Idx → α) (y : (⟨2, ![2, N]⟩ : Shape).Idx → β)
    (b : Fin 2) (i : Fin N) :
    (Host.sort2 ⟨2, ![2, N]⟩ 1 cmp x y).1 (ix2 b i)
        = x (ix2 b (sortedFrom (fun k k' => cmp (x (ix2 b k), y (ix2 b k)) (x (ix2 b k'), y (ix2 b k')) == 1#1) i))
    ∧ (Host.sort2 ⟨2, ![2, N]⟩ 1 cmp x y).2 (ix2 b i)
        = y (ix2 b (sortedFrom (fun k k' => cmp (x (ix2 b k), y (ix2 b k)) (x (ix2 b k'), y (ix2 b k')) == 1#1) i)) := by
  have h1 : 1 < (⟨2, ![2, N]⟩ : Shape).rank := Nat.one_lt_two
  have e : ∀ k : Fin N, (ix2 b i : (⟨2, ![2, N]⟩ : Shape).Idx).along ⟨1, h1⟩ k = ix2 b k := fun k => along_ix2 b k i
  unfold Host.sort2
  rw [dif_pos h1]
  constructor
  · show x ((ix2 b i : (⟨2, ![2, N]⟩ : Shape).Idx).along ⟨1, h1⟩ (sortedFrom (n := N) (fun k k' => cmp (x ((ix2 b i : (⟨2, ![2, N]⟩ : Shape).Idx).along ⟨1, h1⟩ k), y ((ix2 b i : (⟨2, ![2, N]⟩ : Shape).Idx).along ⟨1, h1⟩ k)) (x ((ix2 b i : (⟨2, ![2, N]⟩ : Shape).Idx).along ⟨1, h1⟩ k'), y ((ix2 b i : (⟨2, ![2, N]⟩ : Shape).Idx).along ⟨1, h1⟩ k')) == 1#1) i)) = _
    simp only [e]
  · show y ((ix2 b i : (⟨2, ![2, N]⟩ : Shape).Idx).along ⟨1, h1⟩ (sortedFrom (n := N) (fun k k' => cmp (x ((ix2 b i : (⟨2, ![2, N]⟩ : Shape).Idx).along ⟨1, h1⟩ k), y ((ix2 b i : (⟨2, ![2, N]⟩ : Shape).Idx).along ⟨1, h1⟩ k)) (x ((ix2 b i : (⟨2, ![2, N]⟩ : Shape).Idx).along ⟨1, h1⟩ k'), y ((ix2 b i : (⟨2, ![2, N]⟩ : Shape).Idx).along ⟨1, h1⟩ k')) == 1#1) i)) = _
    simp only [e]

/-- The row of the `i`-th greatest score of batch `b`. -/
def pick {N M : ℕ} (hMN : M ≤ N) (x : (⟨2, ![2, N]⟩ : Shape).Idx → EReal) (b : Fin 2) (i : Fin M) : Fin N :=
  sortedFrom (fun k k' => FloatOps.cmpfTotal (F := Ideal) (φ := .f32) .gt (x (ix2 b k)) (x (ix2 b k')) == 1#1) (i.castLE hMN)

theorem slice_ix2 {α : Type} {N M : ℕ} (f : (⟨2, ![2, N]⟩ : Shape).Idx → α) (h : (⟨2, ![2, N]⟩ : Shape).Slices (fun _ => 0) ⟨2, ![2, M]⟩)
    (b : Fin 2) (i : Fin M) (hi : i.val < N) : extractStridedSlice ⟨2, ![2, M]⟩ (fun _ => 0) f h (ix2 b i) = f (ix2 b (⟨i.val, hi⟩ : Fin N)) := by
  unfold extractStridedSlice
  congr 1
  funext a; fin_cases a
  · exact Fin.ext (Nat.zero_add _)
  · exact Fin.ext (Nat.zero_add _)

section TopK
variable {N M : ℕ} (hMN : M ≤ N) (hN : N < 2 ^ 32) (x : (⟨2, ![2, N]⟩ : Shape).Idx → EReal) (h : (⟨2, ![2, N]⟩ : Shape).Slices (fun _ => 0) ⟨2, ![2, M]⟩)
  (b : Fin 2) (i : Fin M)

theorem topK_value : (Host.topK (α := EReal) ⟨2, ![2, M]⟩ 1 (FloatOps.cmpfTotal (F := Ideal) (φ := .f32) .gt) x h).1 (ix2 b i) = x (ix2 b (pick hMN x b i)) := by
  unfold Host.topK
  have hi := i.isLt
  exact (slice_ix2 _ h b i (by omega)).trans (sort2_read (fun (l r : EReal × BitVec 32) => FloatOps.cmpfTotal (F := Ideal) (φ := .f32) .gt l.1 r.1) x
    (fun i => if hd : 1 < (⟨2, ![2, N]⟩ : Shape).rank then iotaInDim ⟨2, ![2, N]⟩ 32 ⟨1, hd⟩ i else 0#32) b (i.castLE hMN)).1

include hN in
theorem topK_index : ((Host.topK (α := EReal) ⟨2, ![2, M]⟩ 1 (FloatOps.cmpfTotal (F := Ideal) (φ := .f32) .gt) x h).2 (ix2 b i)).toNat = (pick hMN x b i).val := by
  unfold Host.topK
  have hi := i.isLt
  have e := (slice_ix2 _ h b i (by omega)).trans (sort2_read (fun (l r : EReal × BitVec 32) => FloatOps.cmpfTotal (F := Ideal) (φ := .f32) .gt l.1 r.1) x
    (fun i => if hd : 1 < (⟨2, ![2, N]⟩ : Shape).rank then iotaInDim ⟨2, ![2, N]⟩ 32 ⟨1, hd⟩ i else 0#32) b (i.castLE hMN)).2
  refine (congrArg BitVec.toNat e).trans ?_
  have hlt := (pick hMN x b i).isLt
  show (BitVec.ofNat 32 (pick hMN x b i).val).toNat = _
  rw [BitVec.toNat_ofNat]; omega

theorem gt_bit (a c : EReal) : (FloatOps.cmpfTotal (F := Ideal) (φ := .f32) .gt a c == 1#1) = decide (c < a) := by
  show (BitVec.ofBool (decide (c < a)) == 1#1) = _
  by_cases hh : c < a <;> simp [hh]

theorem pick_desc (j : Fin M) (hij : i ≤ j) : x (ix2 b (pick hMN x b j)) ≤ x (ix2 b (pick hMN x b i)) := by
  rcases hij.eq_or_lt with e | hlt
  · rw [e]
  have := sortedFrom_noInversion (n := N) (fun k k' => FloatOps.cmpfTotal (F := Ideal) (φ := .f32) .gt (x (ix2 b k)) (x (ix2 b k')) == 1#1)
    (fun k k' => FloatOps.cmpfTotal (F := Ideal) (φ := .f32) .gt (x (ix2 b k)) (x (ix2 b k')) == 1#1) ?_ (fun _ _ h => h) ?_ (i.castLE hMN) (j.castLE hMN) hlt
  · simp only [gt_bit, decide_eq_false_iff_not, not_lt] at this
    unfold pick
    simp only [gt_bit]
    exact this
  · intro a c h1
    simp only [gt_bit, decide_eq_true_eq, decide_eq_false_iff_not, not_lt] at h1 ⊢
    exact h1.le
  · intro a c d h1 h2
    simp only [gt_bit, decide_eq_false_iff_not, not_lt] at h1 h2 ⊢
    exact h1.trans h2

end TopK

/-! ## A downward closed set of rows is the first so many -/

theorem first_card {N : ℕ} (P : Fin N → Prop) (hP : ∀ i j, i ≤ j → P j → P i) (k : Fin N) :
    P k ↔ k.val < (Finset.univ.filter P).card := by
  constructor
  · intro h
    have : Finset.Iic k ⊆ Finset.univ.filter P := fun i hi => by
      simp only [Finset.mem_filter, Finset.mem_univ, true_and]
      exact hP i k (Finset.mem_Iic.1 hi) h
    have := Finset.card_le_card this
    rw [Fin.card_Iic] at this
    omega
  · intro h
    by_contra hn
    have : Finset.univ.filter P ⊆ Finset.Iio k := fun i hi => by
      simp only [Finset.mem_filter, Finset.mem_univ, true_and] at hi
      rw [Finset.mem_Iio]
      by_contra hki
      exact hn (hP k i (not_lt.1 hki) hi)
    have := Finset.card_le_card this
    rw [Fin.card_Iio] at this
    omega

/-- Ones counted in words. -/
theorem fold_count {ι : Type} [DecidableEq ι] (s : Finset ι) (x : ι → BitVec 32) (P : ι → Prop) (hx : ∀ i, x i = if P i then 1#32 else 0#32)
    (hs : s.card < 2 ^ 32) : (s.fold IntOp.addi 0#32 x).toNat = (s.filter P).card := by
  induction s using Finset.induction_on with
  | empty => simp
  | insert a s ha ih =>
    rw [Finset.card_insert_of_notMem ha] at hs
    have ih := ih (by omega)
    have hle : (s.filter P).card ≤ s.card := Finset.card_filter_le _ _
    rw [Finset.fold_insert ha, Finset.filter_insert]
    show (x a + s.fold IntOp.addi 0#32 x).toNat = _
    rw [BitVec.toNat_add, ih, hx a]
    by_cases hP : P a
    · rw [if_pos hP, if_pos hP, Finset.card_insert_of_notMem (fun h => ha (Finset.mem_filter.1 h).1)]
      show (1 + _) % _ = _
      omega
    · rw [if_neg hP, if_neg hP]
      show (0 + _) % _ = _
      omega

end Cert.Nms
-- ==== Proof.Boxes.lean ====
/-
  Boxes over the extended reals: for boxes with finite centres and an area of at least the reference's guard, "overlap over
  union above the threshold" is "overlap above threshold times union". Sizes may be infinite, or both negative.
-/
module

public import Idealize.ShloMosaic.Lib.Pointwise
public import Idealize.ShloMosaic.Lib.IdealHost

@[expose] public section

noncomputable section

namespace Cert.Nms

open Idealize.ShloMosaic

/-- The constants of the two programs: one half, the threshold, the guard of the division. -/
abbrev cHalf : EReal := Ideal.ofBits .f32 0x3F000000#32
abbrev cThr : EReal := Ideal.ofBits .f32 0x3C23D70A#32
abbrev cEps : EReal := Ideal.ofBits .f32 0x322BCC77#32

theorem half_real : cHalf = (((1 : ℝ) / 2 : ℝ) : EReal) := by
  simp [Ideal.ofBits, Ideal.ieee, -EReal.coe_mul]; norm_num

theorem thr_real : ∃ r : ℝ, cThr = (r : EReal) ∧ 0 < r := by
  simp only [Ideal.ofBits, Ideal.ieee]
  simp [-EReal.coe_mul]

theorem eps_real : ∃ r : ℝ, cEps = (r : EReal) ∧ 0 < r := by
  simp only [Ideal.ofBits, Ideal.ieee]
  simp [-EReal.coe_mul]

/-- A box: the centre and the sizes. -/
structure Box where
  x : EReal
  y : EReal
  dx : EReal
  dy : EReal

namespace Box

variable (a b : Box)

def x1 : EReal := a.x - a.dx * cHalf
def x2 : EReal := a.x + a.dx * cHalf
def y1 : EReal := a.y - a.dy * cHalf
def y2 : EReal := a.y + a.dy * cHalf
def area : EReal := (a.x2 - a.x1) * (a.y2 - a.y1)

/-- The area that two boxes share. -/
def overlap : EReal := max (min a.x2 b.x2 - max a.x1 b.x1) 0 * max (min a.y2 b.y2 - max a.y1 b.y1) 0

/-- Overlap over union is above the threshold, the union guarded. -/
def hits : Prop := cThr < Ideal.div (a.overlap b) (max (a.area + b.area - a.overlap b) cEps)

/-- The same without a division. -/
def hitsMul : Prop := cThr * (b.area + a.area - b.overlap a) < b.overlap a

/-- What is asked of a box. -/
structure Sane : Prop where
  x : ∃ r : ℝ, a.x = r
  y : ∃ r : ℝ, a.y = r
  big : cEps ≤ a.dx * a.dy

theorem overlap_comm : b.overlap a = a.overlap b := by
  unfold overlap
  rw [min_comm b.x2, max_comm b.x1, min_comm b.y2, max_comm b.y1]

end Box

/-- The two ends of a segment with a finite centre are as far apart as its length says, be it infinite or negative. -/
theorem ends_apart (x : ℝ) (d : EReal) : ((x : EReal) + d * cHalf) - ((x : EReal) - d * cHalf) = d := by
  rw [half_real]
  induction d using EReal.rec with
  | bot => rw [EReal.bot_mul_coe_of_pos (by norm_num)]; simp
  | coe d =>
    simp only [← EReal.coe_mul, ← EReal.coe_add, ← EReal.coe_sub]
    congr 1; ring
  | top => rw [EReal.top_mul_coe_of_pos (by norm_num)]; simp

/-- The product of two lengths cut off at 0 is at most their own product, where that is positive. -/
theorem cut_mul_le (d e : EReal) (h : 0 < d * e) : max d 0 * max e 0 ≤ d * e := by
  rcases EReal.mul_pos_iff.1 h with ⟨hd, he⟩ | ⟨hd, he⟩
  · rw [max_eq_left hd.le, max_eq_left he.le]
  · rw [max_eq_right hd.le, zero_mul]; exact h.le

namespace Box

variable {a b : Box}

theorem Sane.wide (h : a.Sane) : a.x2 - a.x1 = a.dx := by
  obtain ⟨x, hx⟩ := h.x
  rw [Box.x2, Box.x1, hx, ends_apart]

theorem Sane.high (h : a.Sane) : a.y2 - a.y1 = a.dy := by
  obtain ⟨y, hy⟩ := h.y
  rw [Box.y2, Box.y1, hy, ends_apart]

theorem Sane.area_eq (h : a.Sane) : a.area = a.dx * a.dy := by rw [Box.area, h.wide, h.high]

theorem overlap_nonneg : 0 ≤ a.overlap b := mul_nonneg (le_max_right _ _) (le_max_right _ _)

/-- The area that two boxes share is at most the area of the first. -/
theorem Sane.overlap_le (h : a.Sane) : a.overlap b ≤ a.area := by
  obtain ⟨e, he, he0⟩ := eps_real
  have hpos : 0 < a.dx * a.dy := lt_of_lt_of_le (by rw [he]; exact EReal.coe_pos.2 he0) h.big
  rw [h.area_eq]
  refine le_trans (mul_le_mul ?_ ?_ (le_max_right _ _) (le_max_right _ _)) (cut_mul_le _ _ hpos)
  · exact max_le_max_right 0 (h.wide ▸ EReal.sub_le_sub (min_le_left _ _) (le_max_left _ _))
  · exact max_le_max_right 0 (h.high ▸ EReal.sub_le_sub (min_le_left _ _) (le_max_left _ _))

end Box

/-- The two tests agree wherever the areas are at least the guard and the shared area is no larger than either. -/
theorem tests_agree (A B o : EReal) (hA : cEps ≤ A) (hB : cEps ≤ B) (h0 : 0 ≤ o) (hoA : o ≤ A) (hoB : o ≤ B) :
    cThr < Ideal.div o (max (A + B - o) cEps) ↔ cThr * (A + B - o) < o := by
  obtain ⟨t, ht, ht0⟩ := thr_real
  obtain ⟨e, he, he0⟩ := eps_real
  rw [he] at hA hB ⊢
  rw [ht]
  have hAb : A ≠ ⊥ := fun h => by simp [h] at hA
  have hBb : B ≠ ⊥ := fun h => by simp [h] at hB
  have hob : o ≠ ⊥ := fun h => by simp [h] at h0
  by_cases ho : o = ⊤
  · subst ho
    have hA' := top_le_iff.1 hoA
    have hB' := top_le_iff.1 hoB
    subst hA' hB'
    rw [EReal.top_add_top, EReal.sub_top, max_eq_right bot_le, EReal.coe_mul_bot_of_pos ht0, Ideal.div_coe he0.ne',
      EReal.top_mul_coe_of_pos (by positivity)]
    exact iff_of_true (EReal.coe_lt_top t) bot_lt_top
  lift o to ℝ using ⟨ho, hob⟩
  by_cases hs : A + B = ⊤
  · rw [hs, EReal.top_sub_coe, max_eq_left le_top, EReal.coe_mul_top_of_pos ht0]
    refine iff_of_false ?_ not_top_lt
    rw [Ideal.div, if_neg EReal.top_ne_zero, EReal.inv_top, mul_zero]
    exact not_lt.2 (EReal.coe_nonneg.2 ht0.le)
  have hAt : A ≠ ⊤ := fun h => hs (by rw [h, EReal.top_add_of_ne_bot hBb])
  have hBt : B ≠ ⊤ := fun h => hs (by rw [h, EReal.add_top_of_ne_bot hAb])
  lift A to ℝ using ⟨hAt, hAb⟩
  lift B to ℝ using ⟨hBt, hBb⟩
  rw [EReal.coe_le_coe_iff] at hA hB hoA hoB
  have hbig : e ≤ A + B - o := by linarith
  have hpos : 0 < A + B - o := by linarith
  rw [← EReal.coe_add, ← EReal.coe_sub, max_eq_left (EReal.coe_le_coe_iff.2 hbig), Ideal.div_coe hpos.ne', ← EReal.coe_mul, ← EReal.coe_mul,
    EReal.coe_lt_coe_iff, EReal.coe_lt_coe_iff, mul_one_div, lt_div_iff₀ hpos]

theorem Box.hits_iff (a b : Box) (ha : a.Sane) (hb : b.Sane) : a.hits b ↔ a.hitsMul b := by
  rw [Box.hits, Box.hitsMul, Box.overlap_comm a b, add_comm b.area]
  exact tests_agree _ _ _ (ha.area_eq ▸ ha.big) (hb.area_eq ▸ hb.big) Box.overlap_nonneg ha.overlap_le (Box.overlap_comm a b ▸ hb.overlap_le)

end Cert.Nms

end
-- ==== Proof.ISide.lean ====
/-
  The kernel's host operations as functions of the two arguments: the masked scores, the labels, the top scores with their
  boxes and labels, and how many of them are valid.
-/
module

public import proofs.«01_k».proof.Proof.IIn
public import proofs.«01_k».proof.Proof.Take
public import proofs.«01_k».proof.Proof.Tops
public import proofs.«01_k».proof.Proof.Boxes

@[expose] public section

set_option maxRecDepth 16384

noncomputable section

namespace Cert.KernelIdeal.Nms

open Cert.KernelIdeal Cert.KernelIdeal.Gen Cert.Nms
open Idealize.ShloMosaic Idealize.ShloMosaic.TcCoe Idealize.ShloMosaic.Tactic

/-- The greatest of the three scores of each row. -/
def top3 (x : S2x20000x3.Idx → EReal) : S2x20000.Idx → EReal :=
  Host.reduce (FloatOps.maximumf (F := Ideal) (φ := .f32)) x (constant (F := Ideal) S_ .f32 0xFF800000#32) reducesTo_S2x20000x3_S2x20000_d2 h_S_
/-- Its logistic. -/
def prob (y : S2x20000.Idx → EReal) : S2x20000.Idx → EReal :=
  Host.divf (F := Ideal) (φ := .f32) (broadcastInDim S2x20000 ![] bcast_S_S2x20000 (constant (F := Ideal) S_ .f32 0x3F800000#32))
    (addf (F := Ideal) (φ := .f32) (broadcastInDim S2x20000 ![] bcast_S_S2x20000 (constant (F := Ideal) S_ .f32 0x3F800000#32)) (Host.exp (F := Ideal) (φ := .f32) (Host.negf (F := Ideal) (φ := .f32) y)))
/-- The probability, or minus one when it is below a tenth. -/
def masked (x : S2x20000x3.Idx → EReal) : S2x20000.Idx → EReal :=
  select (cmpf (F := Ideal) (φ := .f32) .oge (prob (top3 x)) (broadcastInDim S2x20000 ![] bcast_S_S2x20000 (constant (F := Ideal) S_ .f32 0x3DCCCCCD#32)))
    (prob (top3 x)) (broadcastInDim S2x20000 ![] bcast_S_S2x20000 (constant (F := Ideal) S_ .f32 0xBF800000#32))

/-- Which of the three scores is the greatest, the first of equals. -/
def lab3 (x : S2x20000x3.Idx → EReal) : S2x20000.Idx → BitVec 32 :=
  fun j => (Host.argReduce (F := Ideal) (φ := .f32) reducer_argmax_f32_i32 x (iotaInDim S2x20000x3 32 2) (constant (F := Ideal) S_ .f32 0xFF800000#32)
    (constantI S_ 32 0#32) reducesTo_S2x20000x3_S2x20000_d2 h_S_ j).2

section Lines
variable (W : Valuation τ sig (Elt Ideal))

theorem l0 : StableHlo.after hostOps0 W (Proc.devRef .tc main_v0) = top3 (W (Proc.devRef .tc main_arg0)) := by
  unfold hostOps0; after_reads_simp; rfl
theorem l2_v7 : StableHlo.after hostOps0_2 W (Proc.devRef .tc main_v7) = prob (W (Proc.devRef .tc main_v0)) := by
  unfold hostOps0_2; after_reads_simp; rfl
theorem l2_v9 : StableHlo.after hostOps0_2 W (Proc.devRef .tc main_v9) = cmpf (F := Ideal) (φ := .f32) .oge (prob (W (Proc.devRef .tc main_v0)))
    (broadcastInDim S2x20000 ![] bcast_S_S2x20000 (constant (F := Ideal) S_ .f32 0x3DCCCCCD#32)) := by
  unfold hostOps0_2; after_reads_simp; rfl
theorem l2_cst : StableHlo.after hostOps0_2 W (Proc.devRef .tc main_cst_3) = constant (F := Ideal) S_ .f32 0xBF800000#32 := by
  unfold hostOps0_2; after_reads_simp
theorem l3 : StableHlo.after hostOps0_3 W (Proc.devRef .tc main_v10) = (select (W (Proc.devRef .tc main_v9) : S2x20000.Idx → BitVec 1)
    (W (Proc.devRef .tc main_v7) : S2x20000.Idx → EReal) (broadcastInDim S2x20000 ![] bcast_S_S2x20000 (W (Proc.devRef .tc main_cst_3) : S_.Idx → EReal)) : S2x20000.Idx → EReal) := by
  unfold hostOps0_3; after_reads_simp; rfl
theorem l4_values : StableHlo.after hostOps0_4 W (Proc.devRef .tc main_values)
    = (Host.topK (α := EReal) S2x4096 1 (FloatOps.cmpfTotal (F := Ideal) (φ := .f32) .gt) (W (Proc.devRef .tc main_v10)) sliceFits_S2x20000_S2x4096).1 := by
  unfold hostOps0_4; after_reads_simp
theorem l4_indices : StableHlo.after hostOps0_4 W (Proc.devRef .tc main_indices)
    = (Host.topK (α := EReal) S2x4096 1 (FloatOps.cmpfTotal (F := Ideal) (φ := .f32) .gt) (W (Proc.devRef .tc main_v10)) sliceFits_S2x20000_S2x4096).2 := by
  unfold hostOps0_4; after_reads_simp
theorem l4_v11 : StableHlo.after hostOps0_4 W (Proc.devRef .tc main_v11)
    = broadcastInDim S2x4096x1 ![0, 1] bcast_S2x4096_S2x4096x1_0_1 (Host.topK (α := EReal) S2x4096 1 (FloatOps.cmpfTotal (F := Ideal) (φ := .f32) .gt) (W (Proc.devRef .tc main_v10)) sliceFits_S2x20000_S2x4096).2 := by
  unfold hostOps0_4; after_reads_simp

theorem l1 : StableHlo.after hostOps0_1 W (Proc.devRef .tc main_v1) = lab3 (W (Proc.devRef .tc main_arg0)) := by
  unfold hostOps0_1; after_reads_simp; rfl

theorem l5 (hv : ∀ y, ((W (Proc.devRef .tc main_v11) : S2x4096x1.Idx → BitVec 32) y).toNat < 20000) :
    StableHlo.after hostOps0_5 W (Proc.devRef .tc main_v12)
      = (Host.gather gather_S2x20000x7_S2x4096x1_S2x4096x7_2_1_0_0_1_2_117 (W (Proc.devRef .tc main_arg1) : S2x20000x7.Idx → EReal)
        (W (Proc.devRef .tc main_v11) : S2x4096x1.Idx → BitVec 32) : S2x4096x7.Idx → EReal) := by
  have e : StableHlo.after hostOps0_5 W (Proc.devRef .tc main_v12)
      = (select (broadcastInDim S2x4096x7 ![0, 1] bcast_S2x4096_S2x4096x7_0_1 (rangeBit 20000 4096 bcast_S_S2x4096x1 bcast_S1_S1x1x1_2 bcast_S1x1x1_S2x4096x1_0_1_2
            reducesTo_S2x4096x1_S2x4096_d2 h_S_ (wrapped 20000 S2x4096x1 bcast_S_S2x4096x1 (W (Proc.devRef .tc main_v11)))))
          (Host.gather gather_S2x20000x7_S2x4096x1_S2x4096x7_2_1_0_0_1_2_117 (W (Proc.devRef .tc main_arg1) : S2x20000x7.Idx → EReal)
            (wrapped 20000 S2x4096x1 bcast_S_S2x4096x1 (W (Proc.devRef .tc main_v11))))
          (broadcastInDim S2x4096x7 ![] bcast_S_S2x4096x7 (constant (F := Ideal) S_ .f32 0x7FC00000#32)) : S2x4096x7.Idx → EReal) := by
    unfold hostOps0_5
    after_reads_simp
    rfl
  rw [e, wrapped_id _ _ _ _ (fun y => by have := hv y; omega), rangeBit_one _ _ _ _ _ _ _ _ (by decide) hv]
  exact select_ones _ _ _ (fun _ => rfl)

theorem l6 (hv : ∀ y, ((W (Proc.devRef .tc main_indices) : S2x4096.Idx → BitVec 32) y).toNat < 20000) :
    StableHlo.after hostOps0_6 W (Proc.devRef .tc main_v13)
      = (Host.gather gather_S2x20000_S2x4096x1_S2x4096_n_1_0_0_1_2_11 (W (Proc.devRef .tc main_v1) : S2x20000.Idx → BitVec 32)
        (shapeCast S2x4096x1 (W (Proc.devRef .tc main_indices) : S2x4096.Idx → BitVec 32) shapeCasts_S2x4096_S2x4096x1) : S2x4096.Idx → BitVec 32) := by
  have e : StableHlo.after hostOps0_6 W (Proc.devRef .tc main_v13)
      = (select (rangeBit 20000 4096 bcast_S_S2x4096x1 bcast_S1_S1x1x1_2 bcast_S1x1x1_S2x4096x1_0_1_2
            reducesTo_S2x4096x1_S2x4096_d2 h_S_ (shapeCast S2x4096x1 (wrapped 20000 S2x4096 bcast_S_S2x4096 (W (Proc.devRef .tc main_indices))) shapeCasts_S2x4096_S2x4096x1))
          (Host.gather gather_S2x20000_S2x4096x1_S2x4096_n_1_0_0_1_2_11 (W (Proc.devRef .tc main_v1) : S2x20000.Idx → BitVec 32)
            (shapeCast S2x4096x1 (wrapped 20000 S2x4096 bcast_S_S2x4096 (W (Proc.devRef .tc main_indices))) shapeCasts_S2x4096_S2x4096x1))
          (broadcastInDim S2x4096 ![] bcast_S_S2x4096 (constantI S_ 32 2147483648#32)) : S2x4096.Idx → BitVec 32) := by
    unfold hostOps0_6
    after_reads_simp
    rfl
  rw [e, wrapped_id _ _ _ _ (fun y => by have := hv y; omega),
    rangeBit_one 20000 4096 _ _ _ _ _ (shapeCast S2x4096x1 (W (Proc.devRef .tc main_indices) : S2x4096.Idx → BitVec 32) shapeCasts_S2x4096_S2x4096x1)
      (by decide) (fun y => hv _)]
  exact select_ones _ _ _ (fun _ => rfl)

/-! What a line leaves alone. -/

theorem s0 (b : Ref sig .tc) (hb : b = main_arg0 ∨ b = main_arg1) : StableHlo.after hostOps0 W (Proc.devRef .tc b) = W (Proc.devRef .tc b) := by
  rcases hb with rfl | rfl <;> (unfold hostOps0; after_reads_simp)
theorem s1 (b : Ref sig .tc) (hb : b = main_arg1 ∨ b = main_v0) : StableHlo.after hostOps0_1 W (Proc.devRef .tc b) = W (Proc.devRef .tc b) := by
  rcases hb with rfl | rfl <;> (unfold hostOps0_1; after_reads_simp)
theorem s2 (b : Ref sig .tc) (hb : b = main_arg1 ∨ b = main_v1) : StableHlo.after hostOps0_2 W (Proc.devRef .tc b) = W (Proc.devRef .tc b) := by
  rcases hb with rfl | rfl <;> (unfold hostOps0_2; after_reads_simp)
theorem s3 (b : Ref sig .tc) (hb : b = main_arg1 ∨ b = main_v1) : StableHlo.after hostOps0_3 W (Proc.devRef .tc b) = W (Proc.devRef .tc b) := by
  rcases hb with rfl | rfl <;> (unfold hostOps0_3; after_reads_simp)
theorem s4 (b : Ref sig .tc) (hb : b = main_arg1 ∨ b = main_v1) : StableHlo.after hostOps0_4 W (Proc.devRef .tc b) = W (Proc.devRef .tc b) := by
  rcases hb with rfl | rfl <;> (unfold hostOps0_4; after_reads_simp)
theorem s5 (b : Ref sig .tc) (hb : b = main_v1 ∨ b = main_values ∨ b = main_indices) : StableHlo.after hostOps0_5 W (Proc.devRef .tc b) = W (Proc.devRef .tc b) := by
  rcases hb with rfl | rfl | rfl <;> (unfold hostOps0_5; after_reads_simp)
theorem s6 (b : Ref sig .tc) (hb : b = main_v12 ∨ b = main_values) : StableHlo.after hostOps0_6 W (Proc.devRef .tc b) = W (Proc.devRef .tc b) := by
  rcases hb with rfl | rfl <;> (unfold hostOps0_6; after_reads_simp)

end Lines

/-! An axis of one, added by broadcasting or by reshaping. -/

theorem widen_ix3 {α : Type} {N : ℕ} (f : (⟨2, ![2, N]⟩ : Shape).Idx → α) (h : (⟨2, ![2, N]⟩ : Shape).BroadcastsInDim ⟨3, ![2, N, 1]⟩ ![0, 1]) (b : Fin 2) (i : Fin N) (z : Fin 1) :
    broadcastInDim ⟨3, ![2, N, 1]⟩ ![0, 1] h f (ix3 b i z) = f (ix2 b i) := by
  unfold broadcastInDim
  refine congrArg f (funext fun a => ?_)
  fin_cases a
  · rfl
  · by_cases hN : N = 1
    · subst hN
      exact Subsingleton.elim (α := Fin 1) _ _
    · exact dif_neg hN

theorem column_ix3 {α : Type} {N : ℕ} (f : (⟨2, ![2, N]⟩ : Shape).Idx → α) (h : (⟨2, ![2, N]⟩ : Shape).ShapeCasts ⟨3, ![2, N, 1]⟩) (b : Fin 2) (i : Fin N) (z : Fin 1) :
    shapeCast ⟨3, ![2, N, 1]⟩ f h (ix3 b i z) = f (ix2 b i) :=
  shapeCast_apply _ _ (ix3 b i z) (ix2 b i) (by
    have hz := z.isLt
    simp [Shape.rowMajor_val_two, Shape.rowMajor_val_three] <;> omega)

/-- The place in the scores of the `i`-th greatest of batch `b`. -/
def at_ (x : S2x20000.Idx → EReal) (b : Fin 2) (i : Fin 4096) : Fin 20000 := pick (by decide) x b i

/-- The top scores, their boxes and their labels, in decreasing order of score. -/
def vals (a0 : S2x20000x3.Idx → EReal) : S2x4096.Idx → EReal := fun y => masked a0 (ix2 (y 0 : Fin 2) (at_ (masked a0) (y 0) (y 1)))
def boxes (a0 : S2x20000x3.Idx → EReal) (a1 : S2x20000x7.Idx → EReal) : S2x4096x7.Idx → EReal :=
  fun y => a1 (ix3 (y 0 : Fin 2) (at_ (masked a0) (y 0) (y 1)) (y 2 : Fin 7))
def labs (a0 : S2x20000x3.Idx → EReal) : S2x4096.Idx → BitVec 32 := fun y => lab3 a0 (ix2 (y 0 : Fin 2) (at_ (masked a0) (y 0) (y 1)))

/-- The footprint of the `k`-th of them. -/
def bxOf (v12 : S2x4096x7.Idx → EReal) (b : Fin 2) (k : ℕ) : Box :=
  if h : k < 4096 then ⟨v12 (ix3 b (⟨k, h⟩ : Fin 4096) (0 : Fin 7)), v12 (ix3 b (⟨k, h⟩ : Fin 4096) (1 : Fin 7)), v12 (ix3 b (⟨k, h⟩ : Fin 4096) (3 : Fin 7)),
    v12 (ix3 b (⟨k, h⟩ : Fin 4096) (4 : Fin 7))⟩ else ⟨0, 0, 0, 0⟩

theorem bxOf_lt (v12 : S2x4096x7.Idx → EReal) (b : Fin 2) (k : ℕ) (h : k < 4096) :
    bxOf v12 b k = ⟨v12 (ix3 b (⟨k, h⟩ : Fin 4096) (0 : Fin 7)), v12 (ix3 b (⟨k, h⟩ : Fin 4096) (1 : Fin 7)), v12 (ix3 b (⟨k, h⟩ : Fin 4096) (3 : Fin 7)),
    v12 (ix3 b (⟨k, h⟩ : Fin 4096) (4 : Fin 7))⟩ := dif_pos h

section Whole
variable (m : (ℓ : Loc nD τ sig) → Buf (Elt Ideal) ℓ) (c : Dev nD)

/-- The class scores and the boxes the launch begins with. -/
abbrev cls : S2x20000x3.Idx → EReal := m (c, Proc.devRef .tc main_arg0)
abbrev box : S2x20000x7.Idx → EReal := m (c, Proc.devRef .tc main_arg1)

theorem v10_is : U3 m c (Proc.devRef .tc main_v10) = masked (cls m c) := by
  show StableHlo.after hostOps0_3 (U2 m c) _ = _
  rw [l3]
  show select (StableHlo.after hostOps0_2 (U1 m c) (Proc.devRef .tc main_v9) : S2x20000.Idx → BitVec 1) (StableHlo.after hostOps0_2 (U1 m c) (Proc.devRef .tc main_v7))
    (broadcastInDim S2x20000 ![] bcast_S_S2x20000 (StableHlo.after hostOps0_2 (U1 m c) (Proc.devRef .tc main_cst_3))) = _
  rw [l2_v9, l2_v7, l2_cst]
  have e : U1 m c (Proc.devRef .tc main_v0) = top3 (cls m c) := (s1 _ _ (.inr rfl)).trans (l0 _)
  rw [e]
  rfl

theorem values_is (b : Fin 2) (i : Fin 4096) : (U6 m c (Proc.devRef .tc main_values) : S2x4096.Idx → EReal) (ix2 b i)
    = masked (cls m c) (ix2 b (at_ (masked (cls m c)) b i)) := by
  have e : U6 m c (Proc.devRef .tc main_values) = U4 m c (Proc.devRef .tc main_values) := (s6 _ _ (.inr rfl)).trans (s5 _ _ (.inr (.inl rfl)))
  rw [e]
  show (StableHlo.after hostOps0_4 (U3 m c) (Proc.devRef .tc main_values) : S2x4096.Idx → EReal) _ = _
  rw [l4_values, v10_is]
  exact topK_value _ _ _ b i

theorem index_is (b : Fin 2) (i : Fin 4096) : ((U4 m c (Proc.devRef .tc main_indices) : S2x4096.Idx → BitVec 32) (ix2 b i)).toNat
    = (at_ (masked (cls m c)) b i).val := by
  show ((StableHlo.after hostOps0_4 (U3 m c) (Proc.devRef .tc main_indices) : S2x4096.Idx → BitVec 32) _).toNat = _
  rw [l4_indices, v10_is]
  exact topK_index _ (by decide) _ _ b i

theorem v11_is (b : Fin 2) (i : Fin 4096) (z : Fin 1) : ((U4 m c (Proc.devRef .tc main_v11) : S2x4096x1.Idx → BitVec 32) (ix3 b i z)).toNat
    = (at_ (masked (cls m c)) b i).val := by
  rw [← index_is]
  show ((StableHlo.after hostOps0_4 (U3 m c) (Proc.devRef .tc main_v11) : S2x4096x1.Idx → BitVec 32) _).toNat
    = ((StableHlo.after hostOps0_4 (U3 m c) (Proc.devRef .tc main_indices) : S2x4096.Idx → BitVec 32) _).toNat
  rw [l4_indices, l4_v11]
  exact congrArg BitVec.toNat (widen_ix3 _ _ b i z)

theorem v11_lt (y : S2x4096x1.Idx) : ((U4 m c (Proc.devRef .tc main_v11) : S2x4096x1.Idx → BitVec 32) y).toNat < 20000 := by
  exact lt_of_eq_of_lt ((congrArg (fun w => ((U4 m c (Proc.devRef .tc main_v11) : S2x4096x1.Idx → BitVec 32) w).toNat) (eq_ix3 y)).trans
    (v11_is m c (y 0) (y 1) (y 2))) (Fin.isLt _)

theorem index_lt (y : S2x4096.Idx) : ((U4 m c (Proc.devRef .tc main_indices) : S2x4096.Idx → BitVec 32) y).toNat < 20000 := by
  exact lt_of_eq_of_lt ((congrArg (fun w => ((U4 m c (Proc.devRef .tc main_indices) : S2x4096.Idx → BitVec 32) w).toNat) (eq_ix2 y)).trans
    (index_is m c (y 0) (y 1))) (Fin.isLt _)

theorem v12_is (b : Fin 2) (i : Fin 4096) (k : Fin 7) : (U6 m c (Proc.devRef .tc main_v12) : S2x4096x7.Idx → EReal) (ix3 b i k)
    = box m c (ix3 b (at_ (masked (cls m c)) b i) k) := by
  have e : U6 m c (Proc.devRef .tc main_v12) = U5 m c (Proc.devRef .tc main_v12) := s6 _ _ (.inl rfl)
  rw [e]
  show (StableHlo.after hostOps0_5 (U4 m c) (Proc.devRef .tc main_v12) : S2x4096x7.Idx → EReal) _ = _
  rw [l5 _ (v11_lt m c)]
  have e1 : U4 m c (Proc.devRef .tc main_arg1) = box m c :=
    (s4 _ _ (.inl rfl)).trans ((s3 _ _ (.inl rfl)).trans ((s2 _ _ (.inl rfl)).trans ((s1 _ _ (.inl rfl)).trans (s0 _ _ (.inr rfl)))))
  rw [e1]
  exact gather7 _ _ _ b i k _ (v11_is m c b i 0) (by decide)

theorem v13_is (b : Fin 2) (i : Fin 4096) : (U6 m c (Proc.devRef .tc main_v13) : S2x4096.Idx → BitVec 32) (ix2 b i)
    = lab3 (cls m c) (ix2 b (at_ (masked (cls m c)) b i)) := by
  show (StableHlo.after hostOps0_6 (U5 m c) (Proc.devRef .tc main_v13) : S2x4096.Idx → BitVec 32) _ = _
  have ei : U5 m c (Proc.devRef .tc main_indices) = U4 m c (Proc.devRef .tc main_indices) := s5 _ _ (.inr (.inr rfl))
  rw [l6 _ (fun y => by rw [ei]; exact index_lt m c y), ei]
  have e1 : U5 m c (Proc.devRef .tc main_v1) = lab3 (cls m c) :=
    (s5 _ _ (.inl rfl)).trans ((s4 _ _ (.inr rfl)).trans ((s3 _ _ (.inr rfl)).trans ((s2 _ _ (.inr rfl)).trans ((l1 _).trans (congrArg lab3 (s0 _ _ (.inl rfl)))))))
  rw [e1]
  refine gather1 _ _ _ b i _ ?_ (by decide)
  rw [← index_is]
  exact congrArg BitVec.toNat (column_ix3 _ _ b i 0)

theorem values_eq : U6 m c (Proc.devRef .tc main_values) = vals (cls m c) :=
  funext fun y : S2x4096.Idx => (congrArg (U6 m c (Proc.devRef .tc main_values) : S2x4096.Idx → EReal) (eq_ix2 y)).trans (values_is m c (y 0) (y 1))
theorem v12_eq : U6 m c (Proc.devRef .tc main_v12) = boxes (cls m c) (box m c) :=
  funext fun y : S2x4096x7.Idx => (congrArg (U6 m c (Proc.devRef .tc main_v12) : S2x4096x7.Idx → EReal) (eq_ix3 y)).trans (v12_is m c (y 0) (y 1) (y 2))
theorem v13_eq : U6 m c (Proc.devRef .tc main_v13) = labs (cls m c) :=
  funext fun y : S2x4096.Idx => (congrArg (U6 m c (Proc.devRef .tc main_v13) : S2x4096.Idx → BitVec 32) (eq_ix2 y)).trans (v13_is m c (y 0) (y 1))

/-- A score counts when it is at least a tenth. -/
def tenth : EReal := FloatOps.ofBits (F := Ideal) .f32 0x3DCCCCCD#32

def good (y : EReal) : Prop := tenth ≤ y

open Classical in
/-- Of a batch row, the scores of at least a tenth counted. -/
theorem count_row (x : S2x4096.Idx → EReal) (b : Fin 2) :
    (Host.reduce IntOp.addi (extui 32 (cmpf (F := Ideal) (φ := .f32) .oge x (broadcastInDim S2x4096 ![] bcast_S_S2x4096 (constant (F := Ideal) S_ .f32 0x3DCCCCCD#32))) natLt_1_32)
      (constantI S_ 32 0#32) reducesTo_S2x4096_S2_d1 h_S_ (ix1 b)).toNat = (Finset.univ.filter fun i : Fin 4096 => good (x (ix2 b i))).card := by
  rw [Host.reduce_eq_fold]
  refine (fold_count _ _ (fun i => good (x i)) (fun i => ?_) ?_).trans ?_
  · show (BitVec.ofBool (decide (tenth ≤ x i))).setWidth 32 = _
    by_cases h : tenth ≤ x i <;> simp [good, h]
  · refine lt_of_le_of_lt (Finset.card_le_univ _) ?_
    rw [Shape.card_idx]
    decide
  · symm
    refine Finset.card_bij (fun i _ => ix2 b i) ?_ ?_ ?_
    · intro i hi
      refine Finset.mem_filter.2 ⟨Finset.mem_filter.2 ⟨Finset.mem_univ _, ?_⟩, (Finset.mem_filter.1 hi).2⟩
      funext k; fin_cases k; rfl
    · intro i _ j _ h
      exact congrFun h 1
    · intro y hy
      rw [Finset.mem_filter, Finset.mem_filter] at hy
      have h0 : y 0 = b := congrFun hy.1.2 0
      have e : y = ix2 b (y 1) := by
        funext k; fin_cases k
        · exact h0
        · rfl
      refine ⟨y 1, ?_, e.symm⟩
      refine Finset.mem_filter.2 ⟨Finset.mem_univ _, ?_⟩
      exact (congrArg (fun w => good (x w)) e).mp hy.2

open Classical in
/-- How many of a batch row's top scores count: they are the first ones. -/
def howMany (a0 : S2x20000x3.Idx → EReal) (b : Fin 2) : ℕ := (Finset.univ.filter fun i : Fin 4096 => good (vals a0 (ix2 b i))).card

theorem vals_desc (a0 : S2x20000x3.Idx → EReal) (b : Fin 2) (i j : Fin 4096) (h : i ≤ j) : vals a0 (ix2 b j) ≤ vals a0 (ix2 b i) := by
  show masked a0 (ix2 b (pick _ (masked a0) b j)) ≤ masked a0 (ix2 b (pick _ (masked a0) b i))
  exact pick_desc (by decide) (masked a0) b i j h

theorem good_iff (a0 : S2x20000x3.Idx → EReal) (b : Fin 2) (i : Fin 4096) : good (vals a0 (ix2 b i)) ↔ i.val < howMany a0 b :=
  first_card (fun i => good (vals a0 (ix2 b i))) (fun i j hij h => le_trans h (vals_desc a0 b i j hij)) i

theorem v18_is (b : Fin 2) : ((V m c main_v18 : IVec S2 32) (ix1 b)).toNat = howMany (cls m c) b := by
  show ((V0 m c (Proc.devRef .tc main_v18) : IVec S2 32) (ix1 b)).toNat = _
  rw [V0_eq, line7_v18, values_eq]
  exact count_row _ b

end Whole

end Cert.KernelIdeal.Nms
-- ==== Proof.Greedy.lean ====
/-
  Greedy suppression over the natural numbers: who is kept, how many, and in what place a sort by "kept first" puts them.
-/
module

public import Idealize.ShloMosaic.Lib.SortFacts
public import Idealize.ShloMosaic.Lib.SortPrefix
public import Mathlib.Order.Nat
public import Mathlib.Data.Nat.Count
public import Mathlib.Data.Fintype.Card
public import Mathlib.Order.Interval.Finset.Fin

@[expose] public section

noncomputable section

namespace Cert.Nms

open Idealize.ShloMosaic
open Classical

variable (hit : ℕ → ℕ → Prop)

/-- Box `j` is suppressed by one of the first `k` boxes: each box that is not suppressed at its own turn suppresses the
    later boxes that it hits. -/
def gone : ℕ → ℕ → Prop
  | 0, _ => False
  | k + 1, j => gone k j ∨ (¬ gone k k ∧ hit k j ∧ k < j)

/-- Once a box's turn has come nothing suppresses it any more. -/
theorem gone_of_le (j : ℕ) : ∀ k, j ≤ k → (gone hit k j ↔ gone hit j j)
  | 0, h => by rw [Nat.le_zero.mp h]
  | k + 1, h => by
    rcases Nat.lt_or_ge k j with hk | hk
    · rw [show j = k + 1 by omega]
    · show (gone hit k j ∨ _) ↔ _
      rw [gone_of_le j k hk]
      exact ⟨fun h => h.elim id fun h => absurd h.2.2 (by omega), Or.inl⟩

/-- Box `j` is kept: it is one of the first `n`, and not suppressed at its turn. -/
def kept (n j : ℕ) : Prop := j < n ∧ ¬ gone hit j j

/-- How many of the first `k` boxes are kept. -/
abbrev rank (n k : ℕ) : ℕ := Nat.count (kept hit n) k

theorem rank_le (n k : ℕ) : rank hit n k ≤ k := Nat.count_le _

theorem rank_succ_kept (n k : ℕ) (h : kept hit n k) : rank hit n (k + 1) = rank hit n k + 1 := by
  rw [rank, Nat.count_succ, if_pos h]

theorem rank_succ_not (n k : ℕ) (h : ¬ kept hit n k) : rank hit n (k + 1) = rank hit n k := by
  rw [rank, Nat.count_succ, if_neg h]; rfl

theorem rank_lt (n i k : ℕ) (h : kept hit n i) (hik : i < k) : rank hit n i < rank hit n k :=
  Nat.count_strict_mono h hik

/-- Past the first `n` nothing is kept. -/
theorem rank_past (n : ℕ) : ∀ k, n ≤ k → rank hit n k = rank hit n n
  | 0, h => by rw [Nat.le_zero.mp h]
  | k + 1, h => by
    rcases Nat.lt_or_ge k n with hk | hk
    · rw [show n = k + 1 by omega]
    · rw [rank_succ_not hit n k fun h' => absurd h'.1 (by omega), rank_past n k hk]

/-- A sort's source positions, counted: exactly `r` positions come before the one that lands at `r`. -/
theorem card_before {N : ℕ} (B : Fin N → Fin N → Bool) (hB : StrictTotalBefore B) (r : Fin N) :
    (Finset.univ.filter fun p => B p (sortedFrom B r) = true).card = r := by
  have hinj := sortedFrom_injective B
  have hsur := sortedFrom_surjective B
  have hno : ∀ i j, i < j → B (sortedFrom B j) (sortedFrom B i) = false :=
    sortedFrom_noInversion B B (fun a b h => hB.asymm a b h) (fun _ _ h => h) (fun a b c => hB.negTrans a b c)
  have hlt : ∀ i j, B (sortedFrom B i) (sortedFrom B j) = true ↔ i < j := by
    intro i j
    constructor
    · intro h
      by_contra hn
      rcases lt_or_eq_of_le (not_lt.mp hn) with h1 | h1
      · rw [hno j i h1] at h; exact absurd h (by decide)
      · rw [h1, hB.irrefl] at h; exact absurd h (by decide)
    · intro h
      rcases hB.total (sortedFrom B i) (sortedFrom B j) (fun e => absurd (hinj e) (ne_of_lt h)) with h1 | h1
      · exact h1
      · rw [hno i j h] at h1; exact absurd h1 (by decide)
  have : (Finset.univ.filter fun p => B p (sortedFrom B r) = true) = (Finset.univ.filter fun i => i < r).image (sortedFrom B) := by
    ext p
    simp only [Finset.mem_filter, Finset.mem_univ, true_and, Finset.mem_image]
    constructor
    · intro h
      obtain ⟨i, rfl⟩ := hsur p
      exact ⟨i, (hlt i r).mp h, rfl⟩
    · rintro ⟨i, hi, rfl⟩
      exact (hlt i r).mpr hi
  rw [this, Finset.card_image_of_injective _ hinj]
  rw [show (Finset.univ.filter fun i => i < r) = Finset.Iio r by ext; simp]
  exact Fin.card_Iio r

/-- The key that puts the kept boxes first. -/
def key (P : ℕ → Prop) (N j : ℕ) : ℕ := if P j then j else j + N

theorem card_count {N : ℕ} (P : ℕ → Prop) (k : ℕ) (hk : k ≤ N) :
    (Finset.univ.filter fun p : Fin N => P p ∧ (p : ℕ) < k).card = Nat.count P k := by
  rw [Nat.count_eq_card_filter_range]
  refine Finset.card_bij (fun p _ => (p : ℕ)) ?_ ?_ ?_
  · intro p hp
    simp only [Finset.mem_filter, Finset.mem_univ, true_and, Finset.mem_range] at hp ⊢
    exact ⟨hp.2, hp.1⟩
  · intro p _ q _ h
    exact Fin.ext h
  · intro b hb
    simp only [Finset.mem_filter, Finset.mem_range] at hb
    exact ⟨⟨b, by omega⟩, by simp [hb.1, hb.2], rfl⟩

/-- A sort by the key puts the kept boxes first, in their order, and the others behind them. -/
theorem sorted_kept {N : ℕ} (P : ℕ → Prop) (B : Fin N → Fin N → Bool) (hB : ∀ a b, B a b = true ↔ key P N a < key P N b) (r : Fin N) :
    (P (sortedFrom B r) → Nat.count P (sortedFrom B r) = r) ∧ (¬ P (sortedFrom B r) → Nat.count P N ≤ r) := by
  have hT : StrictTotalBefore B := by
    refine ⟨fun a => ?_, fun a b c h1 h2 => ?_, fun a b h => ?_⟩
    · rw [← Bool.not_eq_true, hB]; omega
    · rw [hB] at *; omega
    · rw [hB, hB]
      have : (a : ℕ) ≠ b := fun e => h (Fin.ext e)
      have ha := a.isLt; have hb := b.isLt
      unfold key
      split <;> split <;> omega
  have hc := card_before B hT r
  generalize sortedFrom B r = q at *
  constructor
  · intro hq
    rw [← hc, ← card_count (N := N) P q q.isLt.le]
    congr 1
    ext p
    simp only [Finset.mem_filter, Finset.mem_univ, true_and, hB, key, if_pos hq]
    have hp := p.isLt; have hq' := q.isLt
    by_cases h : P p
    · simp [h]
    · simp [h]; omega
  · intro hq
    rw [← hc, ← card_count (N := N) P N le_rfl]
    apply Finset.card_le_card
    intro p
    simp only [Finset.mem_filter, Finset.mem_univ, true_and, hB, key, if_neg hq]
    rintro ⟨h, h2⟩
    rw [if_pos h]
    omega

end Cert.Nms

end
-- ==== Proof.ILanes.lean ====
/-
  One trip of the suppression loop over the extended reals, read lane by lane: which row is still in, and what the mask
  holds afterwards.
-/
module

public import proofs.«01_k».proof.Proof.IBody
public import proofs.«01_k».proof.Proof.Boxes
public import proofs.«01_k».proof.Proof.Greedy

@[expose] public section

set_option maxRecDepth 16384

noncomputable section

namespace Cert.KernelIdeal.Nms

open Cert.KernelIdeal Cert.KernelIdeal.Gen Cert.Nms
open Idealize.ShloMosaic Idealize.ShloMosaic.TcCoe Idealize.ShloMosaic.Tactic

/-- The box number of a lane. -/
def lane (y : S32x128.Idx) : ℕ := (y 0).val * 128 + (y 1).val

theorem lane_lt (y : S32x128.Idx) : lane y < 4096 := by
  have h0 : (y 0).val < 32 := (y 0).isLt
  have h1 : (y 1).val < 128 := (y 1).isLt
  unfold lane; omega

/-- The lane of a box number. -/
def laneOf (k : ℕ) (hk : k < 4096) : S32x128.Idx := ix2 (⟨k / 128, by omega⟩ : Fin 32) (⟨k % 128, by omega⟩ : Fin 128)

theorem lane_laneOf (k : ℕ) (hk : k < 4096) : lane (laneOf k hk) = k := by
  show k / 128 * 128 + k % 128 = k; omega

theorem lane_inj {y z : S32x128.Idx} (h : lane y = lane z) : y = z := by
  have h0 : (y 1).val < 128 := (y 1).isLt
  have h1 : (z 1).val < 128 := (z 1).isLt
  unfold lane at h
  funext a; fin_cases a
  · exact Fin.ext (by show (y 0).val = (z 0).val; omega)
  · exact Fin.ext (by show (y 1).val = (z 1).val; omega)

theorem pay46_toNat (y : S32x128.Idx) : (k0_pay46 y).toNat = lane y := by
  have h0 : (y 0).val < 32 := (y 0).isLt
  have h1 : (y 1).val < 128 := (y 1).isLt
  have e : k0_pay46 y = BitVec.ofNat 32 (y 0).val * 128#32 + BitVec.ofNat 32 (y 1).val := by
    pointwise [k0_pay46]
    all_goals first | rfl | skip
  rw [e]; unfold lane
  simp only [BitVec.toNat_add, BitVec.toNat_mul, BitVec.toNat_ofNat]; omega

theorem pay46_eq {y : S32x128.Idx} {k : ℕ} (hk : k < 4096) : k0_pay46 y = Scf.iv 0#32 1#32 k ↔ lane y = k := by
  rw [← BitVec.toNat_inj, pay46_toNat, iv_toNat (by omega)]

/-- A word below 2³¹ as a signed number. -/
theorem toInt_small {w : BitVec 32} (h : w.toNat < 2 ^ 31) : w.toInt = w.toNat := by
  rw [BitVec.toInt_eq_toNat_cond]; split <;> omega

theorem slt_small {v w : BitVec 32} (hv : v.toNat < 2 ^ 31) (hw : w.toNat < 2 ^ 31) :
    BitVec.slt v w = decide (v.toNat < w.toNat) := by
  simp only [BitVec.slt, toInt_small hv, toInt_small hw]; simp

theorem plane_cast (x : S1x32x128.Idx → EReal) (h) (y : S32x128.Idx) :
    shapeCast S32x128 x h y = x (ix3 (0 : Fin 1) (y 0 : Fin 32) (y 1 : Fin 128)) := by
  refine shapeCast_apply _ _ _ _ ?_
  simp [Shape.rowMajor_val_two, Shape.rowMajor_val_three]

theorem cast_plane (x : S32x128.Idx → EReal) (h) (b : S1x32x128.Idx) :
    shapeCast S1x32x128 x h b = x (ix2 (b 1 : Fin 32) (b 2 : Fin 128)) := by
  have hb0 : (b 0).val = 0 := by have : (b 0).val < 1 := (b 0).isLt; omega
  refine shapeCast_apply _ _ _ _ ?_
  simp [Shape.rowMajor_val_two, Shape.rowMajor_val_three, hb0]

/-- A bit widened and converted is one or zero. -/
theorem sitofp_bit {b : IVec S32x128 1} {P : Prop} [Decidable P] {h} {y : S32x128.Idx} (e : b y = BitVec.ofBool (decide P)) :
    sitofp (F := Ideal) .f32 (extui 32 b h) y = if P then (1 : EReal) else 0 := by
  show ((((b y).zeroExtend 32).toInt : ℝ) : EReal) = _
  rw [e]
  by_cases hP : P <;> simp [hP]

section Trip
variable {v1 : BitVec 32} (k : Fin (k0_t1_loop v1).trips) (hk : k.val < 4096)

/-- The sum that picks out lane `k` of the mask. -/
theorem pay1_eq (sup : S32x128.Idx → EReal) : k0_pay1 (F := Ideal) v1 k0_pay46 0#32 k sup = sup (laneOf k.val hk) := by
  unfold k0_pay1
  dsimp only
  rw [extractAt, Pointwise.shapeCast_apply]
  refine (Ideal.multiReduction_add_total _ _ _ (by decide) _ _ _).trans ?_
  rw [Finset.sum_eq_single (ix3 (0 : Fin 1) (⟨k.val / 128, by omega⟩ : Fin 32) (⟨k.val % 128, by omega⟩ : Fin 128))]
  · rw [shapeCast_apply _ _ _ (laneOf k.val hk) (by
      simp [Shape.rowMajor_val_two, Shape.rowMajor_val_three, laneOf, Fin.val_mk]; try rfl)]
    show (if _ = 1#1 then _ else _) = _
    rw [if_pos]
    show BitVec.ofBool _ = 1#1
    rw [show k0_pay46 (laneOf k.val hk) = Scf.iv 0#32 1#32 k.val from (pay46_eq hk).2 (lane_laneOf _ hk)]
    simp [IntOp.cmpi, broadcast]
  · intro b _ hb
    have hb0 : (b 0).val = 0 := by have : (b 0).val < 1 := (b 0).isLt; omega
    refine (cast_plane _ _ b).trans ?_
    show (if _ = 1#1 then _ else _) = _
    rw [if_neg]
    · exact Ideal.ofBits_zero_f32
    · intro h
      apply hb
      have h' : BitVec.ofBool (k0_pay46 (ix2 (b 1 : Fin 32) (b 2 : Fin 128)) == Scf.iv 0#32 1#32 k.val) = 1#1 := h
      have e : k0_pay46 (ix2 (b 1 : Fin 32) (b 2 : Fin 128)) = Scf.iv 0#32 1#32 k.val := by
        by_contra hne
        rw [beq_eq_false_iff_ne.2 hne] at h'
        exact absurd h' (by decide)
      have e2 := (pay46_eq hk).1 e
      have e3 := lane_inj (e2.trans (lane_laneOf k.val hk).symm)
      funext a; fin_cases a
      · exact Fin.ext hb0
      · exact congrFun e3 0
      · exact congrFun e3 1
  · intro h; exact absurd (Finset.mem_univ _) h

theorem cond1_eq (b : BitVec 1) : k0_cond1 b = 1#1 ↔ b = 1#1 := by revert b; decide

/-- A row is kept exactly when its lane of the mask is zero. -/
theorem keepBit_eq (sup : S32x128.Idx → EReal) :
    k0_cond1 (keepBit (F := Ideal) k sup) = 1#1 ↔ sup (laneOf k.val hk) = 0 := by
  rw [cond1_eq]
  unfold keepBit
  rw [pay1_eq k hk]
  show BitVec.ofBool (decide (sup (laneOf k.val hk) = Ideal.ofBits .f32 0x00000000#32)) = 1#1 ↔ _
  rw [Ideal.ofBits_zero_f32]
  by_cases h : sup (laneOf k.val hk) = 0 <;> simp [h]

/-- The coordinates array and the planes hold the boxes `bx`. -/
structure Holds (bx : ℕ → Box) (X4 : S1x4x4096x1.Idx → EReal) (R : Fin 5 → S1x32x128.Idx → EReal) : Prop where
  x : ∀ k (hk : k < 4096), X4 (ix4 (0 : Fin 1) (0 : Fin 4) (⟨k, hk⟩ : Fin 4096) (0 : Fin 1)) = (bx k).x
  y : ∀ k (hk : k < 4096), X4 (ix4 (0 : Fin 1) (1 : Fin 4) (⟨k, hk⟩ : Fin 4096) (0 : Fin 1)) = (bx k).y
  dx : ∀ k (hk : k < 4096), X4 (ix4 (0 : Fin 1) (2 : Fin 4) (⟨k, hk⟩ : Fin 4096) (0 : Fin 1)) = (bx k).dx
  dy : ∀ k (hk : k < 4096), X4 (ix4 (0 : Fin 1) (3 : Fin 4) (⟨k, hk⟩ : Fin 4096) (0 : Fin 1)) = (bx k).dy
  x1 : ∀ y : S32x128.Idx, R 0 (ix3 (0 : Fin 1) (y 0 : Fin 32) (y 1 : Fin 128)) = (bx (lane y)).x1
  x2 : ∀ y : S32x128.Idx, R 1 (ix3 (0 : Fin 1) (y 0 : Fin 32) (y 1 : Fin 128)) = (bx (lane y)).x2
  y1 : ∀ y : S32x128.Idx, R 2 (ix3 (0 : Fin 1) (y 0 : Fin 32) (y 1 : Fin 128)) = (bx (lane y)).y1
  y2 : ∀ y : S32x128.Idx, R 3 (ix3 (0 : Fin 1) (y 0 : Fin 32) (y 1 : Fin 128)) = (bx (lane y)).y2
  area : ∀ y : S32x128.Idx, R 4 (ix3 (0 : Fin 1) (y 0 : Fin 32) (y 1 : Fin 128)) = (bx (lane y)).area

theorem word4 (X4 : S1x4x4096x1.Idx → EReal) (r k : ℕ) (hr : r < 4) (hk : k < 4096) (h) :
    extractAt ![0, 0, 0, 0] (w4 (F := Ideal) X4 r k hr hk) h = X4 (ix4 (0 : Fin 1) (⟨r, hr⟩ : Fin 4) (⟨k, hk⟩ : Fin 4096) (0 : Fin 1)) := by
  unfold extractAt w4 VecWindow.window
  congr 1
  funext a; fin_cases a <;> exact Fin.ext (by simp [Rect.unit, Rect.emb])

section Mask
variable {bx : ℕ → Box} {X4 : S1x4x4096x1.Idx → EReal} {R : Fin 5 → S1x32x128.Idx → EReal} (H : Holds bx X4 R)
include H

theorem pay13_eq : k0_pay13 (F := Ideal) (w4 (F := Ideal) X4 0 k.val (by omega) hk) (w4 (F := Ideal) X4 2 k.val (by omega) hk) = (bx k.val).x1 := by
  show extractAt ![0, 0, 0, 0] (w4 (F := Ideal) X4 0 k.val _ hk) _ - cHalf * extractAt ![0, 0, 0, 0] (w4 (F := Ideal) X4 2 k.val _ hk) _ = _
  rw [word4, word4]; erw [H.x k.val hk, H.dx k.val hk]; rw [mul_comm]; rfl

theorem pay14_eq : k0_pay14 (F := Ideal) (w4 (F := Ideal) X4 0 k.val (by omega) hk) (w4 (F := Ideal) X4 2 k.val (by omega) hk) = (bx k.val).x2 := by
  show extractAt ![0, 0, 0, 0] (w4 (F := Ideal) X4 0 k.val _ hk) _ + cHalf * extractAt ![0, 0, 0, 0] (w4 (F := Ideal) X4 2 k.val _ hk) _ = _
  rw [word4, word4]; erw [H.x k.val hk, H.dx k.val hk]; rw [mul_comm]; rfl

theorem pay15_eq : k0_pay15 (F := Ideal) (w4 (F := Ideal) X4 1 k.val (by omega) hk) (w4 (F := Ideal) X4 3 k.val (by omega) hk) = (bx k.val).y1 := by
  show extractAt ![0, 0, 0, 0] (w4 (F := Ideal) X4 1 k.val _ hk) _ - cHalf * extractAt ![0, 0, 0, 0] (w4 (F := Ideal) X4 3 k.val _ hk) _ = _
  rw [word4, word4]; erw [H.y k.val hk, H.dy k.val hk]; rw [mul_comm]; rfl

theorem pay16_eq : k0_pay16 (F := Ideal) (w4 (F := Ideal) X4 1 k.val (by omega) hk) (w4 (F := Ideal) X4 3 k.val (by omega) hk) = (bx k.val).y2 := by
  show extractAt ![0, 0, 0, 0] (w4 (F := Ideal) X4 1 k.val _ hk) _ + cHalf * extractAt ![0, 0, 0, 0] (w4 (F := Ideal) X4 3 k.val _ hk) _ = _
  rw [word4, word4]; erw [H.y k.val hk, H.dy k.val hk]; rw [mul_comm]; rfl

theorem pay17_eq : k0_pay17 (F := Ideal) (w4 (F := Ideal) X4 0 k.val (by omega) hk) (w4 (F := Ideal) X4 1 k.val (by omega) hk) (w4 (F := Ideal) X4 2 k.val (by omega) hk)
    (w4 (F := Ideal) X4 3 k.val (by omega) hk) = (bx k.val).area := by
  unfold k0_pay17
  rw [pay13_eq k hk H, pay14_eq k hk H, pay15_eq k hk H, pay16_eq k hk H]; rfl

open Classical in
/-- The mask after row `k` was kept, lane by lane. -/
theorem supAfter_eq (sup : S32x128.Idx → EReal) (y : S32x128.Idx) :
    supAfter (F := Ideal) X4 R k hk sup y = max (sup y) (if (bx k.val).hitsMul (bx (lane y)) ∧ k.val < lane y then 1 else 0) := by
  unfold supAfter
  rw [pay15_eq k hk H, pay16_eq k hk H, pay17_eq k hk H]
  unfold k0_pay2 k0_pay18
  rw [pay13_eq k hk H, pay14_eq k hk H]
  dsimp only
  rw [shapeCast_id]
  have hs : (BitVec.slt (Scf.iv 0#32 1#32 k.val) (k0_pay46 y)) = decide (k.val < lane y) := by
    rw [slt_small (by rw [iv_toNat (by omega)]; omega) (by rw [pay46_toNat]; have := lane_lt y; omega), iv_toNat (by omega), pay46_toNat]
  refine congrArg (max (sup y)) (sitofp_bit ?_)
  show BitVec.ofBool (decide (_ * (_ - _) < _ )) &&& BitVec.ofBool (BitVec.slt (Scf.iv 0#32 1#32 k.val) (k0_pay46 y)) = _
  rw [hs]
  have hm : ∀ a b : Prop, ∀ (_ : Decidable a) (_ : Decidable b) (_ : Decidable (a ∧ b)),
      BitVec.ofBool (decide a) &&& BitVec.ofBool (decide b) = BitVec.ofBool (decide (a ∧ b)) := by
    intro a b _ _ _; by_cases ha : a <;> by_cases hb : b <;> simp [ha, hb]
  refine (hm _ _ _ _ inferInstance).trans ?_
  congr 1
  refine decide_eq_decide.2 (and_congr_left fun _ => ?_)
  simp only [subf, mulf, addf, maximumf, minimumf, plane_cast, H.x1 y, H.x2 y, H.y1 y, H.y2 y, H.area y]
  show cThr * ((bx (lane y)).area + (bx k.val).area
      - max (min (bx (lane y)).x2 (bx k.val).x2 - max (bx (lane y)).x1 (bx k.val).x1) (Ideal.ofBits .f32 0x00000000#32)
        * max (min (bx (lane y)).y2 (bx k.val).y2 - max (bx (lane y)).y1 (bx k.val).y1) (Ideal.ofBits .f32 0x00000000#32))
    < max (min (bx (lane y)).x2 (bx k.val).x2 - max (bx (lane y)).x1 (bx k.val).x1) (Ideal.ofBits .f32 0x00000000#32)
        * max (min (bx (lane y)).y2 (bx k.val).y2 - max (bx (lane y)).y1 (bx k.val).y1) (Ideal.ofBits .f32 0x00000000#32) ↔ _
  rw [Ideal.ofBits_zero_f32]
  exact Iff.rfl

end Mask
end Trip

end Cert.KernelIdeal.Nms
-- ==== Proof.IFold.lean ====
/-
  The suppression loop of the kernel, as the greedy choice: after `k` trips the mask marks the rows that are gone, and the
  kept rows stand at their ranks.
-/
module

public import proofs.«01_k».proof.Proof.ILanes

@[expose] public section

set_option maxRecDepth 16384

noncomputable section

namespace Cert.KernelIdeal.Nms

open Cert.KernelIdeal Cert.KernelIdeal.Gen Cert.Nms
open Idealize.ShloMosaic Idealize.ShloMosaic.TcCoe Idealize.ShloMosaic.Tactic
open Classical

theorem cond2_eq {w : BitVec 32} (hw : w.toNat < 2 ^ 31) : k0_cond2 w = 1#1 ↔ w.toNat < 500 := by
  have e : k0_cond2 w = BitVec.ofBool (BitVec.slt w 500#32) := by
    show BitVec.ofBool ((BitVec.zeroExtend 32 (BitVec.ofBool (BitVec.slt w 500#32))) != 0#32) = _
    generalize BitVec.slt w 500#32 = b; revert b; decide
  rw [e, slt_small hw (by decide)]
  show BitVec.ofBool (decide (w.toNat < 500)) = 1#1 ↔ _
  by_cases h : w.toNat < 500 <;> simp [h]

/-- One row put into a three-axis array, read at an index. -/
theorem put_row {α : Type} {m l : ℕ} (x : (⟨3, ![1, m, l]⟩ : Shape).Idx → α) (p : ℕ)
    (w : (⟨3, ![1, 1, l]⟩ : Shape).Idx → α) (r : Fin m) (c : Fin l) :
    VecWindow.put (s := ⟨3, ![1, m, l]⟩) x ![0, p, 0] (⟨3, ![1, 1, l]⟩ : Shape).size w (ix3 (0 : Fin 1) r c)
      = if r.val = p then w (ix3 (0 : Fin 1) (0 : Fin 1) c) else x (ix3 (0 : Fin 1) r c) := by
  unfold VecWindow.put
  by_cases h : r.val = p
  · rw [if_pos h, dif_pos]
    · congr 1
      funext a; fin_cases a
      · exact Fin.ext (by simp [Rect.unitLocal, ix3])
      · exact Fin.ext (by simp [Rect.unitLocal, ix3, h])
      · exact Fin.ext (by simp [Rect.unitLocal, ix3])
    · intro a; fin_cases a
      · simp [ix3]
      · simp [ix3, h]
      · simp [ix3]
  · rw [if_neg h, dif_neg]
    intro hh
    have h1 : p ≤ r.val ∧ r.val < p + 1 := hh 1
    omega

theorem win_row {α : Type} {m l : ℕ} (x : (⟨3, ![1, m, l]⟩ : Shape).Idx → α) (k : ℕ) (hk : k < m) (h) (c : Fin l) :
    VecWindow.window (s := ⟨3, ![1, m, l]⟩) x ![0, k, 0] (⟨3, ![1, 1, l]⟩ : Shape).size h (ix3 (0 : Fin 1) (0 : Fin 1) c)
      = x (ix3 (0 : Fin 1) ⟨k, hk⟩ c) := by
  unfold VecWindow.window
  congr 1
  funext a; fin_cases a <;> exact Fin.ext (by simp [Rect.unit, Rect.emb, ix3])

theorem pay3_eq (x : S1x1x16.Idx → EReal) : k0_pay3 (F := Ideal) x = x := by
  unfold k0_pay3; dsimp only; rw [shapeCast_comp, shapeCast_id]
theorem pay4_eq (x : S1x1x1.Idx → BitVec 32) : k0_pay4 (F := Ideal) x = x := by
  unfold k0_pay4; dsimp only; rw [shapeCast_comp, shapeCast_id]

/-- Which rows of `m` have been filled when `k` rows were looked at: a kept row stands at its rank, the rest is as it was. -/
def Filled {α : Type} (hit : ℕ → ℕ → Prop) (n k : ℕ) (src : ℕ → α) (z : α) (f : ℕ → α) : Prop :=
  (∀ i, i < k → kept hit n i → rank hit n i < 500 → f (rank hit n i) = src i) ∧
  ∀ r, r < 512 → min (rank hit n k) 500 ≤ r → f r = z

theorem filled_zero {α : Type} (hit : ℕ → ℕ → Prop) (n : ℕ) (src : ℕ → α) (z : α) (f : ℕ → α) (h : ∀ r, r < 512 → f r = z) :
    Filled hit n 0 src z f := ⟨fun i hi => absurd hi (by omega), fun r hr _ => h r hr⟩

theorem filled_not {α : Type} {hit : ℕ → ℕ → Prop} {n k : ℕ} {src : ℕ → α} {z : α} {f : ℕ → α} (h : Filled hit n k src z f)
    (hk : ¬ kept hit n k) : Filled hit n (k + 1) src z f := by
  refine ⟨fun i hi hki hr => ?_, fun r hr => ?_⟩
  · have : i ≠ k := fun e => hk (e ▸ hki)
    exact h.1 i (by omega) hki hr
  · rw [rank_succ_not hit n k hk]; exact h.2 r hr

theorem filled_kept {α : Type} {hit : ℕ → ℕ → Prop} {n k : ℕ} {src : ℕ → α} {z : α} {f g : ℕ → α} (h : Filled hit n k src z f)
    (hk : kept hit n k) (hg : ∀ r, r < 512 → g r = if r = rank hit n k ∧ rank hit n k < 500 then src k else f r) :
    Filled hit n (k + 1) src z g := by
  refine ⟨fun i hi hki hr => ?_, fun r hr hle => ?_⟩
  · rw [hg _ (by omega)]
    by_cases e : i = k
    · subst e; rw [if_pos ⟨rfl, hr⟩]
    · have := rank_lt hit n i k hki (by omega)
      rw [if_neg (by omega)]; exact h.1 i (by omega) hki hr
  · rw [rank_succ_kept hit n k hk] at hle
    rw [hg r hr, if_neg (by omega)]
    exact h.2 r hr (by omega)

section Fold
variable {bx : ℕ → Box} {X2 : S1x4096x16.Idx → EReal} {X4 : S1x4x4096x1.Idx → EReal} {X5 : S1x4096x1.Idx → BitVec 32}
  {R : Fin 5 → S1x32x128.Idx → EReal} (H : Holds bx X4 R)

/-- Row `k` of the kernel's input rows and labels; row `r` of its outputs (anything past the end). -/
def src2 (X2 : S1x4096x16.Idx → EReal) (c : Fin 16) (k : ℕ) : EReal := if h : k < 4096 then X2 (ix3 (0 : Fin 1) (⟨k, h⟩ : Fin 4096) c) else 0
def src5 (X5 : S1x4096x1.Idx → BitVec 32) (k : ℕ) : BitVec 32 := if h : k < 4096 then X5 (ix3 (0 : Fin 1) (⟨k, h⟩ : Fin 4096) (0 : Fin 1)) else 0
def outRow (o : S1x512x16.Idx → EReal) (c : Fin 16) (r : ℕ) : EReal := if h : r < 512 then o (ix3 (0 : Fin 1) (⟨r, h⟩ : Fin 512) c) else 0
def labRow (o : S1x512x1.Idx → BitVec 32) (r : ℕ) : BitVec 32 := if h : r < 512 then o (ix3 (0 : Fin 1) (⟨r, h⟩ : Fin 512) (0 : Fin 1)) else 0

/-- The pair relation of the kernel. -/
def hitK (bx : ℕ → Box) (i j : ℕ) : Prop := (bx i).hitsMul (bx j)

structure Inv (bx : ℕ → Box) (X2 : S1x4096x16.Idx → EReal) (X5 : S1x4096x1.Idx → BitVec 32) (n k : ℕ) (s : St Ideal) : Prop where
  sup : ∀ y : S32x128.Idx, s.sup y = if gone (hitK bx) k (lane y) then (1 : EReal) else 0
  p : s.p.toNat = rank (hitK bx) n k
  out : ∀ c, Filled (hitK bx) n k (src2 X2 c) 0 (outRow s.out c)
  lab : Filled (hitK bx) n k (src5 X5) 4294967295#32 (labRow s.lab)

theorem inv_zero (n : ℕ) : Inv bx X2 X5 n 0 (st0 : St Ideal) where
  sup y := by
    show Ideal.ofBits .f32 0x00000000#32 = _
    simp [gone, Ideal.ofBits_zero_f32]
  p := by simp [st0, rank]
  out c := filled_zero _ _ _ _ _ fun r hr => by
    rw [outRow, dif_pos hr]
    exact Ideal.ofBits_zero_f32
  lab := filled_zero _ _ _ _ _ fun r hr => by rw [labRow, dif_pos hr]; rfl

include H in
theorem inv_step {v1 : BitVec 32} (hv : v1.toNat ≤ 4096) (k : Fin (k0_t1_loop v1).trips) (hk : k.val < 4096) (hkn : k.val < v1.toNat) (s : St Ideal)
    (I : Inv bx X2 X5 v1.toNat k.val s) : Inv bx X2 X5 v1.toNat (k.val + 1) (stepSt X2 X4 X5 R k hk s) := by
  have hc : k0_cond1 (keepBit (F := Ideal) k s.sup) = 1#1 ↔ kept (hitK bx) v1.toNat k.val := by
    rw [keepBit_eq k hk, I.sup, lane_laneOf]
    unfold kept
    by_cases h : gone (hitK bx) k.val k.val <;> simp [h, hkn]
  have hp : s.p.toNat ≤ 4096 := by rw [I.p]; exact (rank_le _ _ _).trans (by omega)
  by_cases hkept : kept (hitK bx) v1.toNat k.val
  · unfold stepSt
    rw [if_pos (hc.2 hkept)]
    refine ⟨fun y => ?_, ?_, fun c => filled_kept (I.out c) hkept fun r hr => ?_, filled_kept I.lab hkept fun r hr => ?_⟩
    · show supAfter (F := Ideal) X4 R k hk s.sup y = _
      rw [supAfter_eq k hk H, I.sup y]
      have e : gone (hitK bx) (k.val + 1) (lane y) ↔ gone (hitK bx) k.val (lane y) ∨ ((bx k.val).hitsMul (bx (lane y)) ∧ k.val < lane y) := by
        show _ ∨ (¬ gone (hitK bx) k.val k.val ∧ _ ∧ _) ↔ _
        rw [and_iff_right hkept.2]; exact Iff.rfl
      by_cases h1 : gone (hitK bx) k.val (lane y) <;> by_cases h2 : (bx k.val).hitsMul (bx (lane y)) ∧ k.val < lane y <;>
        simp only [e, h1, h2, or_true, true_or, or_false, if_true, if_false, max_self] <;> simp
    · show (Scalar.addi s.p 1#32).toNat = _
      rw [rank_succ_kept _ _ _ hkept, ← I.p]
      show (s.p + 1#32).toNat = _
      rw [BitVec.toNat_add]; simp; omega
    · unfold outRow
      rw [dif_pos hr, dif_pos hr]
      dsimp only
      by_cases h5 : s.p.toNat < 500
      · rw [if_pos ((cond2_eq (by omega)).2 h5)]
        unfold outAfter
        rw [pay3_eq]
        refine (put_row (m := 512) (l := 16) s.out _ _ ⟨r, hr⟩ c).trans ?_
        rw [← I.p]
        by_cases e : r = s.p.toNat
        · rw [if_pos e, if_pos ⟨e, h5⟩, src2, dif_pos hk]
          exact win_row (m := 4096) (l := 16) X2 k.val hk _ c
        · rw [if_neg e, if_neg (fun h => e h.1)]
      · rw [if_neg (fun h => h5 ((cond2_eq (by omega)).1 h)), ← I.p, if_neg (fun h => h5 h.2)]
    · unfold labRow
      rw [dif_pos hr, dif_pos hr]
      dsimp only
      by_cases h5 : s.p.toNat < 500
      · rw [if_pos ((cond2_eq (by omega)).2 h5)]
        unfold labAfter
        rw [pay4_eq]
        refine (put_row (m := 512) (l := 1) s.lab _ _ ⟨r, hr⟩ 0).trans ?_
        rw [← I.p]
        by_cases e : r = s.p.toNat
        · rw [if_pos e, if_pos ⟨e, h5⟩, src5, dif_pos hk]
          exact win_row (m := 4096) (l := 1) X5 k.val hk _ 0
        · rw [if_neg e, if_neg (fun h => e h.1)]
      · rw [if_neg (fun h => h5 ((cond2_eq (by omega)).1 h)), ← I.p, if_neg (fun h => h5 h.2)]
  · unfold stepSt
    rw [if_neg (fun h => hkept (hc.1 h))]
    refine ⟨fun y => ?_, ?_, fun c => filled_not (I.out c) hkept, filled_not I.lab hkept⟩
    · rw [I.sup y]
      have e : gone (hitK bx) (k.val + 1) (lane y) ↔ gone (hitK bx) k.val (lane y) := by
        show _ ∨ (¬ gone (hitK bx) k.val k.val ∧ _ ∧ _) ↔ _
        have : gone (hitK bx) k.val k.val := by by_contra h; exact hkept ⟨hkn, h⟩
        simp [this]
      simp only [e]
    · rw [rank_succ_not _ _ _ hkept]; exact I.p

include H in
/-- The loop after `k` trips. -/
theorem inv_at (v1 : BitVec 32) (hv : v1.toNat ≤ 4096) : ∀ k, k ≤ v1.toNat → Inv bx X2 X5 v1.toNat k (stAt X2 X4 X5 R v1 hv st0 k)
  | 0, _ => inv_zero _
  | k + 1, h => by
    have ht : k < (k0_t1_loop v1).trips := by rw [trips_eq hv]; omega
    rw [stAt, dif_pos ht]
    exact inv_step H hv ⟨k, ht⟩ (by show k < 4096; omega) (by show k < v1.toNat; omega) _ (inv_at v1 hv k (by omega))

end Fold

end Cert.KernelIdeal.Nms
-- ==== Proof.IOut.lean ====
/-
  What the kernel leaves in its two results, from the arguments: the boxes its planes hold, the blocks its windows read, and
  the rows of the two output arrays.
-/
module

public import proofs.«01_k».proof.Proof.ISide
public import proofs.«01_k».proof.Proof.IFold
public import proofs.«01_k».proof.Proof.ILaunch
public import Idealize.ShloMosaic.Lib.Pipeline.ValueKit

@[expose] public section

set_option maxRecDepth 16384

noncomputable section

namespace Cert.KernelIdeal.Nms

open Cert.KernelIdeal Cert.KernelIdeal.Gen Cert.Nms
open Idealize.ShloMosaic Idealize.ShloMosaic.TcCoe Idealize.ShloMosaic.Tactic
open Idealize.ShloMosaic.Pipeline (Dat Cfg Window BodyObligation cellOf)

section Planes
variable (bx : ℕ → Box) (X4 : S1x4x4096x1.Idx → EReal) (X3 : S1x4x32x128.Idx → EReal)

theorem word3 (r : ℕ) (hr : r < 4) (h) (u : Fin 32) (v : Fin 128) :
    w3 (F := Ideal) X3 r h (ix4 (0 : Fin 1) (0 : Fin 1) u v) = X3 (ix4 (0 : Fin 1) (⟨r, hr⟩ : Fin 4) u v) := by
  unfold w3 VecWindow.window
  congr 1
  funext a; fin_cases a <;> exact Fin.ext (by simp [Rect.unit, Rect.emb])

theorem plane3 (f : S1x1x32x128.Idx → EReal) (u : Fin 32) (v : Fin 128) :
    shapeCast S32x128 f shapeCasts_S1x1x32x128_S32x128 (ix2 u v) = f (ix4 (0 : Fin 1) (0 : Fin 1) u v) :=
  shapeCast_apply _ _ _ _ (by simp [Shape.rowMajor_val_two, Shape.rowMajor_val_four])

variable {X3} in
theorem at3 (r : ℕ) (hr : r < 4) (h) {u : Fin 32} {v : Fin 128} {a : EReal} (e : X3 (ix4 (0 : Fin 1) (⟨r, hr⟩ : Fin 4) u v) = a) :
    shapeCast S32x128 (w3 (F := Ideal) X3 r h) shapeCasts_S1x1x32x128_S32x128 (ix2 u v) = a :=
  (plane3 _ u v).trans ((word3 X3 r hr h u v).trans e)

theorem half_sub {a a' b b' : EReal} (ha : a = a') (hb : b = b') : a - cHalf * b = a' - b' * cHalf := by rw [ha, hb, mul_comm]
theorem half_add {a a' b b' : EReal} (ha : a = a') (hb : b = b') : a + cHalf * b = a' + b' * cHalf := by rw [ha, hb, mul_comm]

theorem planes_holds (hX4 : ∀ k (hk : k < 4096), X4 (ix4 (0 : Fin 1) (0 : Fin 4) (⟨k, hk⟩ : Fin 4096) (0 : Fin 1)) = (bx k).x
      ∧ X4 (ix4 (0 : Fin 1) (1 : Fin 4) (⟨k, hk⟩ : Fin 4096) (0 : Fin 1)) = (bx k).y
      ∧ X4 (ix4 (0 : Fin 1) (2 : Fin 4) (⟨k, hk⟩ : Fin 4096) (0 : Fin 1)) = (bx k).dx
      ∧ X4 (ix4 (0 : Fin 1) (3 : Fin 4) (⟨k, hk⟩ : Fin 4096) (0 : Fin 1)) = (bx k).dy)
    (hX3 : ∀ u v, X3 (ix4 (0 : Fin 1) (0 : Fin 4) u v) = (bx (u.val * 128 + v.val)).x
      ∧ X3 (ix4 (0 : Fin 1) (1 : Fin 4) u v) = (bx (u.val * 128 + v.val)).y
      ∧ X3 (ix4 (0 : Fin 1) (2 : Fin 4) u v) = (bx (u.val * 128 + v.val)).dx
      ∧ X3 (ix4 (0 : Fin 1) (3 : Fin 4) u v) = (bx (u.val * 128 + v.val)).dy) :
    Holds bx X4 (planes (F := Ideal) X3) where
  x k hk := (hX4 k hk).1
  y k hk := (hX4 k hk).2.1
  dx k hk := (hX4 k hk).2.2.1
  dy k hk := (hX4 k hk).2.2.2
  x1 y := by
    show k0_pay41 (F := Ideal) _ _ _ _ = _
    unfold k0_pay41
    refine (cast_plane _ _ _).trans ?_
    exact half_sub (at3 0 (by decide) inb_S1x4x32x128_S1x1x32x128_0_0_0_0 (hX3 (y 0) (y 1)).1) (at3 2 (by decide) inb_S1x4x32x128_S1x1x32x128_0_2_0_0 (hX3 (y 0) (y 1)).2.2.1)
  x2 y := by
    show k0_pay42 (F := Ideal) _ _ _ = _
    unfold k0_pay42
    refine (cast_plane _ _ _).trans ?_
    exact half_add (at3 0 (by decide) inb_S1x4x32x128_S1x1x32x128_0_0_0_0 (hX3 (y 0) (y 1)).1) (at3 2 (by decide) inb_S1x4x32x128_S1x1x32x128_0_2_0_0 (hX3 (y 0) (y 1)).2.2.1)
  y1 y := by
    show k0_pay43 (F := Ideal) _ _ _ = _
    unfold k0_pay43
    refine (cast_plane _ _ _).trans ?_
    exact half_sub (at3 1 (by decide) inb_S1x4x32x128_S1x1x32x128_0_1_0_0 (hX3 (y 0) (y 1)).2.1) (at3 3 (by decide) inb_S1x4x32x128_S1x1x32x128_0_3_0_0 (hX3 (y 0) (y 1)).2.2.2)
  y2 y := by
    show k0_pay44 (F := Ideal) _ _ _ = _
    unfold k0_pay44
    refine (cast_plane _ _ _).trans ?_
    exact half_add (at3 1 (by decide) inb_S1x4x32x128_S1x1x32x128_0_1_0_0 (hX3 (y 0) (y 1)).2.1) (at3 3 (by decide) inb_S1x4x32x128_S1x1x32x128_0_3_0_0 (hX3 (y 0) (y 1)).2.2.2)
  area y := by
    show k0_pay45 (F := Ideal) _ _ _ _ _ _ = _
    unfold k0_pay45
    refine (cast_plane _ _ _).trans ?_
    exact congrArg₂ (· * ·)
      (congrArg₂ (· - ·) (half_add (at3 0 (by decide) inb_S1x4x32x128_S1x1x32x128_0_0_0_0 (hX3 (y 0) (y 1)).1) (at3 2 (by decide) inb_S1x4x32x128_S1x1x32x128_0_2_0_0 (hX3 (y 0) (y 1)).2.2.1))
        (half_sub (at3 0 (by decide) inb_S1x4x32x128_S1x1x32x128_0_0_0_0 (hX3 (y 0) (y 1)).1) (at3 2 (by decide) inb_S1x4x32x128_S1x1x32x128_0_2_0_0 (hX3 (y 0) (y 1)).2.2.1)))
      (congrArg₂ (· - ·) (half_add (at3 1 (by decide) inb_S1x4x32x128_S1x1x32x128_0_1_0_0 (hX3 (y 0) (y 1)).2.1) (at3 3 (by decide) inb_S1x4x32x128_S1x1x32x128_0_3_0_0 (hX3 (y 0) (y 1)).2.2.2))
        (half_sub (at3 1 (by decide) inb_S1x4x32x128_S1x1x32x128_0_1_0_0 (hX3 (y 0) (y 1)).2.1) (at3 3 (by decide) inb_S1x4x32x128_S1x1x32x128_0_3_0_0 (hX3 (y 0) (y 1)).2.2.2)))

end Planes

section Blocks
variable (m : (ℓ : Loc nD τ sig) → Buf (Elt Ideal) ℓ) (c : Dev nD)

/-- The blocks of every window, at each of the two points. -/
theorem idx : ∀ t : Fin cfg0.N, win0_0.index t = ![0] ∧ win0_1.index t = ![t.val, 0, 0] ∧ win0_2.index t = ![t.val, 0, 0, 0]
    ∧ win0_3.index t = ![t.val, 0, 0, 0] ∧ win0_4.index t = ![t.val, 0, 0] ∧ win0_5.index t = ![t.val, 0, 0] ∧ win0_6.index t = ![t.val, 0, 0] :=
  (by decide +kernel : ∀ t : Fin grid0.N, _)

/-- The batch row of a point. -/
abbrev row (t : Fin cfg0.N) : Fin 2 := ⟨t.val, t.isLt⟩

theorem blk1 (t : Fin cfg0.N) (k : Fin 4096) (r : Fin 16) : (iblk m c 1 t : S1x4096x16.Idx → EReal) (ix3 (0 : Fin 1) k r)
    = (V m c main_v24 : S2x4096x16.Idx → EReal) (ix3 (row t) k r) := by
  blk_ext [iblk, V, idx t]
theorem blk2 (t : Fin cfg0.N) (r : Fin 4) (u : Fin 32) (v : Fin 128) : (iblk m c 2 t : S1x4x32x128.Idx → EReal) (ix4 (0 : Fin 1) r u v)
    = (V m c main_v38 : S2x4x32x128.Idx → EReal) (ix4 (row t) r u v) := by
  blk_ext [iblk, V, idx t]
theorem blk3 (t : Fin cfg0.N) (r : Fin 4) (k : Fin 4096) : (iblk m c 3 t : S1x4x4096x1.Idx → EReal) (ix4 (0 : Fin 1) r k (0 : Fin 1))
    = (V m c main_v39 : S2x4x4096x1.Idx → EReal) (ix4 (row t) r k (0 : Fin 1)) := by
  blk_ext [iblk, V, idx t]
theorem blk4 (t : Fin cfg0.N) (k : Fin 4096) : (iblk m c 4 t : S1x4096x1.Idx → BitVec 32) (ix3 (0 : Fin 1) k (0 : Fin 1))
    = (V m c main_v14 : S2x4096x1.Idx → BitVec 32) (ix3 (row t) k (0 : Fin 1)) := by
  blk_ext [iblk, V, idx t]
theorem cnt_is (t : Fin cfg0.N) : cnt m c t = (V m c main_v18 : IVec S2 32) (ix1 (row t)) := by
  unfold cnt cntOf
  blk_ext [iblk, V, idx t]
  exact (by decide +kernel : ∀ t : Fin grid0.N, (grid0.coords t 0).val = t.val) t

theorem out_at (t t' : Fin cfg0.N) (y y' : S1x512x16.Idx) (ht : t'.val = t.val) (hy : ∀ a, (y' a).val = (y a).val) : (final m c t).out y = (final m c t').out y' := by
  obtain rfl : t' = t := Fin.ext ht
  obtain rfl : y' = y := funext fun a => Fin.ext (hy a)
  rfl
theorem lab_at (t t' : Fin cfg0.N) (y y' : S1x512x1.Idx) (ht : t'.val = t.val) (hy : ∀ a, (y' a).val = (y a).val) : (final m c t).lab y = (final m c t').lab y' := by
  obtain rfl : t' = t := Fin.ext ht
  obtain rfl : y' = y := funext fun a => Fin.ext (hy a)
  rfl

theorem arr5 : (dats m 0 c).arrAt 5 cfg0.N
    = (fun y : S2x512x16.Idx => (final m c (y 0 : Fin 2)).out (ix3 (0 : Fin 1) (y 1 : Fin 512) (y 2 : Fin 16)) : S2x512x16.Idx → EReal) := by
  refine (dats m 0 c).arrAt_eq_of_covers 5 _ (by decide +kernel) fun t hf y => ?_
  blk_simp
  rw [after0_5]
  have h0 : (y 0).val < 1 := (y 0).isLt
  refine out_at m c t _ y _ ?_ fun a => ?_
  · blk_simp [idx t]
  · fin_cases a
    · show 0 = (y 0).val; omega
    · show ((win0_5.blk t).view.emb y 1).val = (y 1).val
      blk_simp [idx t]
    · show ((win0_5.blk t).view.emb y 2).val = (y 2).val
      blk_simp [idx t]

theorem arr6 : (dats m 0 c).arrAt 6 cfg0.N
    = (fun y : S2x512x1.Idx => (final m c (y 0 : Fin 2)).lab (ix3 (0 : Fin 1) (y 1 : Fin 512) (y 2 : Fin 1)) : S2x512x1.Idx → BitVec 32) := by
  refine (dats m 0 c).arrAt_eq_of_covers 6 _ (by decide +kernel) fun t hf y => ?_
  blk_simp
  rw [after0_6]
  have h0 : (y 0).val < 1 := (y 0).isLt
  refine lab_at m c t _ y _ ?_ fun a => ?_
  · blk_simp [idx t]
  · fin_cases a
    · show 0 = (y 0).val; omega
    · show ((win0_6.blk t).view.emb y 1).val = (y 1).val
      blk_simp [idx t]
    · show ((win0_6.blk t).view.emb y 2).val = (y 2).val
      blk_simp [idx t]

end Blocks

end Cert.KernelIdeal.Nms
-- ==== Proof.IRes.lean ====
/-
  The rows of the kernel's two results: row `r` is the `r`-th box kept by the greedy scan, or the filling.
-/
module

public import proofs.«01_k».proof.Proof.IOut

@[expose] public section

set_option maxRecDepth 16384

noncomputable section

namespace Cert.KernelIdeal.Nms

open Cert.KernelIdeal Cert.KernelIdeal.Gen Cert.Nms
open Idealize.ShloMosaic Idealize.ShloMosaic.TcCoe Idealize.ShloMosaic.Tactic
open Idealize.ShloMosaic.Pipeline (Dat Cfg Window BodyObligation cellOf)

variable (m : (ℓ : Loc nD τ sig) → Buf (Elt Ideal) ℓ) (c : Dev nD)

/-- The footprints of batch row `b`. -/
abbrev bxs (b : Fin 2) : ℕ → Box := bxOf (boxes (cls m c) (box m c)) b

theorem held (t : Fin cfg0.N) : Holds (bxs m c (row t)) (iblk m c 3 t) (planes (F := Ideal) (iblk m c 2 t)) := by
  refine planes_holds _ _ _ (fun k hk => ?_) (fun u v => ?_)
  · have e : ∀ r : Fin 4, (iblk m c 3 t : S1x4x4096x1.Idx → EReal) (ix4 (0 : Fin 1) r (⟨k, hk⟩ : Fin 4096) (0 : Fin 1))
        = coords (boxes (cls m c) (box m c)) (ix3 (row t) r (⟨k, hk⟩ : Fin 4096)) := fun r => by
      rw [blk3]
      show (V0 m c (Proc.devRef .tc main_v39) : S2x4x4096x1.Idx → EReal) _ = _
      rw [V0_eq, in_v39, v12_eq]
    rw [show bxs m c (row t) _ = _ from bxOf_lt (boxes (cls m c) (box m c)) (row t) _ hk]
    exact ⟨(e 0).trans (coords_x _ _ _), (e 1).trans (coords_y _ _ _), (e 2).trans (coords_dx _ _ _), (e 3).trans (coords_dy _ _ _)⟩
  · have hk : u.val * 128 + v.val < 4096 := by omega
    have e : ∀ r : Fin 4, (iblk m c 2 t : S1x4x32x128.Idx → EReal) (ix4 (0 : Fin 1) r u v)
        = coords (boxes (cls m c) (box m c)) (ix3 (row t) r (⟨u.val * 128 + v.val, hk⟩ : Fin 4096)) := fun r => by
      rw [blk2]
      show (V0 m c (Proc.devRef .tc main_v38) : S2x4x32x128.Idx → EReal) _ = _
      rw [V0_eq, in_v38, v12_eq]
    rw [show bxs m c (row t) _ = _ from bxOf_lt (boxes (cls m c) (box m c)) (row t) _ hk]
    exact ⟨(e 0).trans (coords_x _ _ _), (e 1).trans (coords_y _ _ _), (e 2).trans (coords_dx _ _ _), (e 3).trans (coords_dy _ _ _)⟩

theorem cnt_toNat (t : Fin cfg0.N) : (cnt m c t).toNat = howMany (cls m c) (row t) := by
  rw [cnt_is, v18_is]

theorem final_inv (t : Fin cfg0.N) : Inv (bxs m c (row t)) (iblk m c 1 t) (iblk m c 4 t) (howMany (cls m c) (row t)) (howMany (cls m c) (row t)) (final m c t) := by
  have h := inv_at (X2 := iblk m c 1 t) (X5 := iblk m c 4 t) (held m c t) (cnt m c t) (cnt_le m c t) (cnt m c t).toNat le_rfl
  rw [← cnt_toNat]
  exact h

/-- The kernel's two results. -/
abbrev res41 : S2x500x9.Idx → EReal := Pipeline.afterTail₀ cfgs (dats m) 0 (V0 m) [hostOps1] c main_v41
abbrev res43 : S2x500.Idx → BitVec 32 := Pipeline.afterTail₀ cfgs (dats m) 0 (V0 m) [hostOps1] c main_v43

/-- They are the first rows of the two output arrays. -/
theorem res41_row (b : Fin 2) (r : Fin 500) (q : Fin 9) : res41 m c (ix3 b r q) = outRow (final m c b).out ⟨q.val, by omega⟩ r.val := by
  have e : Pipeline.afterTail₀ cfgs (dats m) 0 (V0 m) [hostOps1] c main_v41
      = (extractStridedSlice S2x500x9 ![0, 0, 0] ((dats m 0 c).arrAt 5 cfg0.N : S2x512x16.Idx → EReal) slices_S2x512x16_S2x500x9_0_0_0 : S2x500x9.Idx → EReal) := by
    unfold Pipeline.afterTail₀
    rw [List.flatten_singleton]
    unfold hostOps1
    after_reads_simp
    exact congrArg (fun x : S2x512x16.Idx → EReal => extractStridedSlice S2x500x9 ![0, 0, 0] x slices_S2x512x16_S2x500x9_0_0_0)
      (Pipeline.withArrays_arr spec0 (by decide) c (V0 m c) (fun w => (dats m 0 c).arrAt w cfg0.N) 5)
  have hr : r.val < 512 := by omega
  rw [outRow, dif_pos hr]
  unfold res41
  rw [e, arr5]
  pointwise []

theorem res43_row (b : Fin 2) (r : Fin 500) : res43 m c (ix2 b r) = labRow (final m c b).lab r.val := by
  have e : Pipeline.afterTail₀ cfgs (dats m) 0 (V0 m) [hostOps1] c main_v43
      = (shapeCast S2x500 (extractStridedSlice S2x500x1 ![0, 0, 0] ((dats m 0 c).arrAt 6 cfg0.N : S2x512x1.Idx → BitVec 32) slices_S2x512x1_S2x500x1_0_0_0) shapeCasts_S2x500x1_S2x500
        : S2x500.Idx → BitVec 32) := by
    unfold Pipeline.afterTail₀
    rw [List.flatten_singleton]
    unfold hostOps1
    after_reads_simp
    exact congrArg (fun x : S2x512x1.Idx → BitVec 32 => shapeCast S2x500 (extractStridedSlice S2x500x1 ![0, 0, 0] x slices_S2x512x1_S2x500x1_0_0_0) shapeCasts_S2x500x1_S2x500)
      (Pipeline.withArrays_arr spec0 (by decide) c (V0 m c) (fun w => (dats m 0 c).arrAt w cfg0.N) 6)
  have hr : r.val < 512 := by omega
  rw [labRow, dif_pos hr]
  unfold res43
  rw [e, arr6]
  refine (shapeCast_apply _ _ (ix2 b r) (ix3 b r (0 : Fin 1)) (by simp [Shape.rowMajor_val_two, Shape.rowMajor_val_three])).trans ?_
  pointwise []

/-- The rows the scan reads. -/
theorem src2_is (b : Fin 2) (q : Fin 9) (i : Fin 4096) :
    src2 (iblk m c 1 b) ⟨q.val, by omega⟩ i.val = rowOf (vals (cls m c)) (boxes (cls m c) (box m c)) b i q := by
  rw [src2, dif_pos i.isLt, ← values_eq, ← v12_eq, ← in_v24, ← V0_eq]
  exact blk1 m c b i _
theorem src5_is (b : Fin 2) (i : Fin 4096) : src5 (iblk m c 4 b) i.val = labs (cls m c) (ix2 b i) := by
  rw [src5, dif_pos i.isLt, ← v13_eq, ← in_v14 (U6 m c) b i 0, ← V0_eq]
  exact blk4 m c b i

section Rows
variable (b : Fin 2)

theorem res41_kept (i : Fin 4096) (hk : kept (hitK (bxs m c b)) (howMany (cls m c) b) i.val) (r : Fin 500)
    (hr : rank (hitK (bxs m c b)) (howMany (cls m c) b) i.val = r.val) (q : Fin 9) :
    res41 m c (ix3 b r q) = rowOf (vals (cls m c)) (boxes (cls m c) (box m c)) b i q := by
  rw [res41_row, ← src2_is, ← hr]
  exact ((final_inv m c b).out _).1 i.val hk.1 hk (by rw [hr]; exact r.isLt)
theorem res41_past (r : Fin 500) (hr : rank (hitK (bxs m c b)) (howMany (cls m c) b) (howMany (cls m c) b) ≤ r.val) (q : Fin 9) :
    res41 m c (ix3 b r q) = 0 := by
  rw [res41_row]
  exact ((final_inv m c b).out _).2 r.val (by omega) (le_trans (min_le_left _ _) hr)
theorem res43_kept (i : Fin 4096) (hk : kept (hitK (bxs m c b)) (howMany (cls m c) b) i.val) (r : Fin 500)
    (hr : rank (hitK (bxs m c b)) (howMany (cls m c) b) i.val = r.val) : res43 m c (ix2 b r) = labs (cls m c) (ix2 b i) := by
  rw [res43_row, ← src5_is, ← hr]
  exact ((final_inv m c b).lab).1 i.val hk.1 hk (by rw [hr]; exact r.isLt)
theorem res43_past (r : Fin 500) (hr : rank (hitK (bxs m c b)) (howMany (cls m c) b) (howMany (cls m c) b) ≤ r.val) :
    res43 m c (ix2 b r) = 4294967295#32 := by
  rw [res43_row]
  exact ((final_inv m c b).lab).2 r.val (by omega) (le_trans (min_le_left _ _) hr)

end Rows

end Cert.KernelIdeal.Nms
-- ==== Proof.Scores.lean ====
/-
  Scores over the extended reals: the logistic function is strictly increasing, so it commutes with the greatest class
  and does not move the first class at which the greatest is attained.
-/
module

public import Idealize.ShloMosaic.Lib.Pointwise
public import Idealize.ShloMosaic.Lib.IdealHost
public import Idealize.ShloMosaic.PureOps.Reduce

@[expose] public section

noncomputable section

namespace Cert.Nms

open Idealize.ShloMosaic

theorem logistic_strictMono : StrictMono Ideal.logistic := by
  intro x y h
  induction x using EReal.rec with
  | bot =>
    induction y using EReal.rec with
    | bot => exact absurd h (lt_irrefl _)
    | top => rw [Ideal.logistic_bot, Ideal.logistic_top]; exact zero_lt_one
    | coe r => rw [Ideal.logistic_bot, Ideal.logistic_coe]; exact_mod_cast inv_pos.mpr (by positivity)
  | top => exact absurd h not_top_lt
  | coe r =>
    induction y using EReal.rec with
    | bot => exact absurd h not_lt_bot
    | top =>
      rw [Ideal.logistic_top, Ideal.logistic_coe]
      have : (1 + Real.exp (-r))⁻¹ < 1 := inv_lt_one_of_one_lt₀ (by linarith [Real.exp_pos (-r)])
      exact_mod_cast this
    | coe q =>
      rw [Ideal.logistic_coe, Ideal.logistic_coe]
      have hrq : r < q := by exact_mod_cast h
      have : (1 + Real.exp (-r))⁻¹ < (1 + Real.exp (-q))⁻¹ :=
        inv_strictAnti₀ (by linarith [Real.exp_pos (-q)]) (by linarith [Real.exp_lt_exp.mpr (neg_lt_neg hrq)])
      exact_mod_cast this

/-- The greatest of a list of values, from a start. -/
theorem foldl_max_map {ι : Type} (f : EReal → EReal) (hf : Monotone f) (x : ι → EReal) : ∀ (l : List ι) (a : EReal),
    f (l.foldl (fun r n => max r (x n)) a) = l.foldl (fun r n => max r (f (x n))) (f a)
  | [], _ => rfl
  | n :: l, a => by
    rw [List.foldl_cons, List.foldl_cons, foldl_max_map f hf x l, hf.map_max]

theorem foldl_max_map_bot {ι : Type} (f : EReal → EReal) (hf : Monotone f) (x : ι → EReal) (l : List ι) (hl : l ≠ []) :
    f (l.foldl (fun r n => max r (x n)) ⊥) = l.foldl (fun r n => max r (f (x n))) ⊥ := by
  obtain ⟨n, l, rfl⟩ := List.exists_cons_of_ne_nil hl
  rw [List.foldl_cons, List.foldl_cons, foldl_max_map f hf x l, max_eq_right bot_le, max_eq_right bot_le]

section Reduce

variable {s t u : Shape} {axes : List (Fin s.rank)}

/-- An increasing function commutes with the greatest element along an axis. -/
theorem reduce_max_map (f : EReal → EReal) (hf : Monotone f) (x : FVec Ideal s .f32) (v : FVec Ideal u .f32) (h : s.ReducesTo axes t) (hu : 0 < u.numel)
    (hv : v (Shape.Idx.first hu) = (⊥ : EReal)) (j : t.Idx) (i : s.Idx) (hi : h.drop i = j) :
    f (Host.reduce (FloatOps.maximumf (F := Ideal) (φ := .f32)) x v h hu j) = Host.reduce (FloatOps.maximumf (F := Ideal) (φ := .f32)) (fun i => f (x i) : FVec Ideal s .f32) v h hu j := by
  unfold Host.reduce
  rw [hv]
  refine foldl_max_map_bot f hf _ _ (List.ne_nil_of_mem (a := s.rowMajor i) ?_)
  simp [hi]

/-- One step of the search for the first greatest class: the greater value wins, of equal values the smaller class. -/
def firstMax (a b : EReal × BitVec 32) : EReal × BitVec 32 :=
  let v4 := IntOp.ori (Ideal.cmp .ogt a.1 b.1) (Ideal.cmp .une a.1 a.1)
  let v8 := IntOp.ori v4 (IntOp.andi (Ideal.cmp .oeq a.1 b.1) (IntOp.cmpi .slt a.2 b.2))
  (Scalar.select v4 a.1 b.1, Scalar.select v8 a.2 b.2)

/-- A step looks at the values' order only. -/
theorem firstMax_map (f : EReal → EReal) (hf : StrictMono f) (a b : EReal × BitVec 32) :
    firstMax (f a.1, a.2) (f b.1, b.2) = (f (firstMax a b).1, (firstMax a b).2) := by
  unfold firstMax
  simp only [Ideal.cmp, hf.lt_iff_lt, hf.injective.eq_iff, ne_eq, not_true_eq_false, Scalar.select]
  split <;> rfl

theorem firstMax_start (a : EReal) (i : BitVec 32) : firstMax (⊥, i) (a, i) = (a, i) := by
  unfold firstMax
  simp [Ideal.cmp, Scalar.select, IntOp.ori]

theorem foldl_firstMax_map {ι : Type} (f : EReal → EReal) (hf : StrictMono f) (x : ι → EReal) (y : ι → BitVec 32) : ∀ (l : List ι) (a : EReal × BitVec 32),
    l.foldl (fun r n => firstMax r (f (x n), y n)) (f a.1, a.2)
      = (f (l.foldl (fun r n => firstMax r (x n, y n)) a).1, (l.foldl (fun r n => firstMax r (x n, y n)) a).2)
  | [], _ => rfl
  | n :: l, a => by
    rw [List.foldl_cons, List.foldl_cons, firstMax_map f hf a (x n, y n), foldl_firstMax_map f hf x y l]

/-- The first greatest class is that of the scores' images under a strictly increasing function. -/
theorem argReduce_map (f : EReal → EReal) (hf : StrictMono f) (r : EReal × BitVec 32 → EReal × BitVec 32 → EReal × BitVec 32) (hr : r = firstMax)
    (x : FVec Ideal s .f32) (y : s.Idx → BitVec 32) (ix : FVec Ideal u .f32) (iy : u.Idx → BitVec 32) (h : s.ReducesTo axes t) (hu : 0 < u.numel)
    (hv : ix (Shape.Idx.first hu) = (⊥ : EReal)) (j : t.Idx) (i : s.Idx) (hi : h.drop i = j)
    (hy : ∀ i', h.drop i' = j → s.rowMajor i' ≤ s.rowMajor i → y i' = iy (Shape.Idx.first hu)) :
    (Host.argReduce (F := Ideal) (φ := .f32) r (fun i => f (x i) : FVec Ideal s .f32) y ix iy h hu j).2 = (Host.argReduce (F := Ideal) (φ := .f32) r x y ix iy h hu j).2 := by
  have hn : ∀ z : FVec Ideal s .f32, (Host.argReduceNaNs (φ := .f32) z y h j).length ≤ 1 := by
    intro z
    have : Host.argReduceNaNs (φ := .f32) z y h j = [] := by
      unfold Host.argReduceNaNs
      refine List.filter_eq_nil_iff.mpr fun p _ => ?_
      show ¬ (Ideal.cmp .une p.1 p.1 == 1#1) = true
      simp [Ideal.cmp]
    rw [this]; simp
  rw [Host.argReduce_apply_eq_reduce2 _ _ _ _ _ h hu j (hn _), Host.argReduce_apply_eq_reduce2 _ _ _ _ _ h hu j (hn _)]
  subst hr
  unfold Host.reduce2
  rw [hv]
  have hl : ((List.finRange s.numel).filter fun n => h.drop (s.rowMajor.symm n) = j).Pairwise (· < ·) :=
    (List.pairwise_lt_finRange _).filter _
  have hm : s.rowMajor i ∈ (List.finRange s.numel).filter fun n => h.drop (s.rowMajor.symm n) = j := by simp [hi]
  have hd : ∀ n ∈ (List.finRange s.numel).filter fun n => h.drop (s.rowMajor.symm n) = j, h.drop (s.rowMajor.symm n) = j := by
    intro n hn; simpa using (List.mem_filter.mp hn).2
  generalize (List.finRange s.numel).filter (fun n => h.drop (s.rowMajor.symm n) = j) = l at hl hm hd ⊢
  rcases l with _ | ⟨n, l⟩
  · exact absurd hm (by simp)
  have hle : n ≤ s.rowMajor i := by
    rcases List.mem_cons.mp hm with h1 | h1
    · exact h1.ge
    · exact ((List.pairwise_cons.mp hl).1 _ h1).le
  have hyn := hy (s.rowMajor.symm n) (hd n List.mem_cons_self) (by simpa using hle)
  rw [List.foldl_cons, List.foldl_cons, hyn, firstMax_start, firstMax_start]
  rw [foldl_firstMax_map f hf (fun n => x (s.rowMajor.symm n)) (fun n => y (s.rowMajor.symm n)) l (x (s.rowMajor.symm n), iy (Shape.Idx.first hu))]

end Reduce

end Cert.Nms

end
-- ==== Proof.RScore.lean ====
/-
  The reference's scores and labels, taken after the logistic function, are the kernel's, taken before it.
-/
module

public import proofs.«01_k».proof.Proof.ISide
public import proofs.«01_k».proof.Proof.Scores
public import proofs.«01_k».proof.Proof.RefRun

@[expose] public section

set_option maxRecDepth 16384

noncomputable section

namespace Cert.ReferenceIdeal.Nms

open Cert.ReferenceIdeal Cert.ReferenceIdeal.Gen Cert.Nms
open Cert.KernelIdeal.Nms (top3 prob masked lab3 at_ vals boxes labs bxOf)
open Idealize.ShloMosaic Idealize.ShloMosaic.TcCoe Idealize.ShloMosaic.Tactic

/-- The probability of every class. -/
def prob3 (x : S2x20000x3.Idx → EReal) : S2x20000x3.Idx → EReal :=
  Host.divf (F := Ideal) (φ := .f32) (broadcastInDim S2x20000x3 ![] bcast_S_S2x20000x3 (constant (F := Ideal) S_ .f32 0x3F800000#32))
    (addf (F := Ideal) (φ := .f32) (broadcastInDim S2x20000x3 ![] bcast_S_S2x20000x3 (constant (F := Ideal) S_ .f32 0x3F800000#32)) (Host.exp (F := Ideal) (φ := .f32) (Host.negf (F := Ideal) (φ := .f32) x)))

theorem one_word : Ideal.ofBits .f32 0x3F800000#32 = 1 := Ideal.ofBits_one_f32
theorem bot_word : Ideal.ofBits .f32 0xFF800000#32 = ⊥ := by
  simp [Ideal.ofBits, Ideal.ieee]

theorem prob3_eq (x : S2x20000x3.Idx → EReal) : prob3 x = fun i => Ideal.logistic (x i) := by
  funext i
  show Ideal.div (Ideal.ofBits .f32 0x3F800000#32) (Ideal.ofBits .f32 0x3F800000#32 + Ideal.exp (-(x i))) = _
  rw [one_word]
  rfl
theorem prob_eq (x : S2x20000.Idx → EReal) : prob x = fun i => Ideal.logistic (x i) := by
  funext i
  show Ideal.div (Ideal.ofBits .f32 0x3F800000#32) (Ideal.ofBits .f32 0x3F800000#32 + Ideal.exp (-(x i))) = _
  rw [one_word]
  rfl

/-- The first class of a row. -/
def firstOf (j : S2x20000.Idx) : S2x20000x3.Idx := ix3 (j 0 : Fin 2) (j 1 : Fin 20000) (0 : Fin 3)

theorem drop_firstOf (j : S2x20000.Idx) : reducesTo_S2x20000x3_S2x20000_d2.drop (firstOf j) = j := by
  funext a; fin_cases a <;> rfl

theorem top_prob (x : S2x20000x3.Idx → EReal) :
    (Host.reduce (FloatOps.maximumf (F := Ideal) (φ := .f32)) (prob3 x) (constant (F := Ideal) S_ .f32 0xFF800000#32) reducesTo_S2x20000x3_S2x20000_d2 h_S_ : S2x20000.Idx → EReal)
      = prob (top3 x) := by
  rw [prob_eq, prob3_eq]
  funext j
  exact (reduce_max_map Ideal.logistic logistic_strictMono.monotone x _ _ _ bot_word j (firstOf j) (drop_firstOf j)).symm

theorem first_zero (a b c a' b' : ℕ) (h0 : a = a') (h1 : b = b') (h : (a * 20000 + b) * 3 + c ≤ (a' * 20000 + b') * 3 + 0) : c = 0 := by omega

theorem lab_prob (x : S2x20000x3.Idx → EReal) :
    (fun j => (Host.argReduce (F := Ideal) (φ := .f32) reducer_argmax_f32_i32 (prob3 x) (iotaInDim S2x20000x3 32 2) (constant (F := Ideal) S_ .f32 0xFF800000#32)
    (constantI S_ 32 0#32) reducesTo_S2x20000x3_S2x20000_d2 h_S_ j).2 : S2x20000.Idx → BitVec 32) = lab3 x := by
  rw [prob3_eq]
  funext j
  refine (argReduce_map Ideal.logistic logistic_strictMono _ rfl x _ _ _ _ _ bot_word j (firstOf j) (drop_firstOf j) ?_).trans rfl
  intro i hi hle
  have h0 : i 0 = j 0 := congrFun hi 0
  have h1 : i 1 = j 1 := congrFun hi 1
  have hl : (S2x20000x3.rowMajor i).val ≤ (S2x20000x3.rowMajor (firstOf j)).val := hle
  rw [Shape.rowMajor_val_three, Shape.rowMajor_val_three] at hl
  have e0 : (i 0).val = (j 0).val := congrArg Fin.val h0
  have e1 : (i 1).val = (j 1).val := congrArg Fin.val h1
  have hz := first_zero (i 0).val (i 1).val (i 2).val (j 0).val (j 1).val e0 e1 hl
  show BitVec.ofNat 32 (i 2).val = 0#32
  rw [hz]

end Cert.ReferenceIdeal.Nms
-- ==== Proof.RSide.lean ====
/-
  The reference's operations before its loop as functions of its two arguments: the top scores with their boxes and labels,
  which are the kernel's, the corners and areas of the boxes, and the overlap over union of every pair.
-/
module

public import proofs.«01_k».proof.Proof.RScore

@[expose] public section

set_option maxRecDepth 16384

noncomputable section

namespace Cert.ReferenceIdeal.Nms

open Cert.ReferenceIdeal Cert.ReferenceIdeal.Gen Cert.Nms
open Cert.KernelIdeal.Nms (top3 prob masked lab3 at_ vals boxes labs bxOf bxOf_lt howMany good good_iff tenth widen_ix3 column_ix3)
open Idealize.ShloMosaic Idealize.ShloMosaic.TcCoe Idealize.ShloMosaic.Tactic

section Lines
variable (W : Valuation τ sig (Elt Ideal))

theorem r0_v5 : StableHlo.after pre0 W (Proc.devRef .tc main_v5) = prob3 (W (Proc.devRef .tc main_arg0)) := by
  unfold pre0; after_reads_simp; rfl
theorem r0_v6 : StableHlo.after pre0 W (Proc.devRef .tc main_v6) = prob (top3 (W (Proc.devRef .tc main_arg0))) := by
  rw [← top_prob]; unfold pre0; after_reads_simp; rfl
theorem r1 (x : S2x20000x3.Idx → EReal) (h : W (Proc.devRef .tc main_v5) = prob3 x) : StableHlo.after pre1 W (Proc.devRef .tc main_v7) = lab3 x := by
  rw [← lab_prob, ← h]; unfold pre1; after_reads_simp; rfl
theorem r2_v9 : StableHlo.after pre2 W (Proc.devRef .tc main_v9) = cmpf (F := Ideal) (φ := .f32) .oge (W (Proc.devRef .tc main_v6))
    (broadcastInDim S2x20000 ![] bcast_S_S2x20000 (constant (F := Ideal) S_ .f32 0x3DCCCCCD#32)) := by
  unfold pre2; after_reads_simp
theorem r2_cst : StableHlo.after pre2 W (Proc.devRef .tc main_cst_3) = constant (F := Ideal) S_ .f32 0xBF800000#32 := by
  unfold pre2; after_reads_simp
theorem r3 : StableHlo.after pre3 W (Proc.devRef .tc main_v10) = (select (W (Proc.devRef .tc main_v9) : S2x20000.Idx → BitVec 1)
    (W (Proc.devRef .tc main_v6) : S2x20000.Idx → EReal) (broadcastInDim S2x20000 ![] bcast_S_S2x20000 (W (Proc.devRef .tc main_cst_3) : S_.Idx → EReal)) : S2x20000.Idx → EReal) := by
  unfold pre3; after_reads_simp; rfl
theorem r4_values : StableHlo.after pre4 W (Proc.devRef .tc main_values)
    = (Host.topK (α := EReal) S2x4096 1 (FloatOps.cmpfTotal (F := Ideal) (φ := .f32) .gt) (W (Proc.devRef .tc main_v10)) sliceFits_S2x20000_S2x4096).1 := by
  unfold pre4; after_reads_simp
theorem r4_indices : StableHlo.after pre4 W (Proc.devRef .tc main_indices)
    = (Host.topK (α := EReal) S2x4096 1 (FloatOps.cmpfTotal (F := Ideal) (φ := .f32) .gt) (W (Proc.devRef .tc main_v10)) sliceFits_S2x20000_S2x4096).2 := by
  unfold pre4; after_reads_simp
theorem r4_v11 : StableHlo.after pre4 W (Proc.devRef .tc main_v11)
    = broadcastInDim S2x4096x1 ![0, 1] bcast_S2x4096_S2x4096x1_0_1 (Host.topK (α := EReal) S2x4096 1 (FloatOps.cmpfTotal (F := Ideal) (φ := .f32) .gt) (W (Proc.devRef .tc main_v10)) sliceFits_S2x20000_S2x4096).2 := by
  unfold pre4; after_reads_simp

theorem r5 (hv : ∀ y, ((W (Proc.devRef .tc main_v11) : S2x4096x1.Idx → BitVec 32) y).toNat < 20000) :
    StableHlo.after pre5 W (Proc.devRef .tc main_v12)
      = (Host.gather gather_S2x20000x7_S2x4096x1_S2x4096x7_2_1_0_0_1_2_117 (W (Proc.devRef .tc main_arg1) : S2x20000x7.Idx → EReal)
        (W (Proc.devRef .tc main_v11) : S2x4096x1.Idx → BitVec 32) : S2x4096x7.Idx → EReal) := by
  have e : StableHlo.after pre5 W (Proc.devRef .tc main_v12)
      = (select (broadcastInDim S2x4096x7 ![0, 1] bcast_S2x4096_S2x4096x7_0_1 (rangeBit 20000 4096 bcast_S_S2x4096x1 bcast_S1_S1x1x1_2 bcast_S1x1x1_S2x4096x1_0_1_2
            reducesTo_S2x4096x1_S2x4096_d2 h_S_ (wrapped 20000 S2x4096x1 bcast_S_S2x4096x1 (W (Proc.devRef .tc main_v11)))))
          (Host.gather gather_S2x20000x7_S2x4096x1_S2x4096x7_2_1_0_0_1_2_117 (W (Proc.devRef .tc main_arg1) : S2x20000x7.Idx → EReal)
            (wrapped 20000 S2x4096x1 bcast_S_S2x4096x1 (W (Proc.devRef .tc main_v11))))
          (broadcastInDim S2x4096x7 ![] bcast_S_S2x4096x7 (constant (F := Ideal) S_ .f32 0x7FC00000#32)) : S2x4096x7.Idx → EReal) := by
    unfold pre5
    after_reads_simp
    rfl
  rw [e, wrapped_id _ _ _ _ (fun y => by have := hv y; omega), rangeBit_one _ _ _ _ _ _ _ _ (by decide) hv]
  exact select_ones _ _ _ (fun _ => rfl)

theorem r6 (hv : ∀ y, ((W (Proc.devRef .tc main_indices) : S2x4096.Idx → BitVec 32) y).toNat < 20000) :
    StableHlo.after pre6 W (Proc.devRef .tc main_v13)
      = (Host.gather gather_S2x20000_S2x4096x1_S2x4096_n_1_0_0_1_2_11 (W (Proc.devRef .tc main_v7) : S2x20000.Idx → BitVec 32)
        (shapeCast S2x4096x1 (W (Proc.devRef .tc main_indices) : S2x4096.Idx → BitVec 32) shapeCasts_S2x4096_S2x4096x1) : S2x4096.Idx → BitVec 32) := by
  have e : StableHlo.after pre6 W (Proc.devRef .tc main_v13)
      = (select (rangeBit 20000 4096 bcast_S_S2x4096x1 bcast_S1_S1x1x1_2 bcast_S1x1x1_S2x4096x1_0_1_2
            reducesTo_S2x4096x1_S2x4096_d2 h_S_ (shapeCast S2x4096x1 (wrapped 20000 S2x4096 bcast_S_S2x4096 (W (Proc.devRef .tc main_indices))) shapeCasts_S2x4096_S2x4096x1))
          (Host.gather gather_S2x20000_S2x4096x1_S2x4096_n_1_0_0_1_2_11 (W (Proc.devRef .tc main_v7) : S2x20000.Idx → BitVec 32)
            (shapeCast S2x4096x1 (wrapped 20000 S2x4096 bcast_S_S2x4096 (W (Proc.devRef .tc main_indices))) shapeCasts_S2x4096_S2x4096x1))
          (broadcastInDim S2x4096 ![] bcast_S_S2x4096 (constantI S_ 32 2147483648#32)) : S2x4096.Idx → BitVec 32) := by
    unfold pre6
    after_reads_simp
    rfl
  rw [e, wrapped_id _ _ _ _ (fun y => by have := hv y; omega),
    rangeBit_one 20000 4096 _ _ _ _ _ (shapeCast S2x4096x1 (W (Proc.devRef .tc main_indices) : S2x4096.Idx → BitVec 32) shapeCasts_S2x4096_S2x4096x1)
      (by decide) (fun y => hv _)]
  exact select_ones _ _ _ (fun _ => rfl)

/-! What a line leaves alone. -/

theorem q0 : StableHlo.after pre0 W (Proc.devRef .tc main_arg1) = W (Proc.devRef .tc main_arg1) := by
  unfold pre0; after_reads_simp
theorem q1 (b : Ref sig .tc) (hb : b = main_arg1 ∨ b = main_v6) : StableHlo.after pre1 W (Proc.devRef .tc b) = W (Proc.devRef .tc b) := by
  rcases hb with rfl | rfl <;> (unfold pre1; after_reads_simp)
theorem q2 (b : Ref sig .tc) (hb : b = main_arg1 ∨ b = main_v7 ∨ b = main_v6) : StableHlo.after pre2 W (Proc.devRef .tc b) = W (Proc.devRef .tc b) := by
  rcases hb with rfl | rfl | rfl <;> (unfold pre2; after_reads_simp)
theorem q3 (b : Ref sig .tc) (hb : b = main_arg1 ∨ b = main_v7) : StableHlo.after pre3 W (Proc.devRef .tc b) = W (Proc.devRef .tc b) := by
  rcases hb with rfl | rfl <;> (unfold pre3; after_reads_simp)
theorem q4 (b : Ref sig .tc) (hb : b = main_arg1 ∨ b = main_v7) : StableHlo.after pre4 W (Proc.devRef .tc b) = W (Proc.devRef .tc b) := by
  rcases hb with rfl | rfl <;> (unfold pre4; after_reads_simp)
theorem q5 (b : Ref sig .tc) (hb : b = main_v7 ∨ b = main_values ∨ b = main_indices) : StableHlo.after pre5 W (Proc.devRef .tc b) = W (Proc.devRef .tc b) := by
  rcases hb with rfl | rfl | rfl <;> (unfold pre5; after_reads_simp)
theorem q6 (b : Ref sig .tc) (hb : b = main_v12 ∨ b = main_values) : StableHlo.after pre6 W (Proc.devRef .tc b) = W (Proc.devRef .tc b) := by
  rcases hb with rfl | rfl <;> (unfold pre6; after_reads_simp)

end Lines

section Whole
variable (m : (ℓ : Loc nD τ sig) → Buf (Elt Ideal) ℓ) (c : Dev nD)

/-- The class scores and the boxes the run begins with. -/
abbrev cls : S2x20000x3.Idx → EReal := m (c, Proc.devRef .tc main_arg0)
abbrev box : S2x20000x7.Idx → EReal := m (c, Proc.devRef .tc main_arg1)

/-- The buffers after each line. -/
abbrev R1 : Valuation τ sig (Elt Ideal) := StableHlo.after pre0 (fun b => m (c, b))
abbrev R2 : Valuation τ sig (Elt Ideal) := StableHlo.after pre1 (R1 m c)
abbrev R3 : Valuation τ sig (Elt Ideal) := StableHlo.after pre2 (R2 m c)
abbrev R4 : Valuation τ sig (Elt Ideal) := StableHlo.after pre3 (R3 m c)
abbrev R5 : Valuation τ sig (Elt Ideal) := StableHlo.after pre4 (R4 m c)
abbrev R6 : Valuation τ sig (Elt Ideal) := StableHlo.after pre5 (R5 m c)
abbrev R7 : Valuation τ sig (Elt Ideal) := StableHlo.after pre6 (R6 m c)

theorem atK_zero : atK m 0 c = StableHlo.after pre9 (StableHlo.after pre8 (StableHlo.after pre7 (R7 m c))) := rfl

theorem v10_is : R4 m c (Proc.devRef .tc main_v10) = masked (cls m c) := by
  have e6 : R3 m c (Proc.devRef .tc main_v6) = prob (top3 (cls m c)) := (q2 _ _ (.inr (.inr rfl))).trans ((q1 _ _ (.inr rfl)).trans (r0_v6 _))
  have e6' : R2 m c (Proc.devRef .tc main_v6) = prob (top3 (cls m c)) := (q1 _ _ (.inr rfl)).trans (r0_v6 _)
  show StableHlo.after pre3 (R3 m c) _ = _
  rw [r3, e6]
  show select (StableHlo.after pre2 (R2 m c) (Proc.devRef .tc main_v9) : S2x20000.Idx → BitVec 1) _
    (broadcastInDim S2x20000 ![] bcast_S_S2x20000 (StableHlo.after pre2 (R2 m c) (Proc.devRef .tc main_cst_3))) = _
  rw [r2_v9, r2_cst, e6']
  rfl

theorem values_is (b : Fin 2) (i : Fin 4096) : (R7 m c (Proc.devRef .tc main_values) : S2x4096.Idx → EReal) (ix2 b i) = vals (cls m c) (ix2 b i) := by
  have e : R7 m c (Proc.devRef .tc main_values) = R5 m c (Proc.devRef .tc main_values) := (q6 _ _ (.inr rfl)).trans (q5 _ _ (.inr (.inl rfl)))
  rw [e]
  show (StableHlo.after pre4 (R4 m c) (Proc.devRef .tc main_values) : S2x4096.Idx → EReal) _ = _
  rw [r4_values, v10_is]
  exact topK_value _ _ _ b i

theorem index_is (b : Fin 2) (i : Fin 4096) : ((R5 m c (Proc.devRef .tc main_indices) : S2x4096.Idx → BitVec 32) (ix2 b i)).toNat
    = (at_ (masked (cls m c)) b i).val := by
  show ((StableHlo.after pre4 (R4 m c) (Proc.devRef .tc main_indices) : S2x4096.Idx → BitVec 32) _).toNat = _
  rw [r4_indices, v10_is]
  exact topK_index _ (by decide) _ _ b i

theorem v11_is (b : Fin 2) (i : Fin 4096) (z : Fin 1) : ((R5 m c (Proc.devRef .tc main_v11) : S2x4096x1.Idx → BitVec 32) (ix3 b i z)).toNat
    = (at_ (masked (cls m c)) b i).val := by
  rw [← index_is]
  show ((StableHlo.after pre4 (R4 m c) (Proc.devRef .tc main_v11) : S2x4096x1.Idx → BitVec 32) _).toNat
    = ((StableHlo.after pre4 (R4 m c) (Proc.devRef .tc main_indices) : S2x4096.Idx → BitVec 32) _).toNat
  rw [r4_indices, r4_v11]
  exact congrArg BitVec.toNat (widen_ix3 _ _ b i z)

theorem v11_lt (y : S2x4096x1.Idx) : ((R5 m c (Proc.devRef .tc main_v11) : S2x4096x1.Idx → BitVec 32) y).toNat < 20000 := by
  exact lt_of_eq_of_lt ((congrArg (fun w => ((R5 m c (Proc.devRef .tc main_v11) : S2x4096x1.Idx → BitVec 32) w).toNat) (eq_ix3 y)).trans
    (v11_is m c (y 0) (y 1) (y 2))) (Fin.isLt _)

theorem index_lt (y : S2x4096.Idx) : ((R5 m c (Proc.devRef .tc main_indices) : S2x4096.Idx → BitVec 32) y).toNat < 20000 := by
  exact lt_of_eq_of_lt ((congrArg (fun w => ((R5 m c (Proc.devRef .tc main_indices) : S2x4096.Idx → BitVec 32) w).toNat) (eq_ix2 y)).trans
    (index_is m c (y 0) (y 1))) (Fin.isLt _)

theorem v12_is (b : Fin 2) (i : Fin 4096) (k : Fin 7) : (R7 m c (Proc.devRef .tc main_v12) : S2x4096x7.Idx → EReal) (ix3 b i k)
    = boxes (cls m c) (box m c) (ix3 b i k) := by
  have e : R7 m c (Proc.devRef .tc main_v12) = R6 m c (Proc.devRef .tc main_v12) := q6 _ _ (.inl rfl)
  rw [e]
  show (StableHlo.after pre5 (R5 m c) (Proc.devRef .tc main_v12) : S2x4096x7.Idx → EReal) _ = _
  rw [r5 _ (v11_lt m c)]
  have e1 : R5 m c (Proc.devRef .tc main_arg1) = box m c :=
    (q4 _ _ (.inl rfl)).trans ((q3 _ _ (.inl rfl)).trans ((q2 _ _ (.inl rfl)).trans ((q1 _ _ (.inl rfl)).trans (q0 _))))
  rw [e1]
  exact gather7 _ _ _ b i k _ (v11_is m c b i 0) (by decide)

theorem v13_is (b : Fin 2) (i : Fin 4096) : (R7 m c (Proc.devRef .tc main_v13) : S2x4096.Idx → BitVec 32) (ix2 b i) = labs (cls m c) (ix2 b i) := by
  show (StableHlo.after pre6 (R6 m c) (Proc.devRef .tc main_v13) : S2x4096.Idx → BitVec 32) _ = _
  have ei : R6 m c (Proc.devRef .tc main_indices) = R5 m c (Proc.devRef .tc main_indices) := q5 _ _ (.inr (.inr rfl))
  rw [r6 _ (fun y => by rw [ei]; exact index_lt m c y), ei]
  have e1 : R6 m c (Proc.devRef .tc main_v7) = lab3 (cls m c) :=
    (q5 _ _ (.inl rfl)).trans ((q4 _ _ (.inr rfl)).trans ((q3 _ _ (.inr rfl)).trans ((q2 _ _ (.inr (.inl rfl))).trans (r1 _ _ (r0_v5 _)))))
  rw [e1]
  refine gather1 _ _ _ b i _ ?_ (by decide)
  exact (congrArg BitVec.toNat (column_ix3 _ _ b i 0)).trans (index_is m c b i)

theorem values_eq : R7 m c (Proc.devRef .tc main_values) = vals (cls m c) :=
  funext fun y : S2x4096.Idx => (congrArg (R7 m c (Proc.devRef .tc main_values) : S2x4096.Idx → EReal) (eq_ix2 y)).trans
    ((values_is m c (y 0) (y 1)).trans (congrArg (vals (cls m c)) (eq_ix2 y).symm))
theorem v12_eq : R7 m c (Proc.devRef .tc main_v12) = boxes (cls m c) (box m c) :=
  funext fun y : S2x4096x7.Idx => (congrArg (R7 m c (Proc.devRef .tc main_v12) : S2x4096x7.Idx → EReal) (eq_ix3 y)).trans
    ((v12_is m c (y 0) (y 1) (y 2)).trans (congrArg (boxes (cls m c) (box m c)) (eq_ix3 y).symm))
theorem v13_eq : R7 m c (Proc.devRef .tc main_v13) = labs (cls m c) :=
  funext fun y : S2x4096.Idx => (congrArg (R7 m c (Proc.devRef .tc main_v13) : S2x4096.Idx → BitVec 32) (eq_ix2 y)).trans
    ((v13_is m c (y 0) (y 1)).trans (congrArg (labs (cls m c)) (eq_ix2 y).symm))

/-! The corners and the areas. -/

section Corners
variable (W : Valuation τ sig (Elt Ideal)) (b : Fin 2) (i : Fin 4096)

theorem r7_v15 : (StableHlo.after pre7 W (Proc.devRef .tc main_v15) : S2x4096.Idx → BitVec 1)
    = cmpf (F := Ideal) (φ := .f32) .oge (W (Proc.devRef .tc main_values)) (broadcastInDim S2x4096 ![] bcast_S_S2x4096 (constant (F := Ideal) S_ .f32 0x3DCCCCCD#32)) := by
  unfold pre7; after_reads_simp
theorem r7_x1 : (StableHlo.after pre7 W (Proc.devRef .tc main_v22) : S2x4096.Idx → EReal) (ix2 b i) = (bxOf (W (Proc.devRef .tc main_v12)) b i.val).x1 := by
  rw [bxOf_lt _ _ _ i.isLt]; unfold pre7; after_reads_simp; pointwise []; rfl
theorem r7_x2 : (StableHlo.after pre7 W (Proc.devRef .tc main_v29) : S2x4096.Idx → EReal) (ix2 b i) = (bxOf (W (Proc.devRef .tc main_v12)) b i.val).x2 := by
  rw [bxOf_lt _ _ _ i.isLt]; unfold pre7; after_reads_simp; pointwise []; rfl
theorem r7_y1 : (StableHlo.after pre7 W (Proc.devRef .tc main_v36) : S2x4096.Idx → EReal) (ix2 b i) = (bxOf (W (Proc.devRef .tc main_v12)) b i.val).y1 := by
  rw [bxOf_lt _ _ _ i.isLt]; unfold pre7; after_reads_simp; pointwise []; rfl
theorem r7_y2 : (StableHlo.after pre7 W (Proc.devRef .tc main_v43) : S2x4096.Idx → EReal) (ix2 b i) = (bxOf (W (Proc.devRef .tc main_v12)) b i.val).y2 := by
  rw [bxOf_lt _ _ _ i.isLt]; unfold pre7; after_reads_simp; pointwise []; rfl
theorem r7_area : (StableHlo.after pre7 W (Proc.devRef .tc main_v46) : S2x4096.Idx → EReal) (ix2 b i) = (bxOf (W (Proc.devRef .tc main_v12)) b i.val).area := by
  rw [bxOf_lt _ _ _ i.isLt]; unfold pre7; after_reads_simp; pointwise []; rfl

theorem r8_iou (j : Fin 4096) (p q : Box) (hx1 : (W (Proc.devRef .tc main_v22) : S2x4096.Idx → EReal) (ix2 b i) = p.x1) (hx1' : (W (Proc.devRef .tc main_v22) : S2x4096.Idx → EReal) (ix2 b j) = q.x1)
    (hx2 : (W (Proc.devRef .tc main_v29) : S2x4096.Idx → EReal) (ix2 b i) = p.x2) (hx2' : (W (Proc.devRef .tc main_v29) : S2x4096.Idx → EReal) (ix2 b j) = q.x2)
    (hy1 : (W (Proc.devRef .tc main_v36) : S2x4096.Idx → EReal) (ix2 b i) = p.y1) (hy1' : (W (Proc.devRef .tc main_v36) : S2x4096.Idx → EReal) (ix2 b j) = q.y1)
    (hy2 : (W (Proc.devRef .tc main_v43) : S2x4096.Idx → EReal) (ix2 b i) = p.y2) (hy2' : (W (Proc.devRef .tc main_v43) : S2x4096.Idx → EReal) (ix2 b j) = q.y2)
    (ha : (W (Proc.devRef .tc main_v46) : S2x4096.Idx → EReal) (ix2 b i) = p.area) (ha' : (W (Proc.devRef .tc main_v46) : S2x4096.Idx → EReal) (ix2 b j) = q.area) :
    (StableHlo.after pre8 W (Proc.devRef .tc main_v82) : S2x4096x4096.Idx → EReal) (ix3 b i j)
      = Ideal.div (p.overlap q) (max (p.area + q.area - p.overlap q) cEps) := by
  unfold pre8; after_reads_simp; pointwise []
  rw [hx1, hx1', hx2, hx2', hy1, hy1', hy2, hy2', ha, ha']
  rfl

/-! What the last three lines leave alone, and what the last one starts the loop with. -/

theorem q7 (b : Ref sig .tc) (hb : b = main_values ∨ b = main_v12 ∨ b = main_v13) : StableHlo.after pre7 W (Proc.devRef .tc b) = W (Proc.devRef .tc b) := by
  rcases hb with rfl | rfl | rfl <;> (unfold pre7; after_reads_simp)
theorem q8 (b : Ref sig .tc) (hb : b = main_values ∨ b = main_v12 ∨ b = main_v13 ∨ b = main_v15) : StableHlo.after pre8 W (Proc.devRef .tc b) = W (Proc.devRef .tc b) := by
  rcases hb with rfl | rfl | rfl | rfl <;> (unfold pre8; after_reads_simp)
theorem q9 (b : Ref sig .tc) (hb : b = main_values ∨ b = main_v12 ∨ b = main_v13 ∨ b = main_v15) : StableHlo.after pre9 W (Proc.devRef .tc b) = W (Proc.devRef .tc b) := by
  rcases hb with rfl | rfl | rfl | rfl <;> (unfold pre9; after_reads_simp)

theorem r9_valid : StableHlo.after pre9 W (Proc.devRef .tc main_v85_0) = W (Proc.devRef .tc main_v15) := by
  unfold pre9; after_reads_simp; rfl
theorem r9_iou : StableHlo.after pre9 W (Proc.devRef .tc main_v85_1) = W (Proc.devRef .tc main_v82) := by
  unfold pre9; after_reads_simp; rfl
theorem r9_place : (StableHlo.after pre9 W (Proc.devRef .tc main_v85_2) : S4096.Idx → BitVec 32) = iotaInDim S4096 32 0 := by
  unfold pre9; after_reads_simp; rfl
theorem r9_trip : (StableHlo.after pre9 W (Proc.devRef .tc main_v85_4) : S_.Idx → BitVec 32) = fun _ => 0#32 := by
  unfold pre9; after_reads_simp; rfl
theorem r9_gone : (StableHlo.after pre9 W (Proc.devRef .tc main_v85_5) : S2x4096.Idx → BitVec 1) = fun _ => 0#1 := by
  unfold pre9; after_reads_simp; rfl

end Corners

/-! What the loop starts with. -/

/-- The buffers after eight lines and after nine. -/
def R8 : Valuation τ sig (Elt Ideal) := StableHlo.after pre7 (R7 m c)
def R9 : Valuation τ sig (Elt Ideal) := StableHlo.after pre8 (R8 m c)

theorem atK_start : atK m 0 c = StableHlo.after pre9 (R9 m c) := atK_zero m c

theorem start_values : atK m 0 c (Proc.devRef .tc main_values) = vals (cls m c) := by
  rw [atK_start]
  exact (q9 (R9 m c) _ (.inl rfl)).trans ((q8 (R8 m c) _ (.inl rfl)).trans ((q7 (R7 m c) _ (.inl rfl)).trans (values_eq m c)))
theorem start_v12 : atK m 0 c (Proc.devRef .tc main_v12) = boxes (cls m c) (box m c) := by
  rw [atK_start]
  exact (q9 (R9 m c) _ (.inr (.inl rfl))).trans ((q8 (R8 m c) _ (.inr (.inl rfl))).trans ((q7 (R7 m c) _ (.inr (.inl rfl))).trans (v12_eq m c)))
theorem start_v13 : atK m 0 c (Proc.devRef .tc main_v13) = labs (cls m c) := by
  rw [atK_start]
  exact (q9 (R9 m c) _ (.inr (.inr (.inl rfl)))).trans ((q8 (R8 m c) _ (.inr (.inr (.inl rfl)))).trans ((q7 (R7 m c) _ (.inr (.inr rfl))).trans (v13_eq m c)))

/-- The bit of a score of at least a tenth. -/
def goodBits (a0 : S2x20000x3.Idx → EReal) : S2x4096.Idx → BitVec 1 :=
  cmpf (F := Ideal) (φ := .f32) .oge (vals a0) (broadcastInDim S2x4096 ![] bcast_S_S2x4096 (constant (F := Ideal) S_ .f32 0x3DCCCCCD#32))

theorem oge_iff {s : Shape} (x : s.Idx → EReal) (h : (⟨0, ![]⟩ : Shape).BroadcastsInDim s ![]) (w : BitVec 32) (y : s.Idx) :
    cmpf (F := Ideal) (φ := .f32) .oge x (broadcastInDim s ![] h (constant (F := Ideal) ⟨0, ![]⟩ .f32 w)) y = 1#1 ↔ FloatOps.ofBits (F := Ideal) .f32 w ≤ x y := by
  show BitVec.ofBool (decide (FloatOps.ofBits (F := Ideal) .f32 w ≤ x y)) = 1#1 ↔ _
  generalize FloatOps.ofBits (F := Ideal) .f32 w = u
  by_cases h : u ≤ x y
  · exact iff_of_true (congrArg BitVec.ofBool (decide_eq_true h)) h
  · exact iff_of_false (fun e => by rw [decide_eq_false h] at e; exact absurd e (by decide)) h

theorem goodBits_iff (a0 : S2x20000x3.Idx → EReal) (b : Fin 2) (i : Fin 4096) : goodBits a0 (ix2 b i) = 1#1 ↔ i.val < howMany a0 b :=
  (oge_iff (vals a0) _ _ (ix2 b i)).trans (good_iff a0 b i)

theorem R8_v15 : R8 m c (Proc.devRef .tc main_v15) = goodBits (cls m c) :=
  (r7_v15 (R7 m c)).trans (congrArg (fun v => cmpf (F := Ideal) (φ := .f32) .oge v
    (broadcastInDim S2x4096 ![] bcast_S_S2x4096 (constant (F := Ideal) S_ .f32 0x3DCCCCCD#32))) (values_eq m c))
theorem R9_v15 : R9 m c (Proc.devRef .tc main_v15) = goodBits (cls m c) :=
  (q8 (R8 m c) _ (.inr (.inr (.inr rfl)))).trans (R8_v15 m c)
theorem start_v15 : atK m 0 c (Proc.devRef .tc main_v15) = goodBits (cls m c) := by
  rw [atK_start]
  exact (q9 (R9 m c) _ (.inr (.inr (.inr rfl)))).trans (R9_v15 m c)
theorem start_valid : atK m 0 c (Proc.devRef .tc main_v85_0) = goodBits (cls m c) := by
  rw [atK_start]
  exact (r9_valid (R9 m c)).trans (R9_v15 m c)
theorem start_place : atK m 0 c (Proc.devRef .tc main_v85_2) = iotaInDim S4096 32 0 := by
  rw [atK_start]
  exact r9_place (R9 m c)
theorem start_trip : atK m 0 c (Proc.devRef .tc main_v85_4) = fun _ => 0#32 := by
  rw [atK_start]
  exact r9_trip (R9 m c)
theorem start_gone : atK m 0 c (Proc.devRef .tc main_v85_5) = fun _ => 0#1 := by
  rw [atK_start]
  exact r9_gone (R9 m c)
theorem start_iou (b : Fin 2) (i j : Fin 4096) : (atK m 0 c (Proc.devRef .tc main_v85_1) : S2x4096x4096.Idx → EReal) (ix3 b i j)
    = Ideal.div ((bxOf (boxes (cls m c) (box m c)) b i.val).overlap (bxOf (boxes (cls m c) (box m c)) b j.val))
      (max ((bxOf (boxes (cls m c) (box m c)) b i.val).area + (bxOf (boxes (cls m c) (box m c)) b j.val).area
        - (bxOf (boxes (cls m c) (box m c)) b i.val).overlap (bxOf (boxes (cls m c) (box m c)) b j.val)) cEps) := by
  rw [atK_start, r9_iou]
  have e : R7 m c (Proc.devRef .tc main_v12) = boxes (cls m c) (box m c) := v12_eq m c
  rw [← e]
  exact r8_iou (R8 m c) b i j _ _ (r7_x1 (R7 m c) b i) (r7_x1 (R7 m c) b j) (r7_x2 (R7 m c) b i) (r7_x2 (R7 m c) b j) (r7_y1 (R7 m c) b i) (r7_y1 (R7 m c) b j) (r7_y2 (R7 m c) b i) (r7_y2 (R7 m c) b j)
    (r7_area (R7 m c) b i) (r7_area (R7 m c) b j)

end Whole

end Cert.ReferenceIdeal.Nms
-- ==== Proof.RLoop.lean ====
/-
  The reference's loop: after `k` trips its bits say which boxes one of the first `k` has suppressed.
-/
module

public import proofs.«01_k».proof.Proof.RSide
public import proofs.«01_k».proof.Proof.Greedy
public import Idealize.ShloMosaic.Lib.WordCmp
public import Idealize.ShloMosaic.Lib.DynamicIndex

@[expose] public section

set_option maxRecDepth 16384

noncomputable section

namespace Cert.ReferenceIdeal.Nms

open Cert.ReferenceIdeal Cert.ReferenceIdeal.Gen Cert.Nms
open Cert.KernelIdeal.Nms (vals boxes labs bxOf howMany)
open Idealize.ShloMosaic.WordCmp (dynamicSlice_eq_extract cmpi_sgt_ofNat_eq_one_iff addi_ofNat)
open Idealize.ShloMosaic Idealize.ShloMosaic.TcCoe Idealize.ShloMosaic.Tactic

/-! Single bits. -/

theorem bit_or : ∀ x y : BitVec 1, IntOp.ori x y = 1#1 ↔ x = 1#1 ∨ y = 1#1 := by decide
theorem bit_and : ∀ x y : BitVec 1, IntOp.andi x y = 1#1 ↔ x = 1#1 ∧ y = 1#1 := by decide
theorem bit_not : ∀ x : BitVec 1, ~~~x = 1#1 ↔ ¬ x = 1#1 := by decide

theorem ogt_iff {s : Shape} (x : s.Idx → EReal) (h : (⟨0, ![]⟩ : Shape).BroadcastsInDim s ![]) (w : BitVec 32) (y : s.Idx) :
    cmpf (F := Ideal) (φ := .f32) .ogt x (broadcastInDim s ![] h (constant (F := Ideal) ⟨0, ![]⟩ .f32 w)) y = 1#1 ↔ FloatOps.ofBits (F := Ideal) .f32 w < x y := by
  show BitVec.ofBool (decide (FloatOps.ofBits (F := Ideal) .f32 w < x y)) = 1#1 ↔ _
  generalize FloatOps.ofBits (F := Ideal) .f32 w = u
  by_cases h : u < x y
  · exact iff_of_true (congrArg BitVec.ofBool (decide_eq_true h)) h
  · exact iff_of_false (fun e => by rw [decide_eq_false h] at e; exact absurd e (by decide)) h

/-- A number as an index that counts from the end where it is negative. -/
def wrapK (N : ℕ) (v : S_.Idx → BitVec 32) : S_.Idx → BitVec 32 :=
  select (cmpi .slt v (constantI S_ 32 0#32)) (addi (id v) (constantI S_ 32 (BitVec.ofNat 32 N))) v

theorem wrapK_toInt (N k : ℕ) (hk : k < 2 ^ 31) (y : S_.Idx) : (wrapK N (fun _ => BitVec.ofNat 32 k) y).toInt = k :=
  toInt_wrap_ofNat k hk

/-- One column of a table. -/
theorem column_at {α : Type} (N : ℕ) (x : (⟨2, ![2, N]⟩ : Shape).Idx → α) (start : Fin 2 → Int) (h) (b : Fin 2) (k : Fin N)
    (e0 : start 0 = 0) (e1 : start 1 = k.val) : Host.dynamicSlice (s := ⟨2, ![2, N]⟩) ⟨2, ![2, 1]⟩ x start h (ix2 b 0) = x (ix2 b k) := by
  have hs : (⟨2, ![2, N]⟩ : Shape).Slices ![0, k.val] ⟨2, ![2, 1]⟩ := ⟨rfl, fun a => by
    have := k.isLt
    fin_cases a
    · exact le_refl 2
    · show k.val + 1 ≤ N; omega⟩
  rw [dynamicSlice_eq_extract _ x start h ![0, k.val] hs (fun a => by fin_cases a; exacts [e0, e1])]
  show x _ = x _
  refine congrArg x (funext fun a => Fin.ext ?_)
  fin_cases a
  · show 0 + b.val = b.val; omega
  · show k.val + 0 = k.val; omega

/-- One row of a table of pairs, for both batches. -/
theorem row_at {α : Type} (N : ℕ) (x : (⟨3, ![2, N, N]⟩ : Shape).Idx → α) (start : Fin 3 → Int) (h) (b : Fin 2) (k j : Fin N)
    (e0 : start 0 = 0) (e1 : start 1 = k.val) (e2 : start 2 = 0) :
    Host.dynamicSlice (s := ⟨3, ![2, N, N]⟩) ⟨3, ![2, 1, N]⟩ x start h (ix3 b 0 j) = x (ix3 b k j) := by
  have hs : (⟨3, ![2, N, N]⟩ : Shape).Slices ![0, k.val, 0] ⟨3, ![2, 1, N]⟩ := ⟨rfl, fun a => by
    have := k.isLt
    fin_cases a
    · exact le_refl 2
    · show k.val + 1 ≤ N; omega
    · show 0 + N ≤ N; omega⟩
  rw [dynamicSlice_eq_extract _ x start h ![0, k.val, 0] hs (fun a => by fin_cases a; exacts [e0, e1, e2])]
  show x _ = x _
  refine congrArg x (funext fun a => Fin.ext ?_)
  fin_cases a
  · show 0 + b.val = b.val; omega
  · show k.val + 0 = k.val; omega
  · show 0 + j.val = j.val; omega

section Trip
variable (W : Valuation τ sig (Elt Ideal))

/-- The column, of one of the two bit tables, that a trip reads. -/
def colK (x : S2x4096.Idx → BitVec 1) (t : S_.Idx → BitVec 32) : S2x1.Idx → BitVec 1 :=
  Host.dynamicSlice S2x1 x (fun k => ((![constantI S_ 32 0#32, wrapK 4096 t] : Fin 2 → S_.Idx → BitVec 32) k (Shape.Idx.first h_S_)).toInt) sliceFits_S2x4096_S2x1

/-- The row, of the overlaps over unions, that a trip reads. -/
def rowK (x : S2x4096x4096.Idx → EReal) (t : S_.Idx → BitVec 32) : S2x4096.Idx → EReal :=
  shapeCast S2x4096 (Host.dynamicSlice S2x1x4096 x (fun k => ((![constantI S_ 32 0#32, wrapK 4096 t, constantI S_ 32 0#32] : Fin 3 → S_.Idx → BitVec 32) k
    (Shape.Idx.first h_S_)).toInt) sliceFits_S2x4096x4096_S2x1x4096) shapeCasts_S2x1x4096_S2x4096

/-- What a trip adds to the suppressed. -/
def newK (g v : S2x4096.Idx → BitVec 1) (x : S2x4096x4096.Idx → EReal) (p : S4096.Idx → BitVec 32) (t : S_.Idx → BitVec 32) : S2x4096.Idx → BitVec 1 :=
  andi (andi (broadcastInDim S2x4096 ![0, 1] bcast_S2x1_S2x4096_0_1 (andi (noti (colK g t)) (colK v t)))
      (cmpf (F := Ideal) (φ := .f32) .ogt (rowK x t) (broadcastInDim S2x4096 ![] bcast_S_S2x4096 (constant (F := Ideal) S_ .f32 0x3C23D70A#32))))
    (broadcastInDim S2x4096 ![0, 1] bcast_S1x4096_S2x4096_0_1 (cmpi .sgt (broadcastInDim S1x4096 ![1] bcast_S4096_S1x4096_1 p)
      (broadcastInDim S1x4096 ![] bcast_S_S1x4096 (id t))))

theorem trip_gone : (StableHlo.after trip0 W (Proc.devRef .tc main_v85_5) : S2x4096.Idx → BitVec 1)
    = ori (W (Proc.devRef .tc main_v85_5)) (newK (W (Proc.devRef .tc main_v85_5)) (W (Proc.devRef .tc main_v85_0)) (W (Proc.devRef .tc main_v85_1))
      (W (Proc.devRef .tc main_v85_2)) (W (Proc.devRef .tc main_v85_4))) := by
  unfold trip0
  after_reads_simp [StableHlo.unaryIndexed_result_read, StableHlo.indexContents_cons, StableHlo.indexContents_empty]
  unfold newK colK rowK wrapK
  rfl

theorem trip_next : (StableHlo.after trip0 W (Proc.devRef .tc main_v85_4) : S_.Idx → BitVec 32)
    = addi (W (Proc.devRef .tc main_v85_4)) (constantI S_ 32 1#32) := by
  unfold trip0; after_reads_simp; rfl

theorem trip_rest (b : Ref sig .tc) (hb : b = main_v85_0 ∨ b = main_v85_1 ∨ b = main_v85_2 ∨ b = main_values ∨ b = main_v12 ∨ b = main_v13 ∨ b = main_v15 ∨ b = main_v83) :
    StableHlo.after trip0 W (Proc.devRef .tc b) = W (Proc.devRef .tc b) := by
  rcases hb with rfl | rfl | rfl | rfl | rfl | rfl | rfl | rfl <;> (unfold trip0; after_reads_simp)

theorem cond_rest (b : Ref sig .tc) (hb : b = main_v85_0 ∨ b = main_v85_1 ∨ b = main_v85_2 ∨ b = main_values ∨ b = main_v12 ∨ b = main_v13 ∨ b = main_v15
      ∨ b = main_v83 ∨ b = main_v85_4 ∨ b = main_v85_5) :
    StableHlo.after cond0 W (Proc.devRef .tc b) = W (Proc.devRef .tc b) := by
  rcases hb with rfl | rfl | rfl | rfl | rfl | rfl | rfl | rfl | rfl | rfl <;> (unfold cond0; after_reads_simp)

end Trip

theorem colK_at (x : S2x4096.Idx → BitVec 1) (k : ℕ) (hk : k < 4096) (b : Fin 2) : colK x (fun _ => BitVec.ofNat 32 k) (ix2 b 0) = x (ix2 b ⟨k, hk⟩) :=
  column_at 4096 x _ _ b ⟨k, hk⟩ rfl (wrapK_toInt 4096 k (by omega) _)

theorem rowK_at (x : S2x4096x4096.Idx → EReal) (k : ℕ) (hk : k < 4096) (b : Fin 2) (j : Fin 4096) :
    rowK x (fun _ => BitVec.ofNat 32 k) (ix2 b j) = x (ix3 b ⟨k, hk⟩ j) := by
  refine Eq.trans ?_ (row_at 4096 x (fun a => ((![constantI S_ 32 0#32, wrapK 4096 (fun _ => BitVec.ofNat 32 k), constantI S_ 32 0#32] : Fin 3 → S_.Idx → BitVec 32) a
    (Shape.Idx.first h_S_)).toInt) sliceFits_S2x4096x4096_S2x1x4096 b ⟨k, hk⟩ j rfl (wrapK_toInt 4096 k (by omega) _) rfl)
  unfold rowK
  pointwise []

/-- The bits of one box. -/
theorem newK_at (g v : S2x4096.Idx → BitVec 1) (x : S2x4096x4096.Idx → EReal) (k : ℕ) (hk : k < 4096) (b : Fin 2) (j : Fin 4096) :
    newK g v x (iotaInDim S4096 32 0) (fun _ => BitVec.ofNat 32 k) (ix2 b j) = 1#1
      ↔ ((¬ g (ix2 b ⟨k, hk⟩) = 1#1 ∧ v (ix2 b ⟨k, hk⟩) = 1#1) ∧ cThr < x (ix3 b ⟨k, hk⟩ j)) ∧ k < j.val := by
  have h1 : broadcastInDim S2x4096 ![0, 1] bcast_S2x1_S2x4096_0_1 (andi (noti (colK g (fun _ => BitVec.ofNat 32 k))) (colK v (fun _ => BitVec.ofNat 32 k))) (ix2 b j)
      = IntOp.andi (~~~(g (ix2 b ⟨k, hk⟩))) (v (ix2 b ⟨k, hk⟩)) := by
    rw [← colK_at g k hk b, ← colK_at v k hk b]
    pointwise []
  have h2 : cmpf (F := Ideal) (φ := .f32) .ogt (rowK x (fun _ => BitVec.ofNat 32 k)) (broadcastInDim S2x4096 ![] bcast_S_S2x4096 (constant (F := Ideal) S_ .f32 0x3C23D70A#32)) (ix2 b j) = 1#1
      ↔ cThr < x (ix3 b ⟨k, hk⟩ j) := by
    rw [← rowK_at x k hk b j]
    exact ogt_iff _ _ _ _
  have h3 : broadcastInDim S2x4096 ![0, 1] bcast_S1x4096_S2x4096_0_1 (cmpi .sgt (broadcastInDim S1x4096 ![1] bcast_S4096_S1x4096_1 (iotaInDim S4096 32 0))
      (broadcastInDim S1x4096 ![] bcast_S_S1x4096 (id (fun _ => BitVec.ofNat 32 k : S_.Idx → BitVec 32)))) (ix2 b j) = IntOp.cmpi .sgt (BitVec.ofNat 32 j.val) (BitVec.ofNat 32 k) := by
    pointwise []
    rfl
  have hj := j.isLt
  rw [← cmpi_sgt_ofNat_eq_one_iff (w := 32) (a := j.val) (b := k) (by omega) (by omega), ← h2, ← bit_not, ← bit_and, ← h1, ← h3, ← bit_and, ← bit_and]
  rfl

variable (m : (ℓ : Loc nD τ sig) → Buf (Elt Ideal) ℓ) (c : Dev nD)

theorem loop_rest (b : Ref sig .tc) (hb : b = main_v85_0 ∨ b = main_v85_1 ∨ b = main_v85_2 ∨ b = main_values ∨ b = main_v12 ∨ b = main_v13 ∨ b = main_v15 ∨ b = main_v83) :
    ∀ k, atK m k c (Proc.devRef .tc b) = atK m 0 c (Proc.devRef .tc b)
  | 0 => rfl
  | k + 1 => by
    show StableHlo.after trip0 (StableHlo.after cond0 (atK m k c)) _ = _
    rw [trip_rest _ b hb, cond_rest _ b (by tauto)]
    exact loop_rest b hb k

theorem loop_trip : ∀ k, (atK m k c (Proc.devRef .tc main_v85_4) : S_.Idx → BitVec 32) = fun _ => BitVec.ofNat 32 k
  | 0 => start_trip m c
  | k + 1 => by
    show (StableHlo.after trip0 (StableHlo.after cond0 (atK m k c)) (Proc.devRef .tc main_v85_4) : S_.Idx → BitVec 32) = _
    rw [trip_next, cond_rest _ main_v85_4 (by tauto), loop_trip k]
    funext y
    exact addi_ofNat k 1

/-- The reference's boxes, in the order of their scores. -/
def bxs (b : Fin 2) (k : ℕ) : Box := bxOf (boxes (cls m c) (box m c)) b k

/-- One box suppresses another: its score counts, and the two overlap too much. -/
def hitR (b : Fin 2) (i j : ℕ) : Prop := i < howMany (cls m c) b ∧ (bxs m c b i).hits (bxs m c b j)

theorem loop_gone (b : Fin 2) : ∀ k, k ≤ 4096 → ∀ j : Fin 4096,
    ((atK m k c (Proc.devRef .tc main_v85_5) : S2x4096.Idx → BitVec 1) (ix2 b j) = 1#1 ↔ gone (hitR m c b) k j.val)
  | 0, _, j => by
    rw [start_gone]
    exact iff_of_false (fun e : (0#1 : BitVec 1) = 1#1 => absurd e (by decide)) id
  | k + 1, hk, j => by
    show (StableHlo.after trip0 (StableHlo.after cond0 (atK m k c)) (Proc.devRef .tc main_v85_5) : S2x4096.Idx → BitVec 1) (ix2 b j) = 1#1 ↔ _
    rw [trip_gone, cond_rest _ main_v85_5 (by tauto), cond_rest _ main_v85_0 (by tauto), cond_rest _ main_v85_1 (by tauto),
      cond_rest _ main_v85_2 (by tauto), cond_rest _ main_v85_4 (by tauto), loop_rest m c main_v85_0 (by tauto) k,
      loop_rest m c main_v85_1 (by tauto) k, loop_rest m c main_v85_2 (by tauto) k, loop_trip, start_place]
    refine (bit_or _ _).trans (or_congr (loop_gone b k (by omega) j) ((newK_at _ _ _ k (by omega) b j).trans ?_))
    rw [loop_gone b k (by omega) ⟨k, by omega⟩, start_valid, goodBits_iff, start_iou]
    show ((¬ gone (hitR m c b) k k ∧ k < howMany (cls m c) b) ∧ (bxs m c b k).hits (bxs m c b j.val)) ∧ k < j.val ↔ _ ∧ (_ ∧ _) ∧ k < j.val
    tauto

end Cert.ReferenceIdeal.Nms
-- ==== Proof.RPost.lean ====
/-
  The reference's operations after its loop: the kept boxes put first, and the rows of its two results.
-/
module

public import proofs.«01_k».proof.Proof.RLoop

@[expose] public section

set_option maxRecDepth 16384

noncomputable section

namespace Cert.ReferenceIdeal.Nms

open Cert.ReferenceIdeal Cert.ReferenceIdeal.Gen Cert.Nms
open Cert.KernelIdeal.Nms (vals boxes labs bxOf howMany rowOf column_ix3 widen_ix3)
open Idealize.ShloMosaic Idealize.ShloMosaic.TcCoe Idealize.ShloMosaic.Tactic

section Lines
variable (W : Valuation τ sig (Elt Ideal))

/-! The lines in groups: the order, the kept bits in that order, the scores, the boxes, the labels, the rows. -/

abbrev segA : Valuation τ sig (Elt Ideal) := StableHlo.after post3 (StableHlo.after post2 (StableHlo.after post1 (StableHlo.after post0 W)))
abbrev segB : Valuation τ sig (Elt Ideal) := StableHlo.after post4 W
abbrev segC : Valuation τ sig (Elt Ideal) := StableHlo.after post7 (StableHlo.after post6 (StableHlo.after post5 W))
abbrev segD : Valuation τ sig (Elt Ideal) := StableHlo.after post11 (StableHlo.after post10 (StableHlo.after post9 (StableHlo.after post8 W)))
abbrev segE : Valuation τ sig (Elt Ideal) := StableHlo.after post14 (StableHlo.after post13 (StableHlo.after post12 W))
abbrev segF : Valuation τ sig (Elt Ideal) := StableHlo.after post17 (StableHlo.after post16 (StableHlo.after post15 W))

theorem keepA (b : Ref sig .tc) (hb : b = main_values ∨ b = main_v12 ∨ b = main_v13) : segA W (Proc.devRef .tc b) = W (Proc.devRef .tc b) := by
  rcases hb with rfl | rfl | rfl <;> (unfold segA post0 post1 post2 post3; after_reads_simp)
theorem keepB (b : Ref sig .tc) (hb : b = main_values ∨ b = main_v12 ∨ b = main_v13 ∨ b = main_v94) : segB W (Proc.devRef .tc b) = W (Proc.devRef .tc b) := by
  rcases hb with rfl | rfl | rfl | rfl <;> (unfold segB post4; after_reads_simp)
theorem keepC (b : Ref sig .tc) (hb : b = main_v12 ∨ b = main_v13 ∨ b = main_v94 ∨ b = main_v95) : segC W (Proc.devRef .tc b) = W (Proc.devRef .tc b) := by
  rcases hb with rfl | rfl | rfl | rfl <;> (unfold segC post5 post6 post7; after_reads_simp)
theorem keepD (b : Ref sig .tc) (hb : b = main_v13 ∨ b = main_v94 ∨ b = main_v95 ∨ b = main_v97) : segD W (Proc.devRef .tc b) = W (Proc.devRef .tc b) := by
  rcases hb with rfl | rfl | rfl | rfl <;> (unfold segD post8 post9 post10 post11; after_reads_simp)
theorem keepE (b : Ref sig .tc) (hb : b = main_v95 ∨ b = main_v97 ∨ b = main_v101) : segE W (Proc.devRef .tc b) = W (Proc.devRef .tc b) := by
  rcases hb with rfl | rfl | rfl <;> (unfold segE post12 post13 post14; after_reads_simp)
theorem keepF : segF W (Proc.devRef .tc main_v103) = W (Proc.devRef .tc main_v103) := by
  unfold segF post15 post16 post17; after_reads_simp

/-! What each group computes. -/

/-- The kept boxes' bits. -/
abbrev keepBits (v g : S2x4096.Idx → BitVec 1) : S2x4096.Idx → BitVec 1 := andi v (noti g)

/-- The words that the sort orders: a kept box's place, and any other's past the kept ones. -/
def places (k : S2x4096.Idx → BitVec 1) (p : S4096.Idx → BitVec 32) : S2x4096.Idx → BitVec 32 :=
  select k (broadcastInDim S2x4096 ![0, 1] bcast_S1x4096_S2x4096_0_1 (broadcastInDim S1x4096 ![1] bcast_S4096_S1x4096_1 p))
    (broadcastInDim S2x4096 ![0, 1] bcast_S1x4096_S2x4096_0_1 (addi (broadcastInDim S1x4096 ![1] bcast_S4096_S1x4096_1 p)
      (broadcastInDim S1x4096 ![] bcast_S_S1x4096 (constantI S_ 32 4096#32))))

theorem a_v87 : (segA W (Proc.devRef .tc main_v87) : S2x4096.Idx → BitVec 1) = keepBits (W (Proc.devRef .tc main_v15)) (W (Proc.devRef .tc main_v85_5)) := by
  unfold segA post0 post1 post2 post3; after_reads_simp
theorem a_v94 : (segA W (Proc.devRef .tc main_v94) : S2x500.Idx → BitVec 32)
    = extractStridedSlice S2x500 ![0, 0] (Host.sort2 S2x4096 1 comparator_i32_i32_d1
      (places (keepBits (W (Proc.devRef .tc main_v15)) (W (Proc.devRef .tc main_v85_5))) (W (Proc.devRef .tc main_v83))) (iotaInDim S2x4096 32 1)).2 slices_S2x4096_S2x500_0_0 := by
  unfold segA post0 post1 post2 post3 places; after_reads_simp; rfl

theorem f_v109 : (segF W (Proc.devRef .tc main_v109) : S2x500x9.Idx → EReal)
    = concatenate S2x500x9 2 [⟨S2x500x1, broadcastInDim S2x500x1 ![0, 1] bcast_S2x500_S2x500x1_0_1 (W (Proc.devRef .tc main_v97) : S2x500.Idx → EReal)⟩,
      ⟨S2x500x7, (W (Proc.devRef .tc main_v101) : S2x500x7.Idx → EReal)⟩,
      ⟨S2x500x1, broadcastInDim S2x500x1 ![0, 1] bcast_S2x500_S2x500x1_0_1 (select (W (Proc.devRef .tc main_v95) : S2x500.Idx → BitVec 1)
        (broadcastInDim S2x500 ![0, 1] bcast_S2x1_S2x500_0_1 (broadcastInDim S2x1 ![0] bcast_S2_S2x1_0 (sitofp (F := Ideal) .f32 (iotaInDim S2 32 0))))
        (broadcastInDim S2x500 ![] bcast_S_S2x500 (constant (F := Ideal) S_ .f32 0x00000000#32)))⟩] concatenates_S2x500x1_S2x500x7_S2x500x1_S2x500x9_d2 := by
  unfold segF post15 post16 post17; after_reads_simp; rfl

variable (hv : ∀ y, ((W (Proc.devRef .tc main_v94) : S2x500.Idx → BitVec 32) y).toNat < 4096)
include hv

/-- The places as a column. -/
abbrev sel3 : S2x500x1.Idx → BitVec 32 := shapeCast S2x500x1 (W (Proc.devRef .tc main_v94) : S2x500.Idx → BitVec 32) shapeCasts_S2x500_S2x500x1

theorem ones_take (v : S2x500x1.Idx → BitVec 32) (h : ∀ y, (v y).toNat < 4096) :
    rangeBit 4096 500 bcast_S_S2x500x1 bcast_S1_S1x1x1_2 bcast_S1x1x1_S2x500x1_0_1_2 reducesTo_S2x500x1_S2x500_d2 h_S_ v = fun _ => 1#1 :=
  rangeBit_one 4096 500 _ _ _ _ _ v (by decide) h

theorem b_v95 : (segB W (Proc.devRef .tc main_v95) : S2x500.Idx → BitVec 1)
    = Host.gather gather_S2x4096_S2x500x1_S2x500_n_1_0_0_1_2_11 (W (Proc.devRef .tc main_v87) : S2x4096.Idx → BitVec 1) (sel3 W) := by
  have e : (segB W (Proc.devRef .tc main_v95) : S2x500.Idx → BitVec 1)
      = select (rangeBit 4096 500 bcast_S_S2x500x1 bcast_S1_S1x1x1_2 bcast_S1x1x1_S2x500x1_0_1_2 reducesTo_S2x500x1_S2x500_d2 h_S_
            (shapeCast S2x500x1 (wrapped 4096 S2x500 bcast_S_S2x500 (W (Proc.devRef .tc main_v94))) shapeCasts_S2x500_S2x500x1))
          (Host.gather gather_S2x4096_S2x500x1_S2x500_n_1_0_0_1_2_11 (W (Proc.devRef .tc main_v87) : S2x4096.Idx → BitVec 1)
            (shapeCast S2x500x1 (wrapped 4096 S2x500 bcast_S_S2x500 (W (Proc.devRef .tc main_v94))) shapeCasts_S2x500_S2x500x1))
          (broadcastInDim S2x500 ![] bcast_S_S2x500 (constantI S_ 1 1#1)) := by
    unfold segB post4; after_reads_simp; rfl
  rw [e, wrapped_id _ _ _ _ (fun y => by have := hv y; omega), ones_take W hv (sel3 W) (fun y => hv _)]
  exact select_ones _ _ _ (fun _ => rfl)

theorem c_v97 : (segC W (Proc.devRef .tc main_v97) : S2x500.Idx → EReal)
    = select (W (Proc.devRef .tc main_v95) : S2x500.Idx → BitVec 1)
      (Host.gather gather_S2x4096_S2x500x1_S2x500_n_1_0_0_1_2_11 (W (Proc.devRef .tc main_values) : S2x4096.Idx → EReal) (sel3 W))
      (broadcastInDim S2x500 ![] bcast_S_S2x500 (constant (F := Ideal) S_ .f32 0x00000000#32)) := by
  have e : (segC W (Proc.devRef .tc main_v97) : S2x500.Idx → EReal)
      = select (W (Proc.devRef .tc main_v95) : S2x500.Idx → BitVec 1)
        (select (rangeBit 4096 500 bcast_S_S2x500x1 bcast_S1_S1x1x1_2 bcast_S1x1x1_S2x500x1_0_1_2 reducesTo_S2x500x1_S2x500_d2 h_S_
            (shapeCast S2x500x1 (wrapped 4096 S2x500 bcast_S_S2x500 (W (Proc.devRef .tc main_v94))) shapeCasts_S2x500_S2x500x1))
          (Host.gather gather_S2x4096_S2x500x1_S2x500_n_1_0_0_1_2_11 (W (Proc.devRef .tc main_values) : S2x4096.Idx → EReal)
            (shapeCast S2x500x1 (wrapped 4096 S2x500 bcast_S_S2x500 (W (Proc.devRef .tc main_v94))) shapeCasts_S2x500_S2x500x1))
          (broadcastInDim S2x500 ![] bcast_S_S2x500 (constant (F := Ideal) S_ .f32 0x7FC00000#32)))
        (broadcastInDim S2x500 ![] bcast_S_S2x500 (constant (F := Ideal) S_ .f32 0x00000000#32)) := by
    unfold segC post5 post6 post7; after_reads_simp; rfl
  rw [e, wrapped_id _ _ _ _ (fun y => by have := hv y; omega), ones_take W hv (sel3 W) (fun y => hv _)]
  exact congrArg (fun z => select _ z _) (select_ones _ _ _ (fun _ => rfl))

theorem e_v103 : (segE W (Proc.devRef .tc main_v103) : S2x500.Idx → BitVec 32)
    = select (W (Proc.devRef .tc main_v95) : S2x500.Idx → BitVec 1)
      (Host.gather gather_S2x4096_S2x500x1_S2x500_n_1_0_0_1_2_11 (W (Proc.devRef .tc main_v13) : S2x4096.Idx → BitVec 32) (sel3 W))
      (broadcastInDim S2x500 ![] bcast_S_S2x500 (constantI S_ 32 4294967295#32)) := by
  have e : (segE W (Proc.devRef .tc main_v103) : S2x500.Idx → BitVec 32)
      = select (W (Proc.devRef .tc main_v95) : S2x500.Idx → BitVec 1)
        (select (rangeBit 4096 500 bcast_S_S2x500x1 bcast_S1_S1x1x1_2 bcast_S1x1x1_S2x500x1_0_1_2 reducesTo_S2x500x1_S2x500_d2 h_S_
            (shapeCast S2x500x1 (wrapped 4096 S2x500 bcast_S_S2x500 (W (Proc.devRef .tc main_v94))) shapeCasts_S2x500_S2x500x1))
          (Host.gather gather_S2x4096_S2x500x1_S2x500_n_1_0_0_1_2_11 (W (Proc.devRef .tc main_v13) : S2x4096.Idx → BitVec 32)
            (shapeCast S2x500x1 (wrapped 4096 S2x500 bcast_S_S2x500 (W (Proc.devRef .tc main_v94))) shapeCasts_S2x500_S2x500x1))
          (broadcastInDim S2x500 ![] bcast_S_S2x500 (constantI S_ 32 2147483648#32)))
        (broadcastInDim S2x500 ![] bcast_S_S2x500 (constantI S_ 32 4294967295#32)) := by
    unfold segE post12 post13 post14; after_reads_simp; rfl
  rw [e, wrapped_id _ _ _ _ (fun y => by have := hv y; omega), ones_take W hv (sel3 W) (fun y => hv _)]
  exact congrArg (fun z => select _ z _) (select_ones _ _ _ (fun _ => rfl))

theorem d_v101 : (segD W (Proc.devRef .tc main_v101) : S2x500x7.Idx → EReal)
    = select (broadcastInDim S2x500x7 ![0, 1, 2] bcast_S2x500x1_S2x500x7_0_1_2
        (broadcastInDim S2x500x1 ![0, 1] bcast_S2x500_S2x500x1_0_1 (W (Proc.devRef .tc main_v95) : S2x500.Idx → BitVec 1)))
      (Host.gather gather_S2x4096x7_S2x500x1_S2x500x7_2_1_0_0_1_2_117 (W (Proc.devRef .tc main_v12) : S2x4096x7.Idx → EReal)
        (broadcastInDim S2x500x1 ![0, 1] bcast_S2x500_S2x500x1_0_1 (W (Proc.devRef .tc main_v94) : S2x500.Idx → BitVec 32)))
      (broadcastInDim S2x500x7 ![] bcast_S_S2x500x7 (constant (F := Ideal) S_ .f32 0x00000000#32)) := by
  have e : (segD W (Proc.devRef .tc main_v101) : S2x500x7.Idx → EReal)
      = select (broadcastInDim S2x500x7 ![0, 1, 2] bcast_S2x500x1_S2x500x7_0_1_2
          (broadcastInDim S2x500x1 ![0, 1] bcast_S2x500_S2x500x1_0_1 (W (Proc.devRef .tc main_v95) : S2x500.Idx → BitVec 1)))
        (select (broadcastInDim S2x500x7 ![0, 1] bcast_S2x500_S2x500x7_0_1 (rangeBit 4096 500 bcast_S_S2x500x1 bcast_S1_S1x1x1_2 bcast_S1x1x1_S2x500x1_0_1_2
            reducesTo_S2x500x1_S2x500_d2 h_S_ (wrapped 4096 S2x500x1 bcast_S_S2x500x1 (broadcastInDim S2x500x1 ![0, 1] bcast_S2x500_S2x500x1_0_1 (W (Proc.devRef .tc main_v94))))))
          (Host.gather gather_S2x4096x7_S2x500x1_S2x500x7_2_1_0_0_1_2_117 (W (Proc.devRef .tc main_v12) : S2x4096x7.Idx → EReal)
            (wrapped 4096 S2x500x1 bcast_S_S2x500x1 (broadcastInDim S2x500x1 ![0, 1] bcast_S2x500_S2x500x1_0_1 (W (Proc.devRef .tc main_v94)))))
          (broadcastInDim S2x500x7 ![] bcast_S_S2x500x7 (constant (F := Ideal) S_ .f32 0x7FC00000#32)))
        (broadcastInDim S2x500x7 ![] bcast_S_S2x500x7 (constant (F := Ideal) S_ .f32 0x00000000#32)) := by
    unfold segD post8 post9 post10 post11; after_reads_simp; rfl
  have hw : ∀ y, ((broadcastInDim S2x500x1 ![0, 1] bcast_S2x500_S2x500x1_0_1 (W (Proc.devRef .tc main_v94) : S2x500.Idx → BitVec 32) : S2x500x1.Idx → BitVec 32) y).toNat < 4096 :=
    fun y => hv _
  rw [e, wrapped_id _ _ _ _ (fun y => by have := hw y; omega), ones_take W hv _ hw]
  exact congrArg (fun z => select _ z _) (select_ones _ _ _ (fun _ => rfl))

end Lines

end Cert.ReferenceIdeal.Nms
-- ==== Proof.RRows.lean ====
/-
  The rows of the reference's two results: the kept boxes in the order of their scores, then nothing.
-/
module

public import proofs.«01_k».proof.Proof.RPost

@[expose] public section

set_option maxRecDepth 16384

noncomputable section

namespace Cert.ReferenceIdeal.Nms

open Cert.ReferenceIdeal Cert.ReferenceIdeal.Gen Cert.Nms
open Cert.KernelIdeal.Nms (vals boxes labs bxOf howMany rowOf column_ix3 widen_ix3)
open Idealize.ShloMosaic.WordCmp (cmpi_slt_ofNat_eq_one_iff addi_ofNat)
open Idealize.ShloMosaic Idealize.ShloMosaic.TcCoe Idealize.ShloMosaic.Tactic

variable (m : (ℓ : Loc nD τ sig) → Buf (Elt Ideal) ℓ) (c : Dev nD)

/-! The buffers after the loop and after each group of lines. -/

def QL : Valuation τ sig (Elt Ideal) := StableHlo.after cond0 (atK m 4096 c)
def QA : Valuation τ sig (Elt Ideal) := segA (QL m c)
def QB : Valuation τ sig (Elt Ideal) := segB (QA m c)
def QC : Valuation τ sig (Elt Ideal) := segC (QB m c)
def QD : Valuation τ sig (Elt Ideal) := segD (QC m c)
def QE : Valuation τ sig (Elt Ideal) := segE (QD m c)

theorem fin_eq : fin m c = segF (QE m c) := rfl

theorem QL_rest (b : Ref sig .tc) (hb : b = main_values ∨ b = main_v12 ∨ b = main_v13 ∨ b = main_v15 ∨ b = main_v83) :
    QL m c (Proc.devRef .tc b) = atK m 0 c (Proc.devRef .tc b) := by
  unfold QL
  rw [cond_rest _ b (by tauto), loop_rest m c b (by tauto)]

theorem start_place' : atK m 0 c (Proc.devRef .tc main_v83) = iotaInDim S4096 32 0 := by
  rw [atK_start]
  generalize R9 m c = W
  unfold pre9; after_reads_simp

/-- Box `j` of batch `b` is kept. -/
abbrev keptR (b : Fin 2) : ℕ → Prop := kept (hitR m c b) (howMany (cls m c) b)

/-- The kept boxes' bits. -/
def bits : S2x4096.Idx → BitVec 1 := keepBits (QL m c (Proc.devRef .tc main_v15)) (QL m c (Proc.devRef .tc main_v85_5))

theorem bits_iff (b : Fin 2) (j : Fin 4096) : bits m c (ix2 b j) = 1#1 ↔ keptR m c b j.val := by
  refine (bit_and _ (~~~((QL m c (Proc.devRef .tc main_v85_5) : S2x4096.Idx → BitVec 1) (ix2 b j)))).trans (and_congr ?_ ((bit_not _).trans (not_congr ?_)))
  · rw [QL_rest m c _ (by tauto), start_v15]
    exact goodBits_iff _ b j
  · unfold QL
    rw [cond_rest _ main_v85_5 (by tauto)]
    exact (loop_gone m c b 4096 le_rfl j).trans (gone_of_le _ j.val 4096 j.isLt.le)

theorem QA_v87 : (QA m c (Proc.devRef .tc main_v87) : S2x4096.Idx → BitVec 1) = bits m c := a_v87 (QL m c)

/-- The word that the sort orders a box by. -/
theorem places_at (k : S2x4096.Idx → BitVec 1) (b : Fin 2) (j : Fin 4096) : places k (iotaInDim S4096 32 0) (ix2 b j)
    = Scalar.select (k (ix2 b j)) (BitVec.ofNat 32 j.val) (IntOp.addi (BitVec.ofNat 32 j.val) 4096#32) := by
  unfold places
  pointwise []

theorem places_key (b : Fin 2) (j : Fin 4096) : places (bits m c) (iotaInDim S4096 32 0) (ix2 b j) = BitVec.ofNat 32 (key (keptR m c b) 4096 j.val) := by
  rw [places_at]
  unfold key
  by_cases h : keptR m c b j.val
  · rw [if_pos h, (bits_iff m c b j).mpr h]
    rfl
  · rw [if_neg h]
    have h0 : bits m c (ix2 b j) = 0#1 := by
      have := mt (bits_iff m c b j).mp h
      revert this
      generalize bits m c (ix2 b j) = x
      revert x; decide
    rw [h0]
    exact addi_ofNat j.val 4096

/-- The box that the sort puts at place `r`. -/
def sel (b : Fin 2) (r : Fin 500) : Fin 4096 :=
  sortedFrom (fun k k' => comparator_i32_i32_d1 (places (bits m c) (iotaInDim S4096 32 0) (ix2 b k), iotaInDim S2x4096 32 1 (ix2 b k))
    (places (bits m c) (iotaInDim S4096 32 0) (ix2 b k'), iotaInDim S2x4096 32 1 (ix2 b k')) == 1#1) (r.castLE (by decide))

theorem key_lt (P : ℕ → Prop) (j : Fin 4096) : key P 4096 j.val < 2 ^ 31 := by
  have := j.isLt
  unfold key
  split <;> omega

theorem sel_kept (b : Fin 2) (r : Fin 500) : (keptR m c b (sel m c b r) → rank (hitR m c b) (howMany (cls m c) b) (sel m c b r) = r.val)
    ∧ (¬ keptR m c b (sel m c b r) → rank (hitR m c b) (howMany (cls m c) b) 4096 ≤ r.val) := by
  refine sorted_kept (N := 4096) (keptR m c b) _ (fun x y => ?_) (r.castLE (by decide))
  rw [places_key, places_key, beq_iff_eq]
  exact cmpi_slt_ofNat_eq_one_iff (w := 32) (key_lt _ x) (key_lt _ y)

theorem QA_v94 (b : Fin 2) (r : Fin 500) : (QA m c (Proc.devRef .tc main_v94) : S2x500.Idx → BitVec 32) (ix2 b r) = BitVec.ofNat 32 (sel m c b r).val := by
  have e : (QA m c (Proc.devRef .tc main_v94) : S2x500.Idx → BitVec 32) = _ := a_v94 (QL m c)
  rw [e, QL_rest m c main_v83 (by tauto), start_place']
  have hs : (Host.sort2 S2x4096 1 comparator_i32_i32_d1 (places (bits m c) (iotaInDim S4096 32 0)) (iotaInDim S2x4096 32 1)).2 (ix2 b (r.castLE (by decide) : Fin 4096))
      = iotaInDim S2x4096 32 1 (ix2 b (sel m c b r)) := (sort2_read comparator_i32_i32_d1 _ _ b _).2
  refine Eq.trans ?_ (hs.trans ?_)
  · pointwise []
    rfl
  · rfl

theorem sel_toNat (b : Fin 2) (r : Fin 500) : ((QA m c (Proc.devRef .tc main_v94) : S2x500.Idx → BitVec 32) (ix2 b r)).toNat = (sel m c b r).val := by
  have := (sel m c b r).isLt
  rw [QA_v94, BitVec.toNat_ofNat]
  omega

theorem QA_lt (y : S2x500.Idx) : ((QA m c (Proc.devRef .tc main_v94) : S2x500.Idx → BitVec 32) y).toNat < 4096 := by
  have e := (congrArg (fun z => ((QA m c (Proc.devRef .tc main_v94) : S2x500.Idx → BitVec 32) z).toNat) (eq_ix2 y)).trans (sel_toNat m c (y 0) (y 1))
  have := (sel m c (y 0) (y 1)).isLt
  exact lt_of_eq_of_lt e this

theorem take_at {α : Type} (x : S2x4096.Idx → α) (W : Valuation τ sig (Elt Ideal)) (hW : W (Proc.devRef .tc main_v94) = QA m c (Proc.devRef .tc main_v94))
    (b : Fin 2) (r : Fin 500) : Host.gather gather_S2x4096_S2x500x1_S2x500_n_1_0_0_1_2_11 x (sel3 W) (ix2 b r) = x (ix2 b (sel m c b r)) := by
  refine gather1 _ _ _ b r _ ?_ (by decide)
  refine (congrArg BitVec.toNat (column_ix3 _ _ b r 0)).trans ?_
  rw [hW]
  exact sel_toNat m c b r

/-! The places, and the kept bits in their order, at each group. -/

theorem QB_v94 : QB m c (Proc.devRef .tc main_v94) = QA m c (Proc.devRef .tc main_v94) := keepB (QA m c) _ (by tauto)
theorem QC_v94 : QC m c (Proc.devRef .tc main_v94) = QA m c (Proc.devRef .tc main_v94) := (keepC (QB m c) _ (by tauto)).trans (QB_v94 m c)
theorem QD_v94 : QD m c (Proc.devRef .tc main_v94) = QA m c (Proc.devRef .tc main_v94) := (keepD (QC m c) _ (by tauto)).trans (QC_v94 m c)

theorem QB_v95 (b : Fin 2) (r : Fin 500) : (QB m c (Proc.devRef .tc main_v95) : S2x500.Idx → BitVec 1) (ix2 b r) = bits m c (ix2 b (sel m c b r)) := by
  have e : (QB m c (Proc.devRef .tc main_v95) : S2x500.Idx → BitVec 1) = _ := b_v95 (QA m c) (QA_lt m c)
  rw [e, QA_v87]
  exact take_at m c _ (QA m c) rfl b r
theorem QC_v95 : QC m c (Proc.devRef .tc main_v95) = QB m c (Proc.devRef .tc main_v95) := keepC (QB m c) _ (by tauto)
theorem QD_v95 : QD m c (Proc.devRef .tc main_v95) = QB m c (Proc.devRef .tc main_v95) := (keepD (QC m c) _ (by tauto)).trans (QC_v95 m c)
theorem QE_v95 : QE m c (Proc.devRef .tc main_v95) = QB m c (Proc.devRef .tc main_v95) := (keepE (QD m c) _ (by tauto)).trans (QD_v95 m c)

theorem QB_values : QB m c (Proc.devRef .tc main_values) = vals (cls m c) :=
  (keepB (QA m c) _ (by tauto)).trans ((keepA (QL m c) _ (by tauto)).trans ((QL_rest m c _ (by tauto)).trans (start_values m c)))
theorem QC_v12 : QC m c (Proc.devRef .tc main_v12) = boxes (cls m c) (box m c) :=
  (keepC (QB m c) _ (by tauto)).trans ((keepB (QA m c) _ (by tauto)).trans ((keepA (QL m c) _ (by tauto)).trans ((QL_rest m c _ (by tauto)).trans (start_v12 m c))))
theorem QD_v13 : QD m c (Proc.devRef .tc main_v13) = labs (cls m c) :=
  (keepD (QC m c) _ (by tauto)).trans ((keepC (QB m c) _ (by tauto)).trans ((keepB (QA m c) _ (by tauto)).trans
    ((keepA (QL m c) _ (by tauto)).trans ((QL_rest m c _ (by tauto)).trans (start_v13 m c)))))

/-! The scores, the boxes and the labels of the rows. -/

theorem score_at (b : Fin 2) (r : Fin 500) : (QC m c (Proc.devRef .tc main_v97) : S2x500.Idx → EReal) (ix2 b r)
    = Scalar.select (bits m c (ix2 b (sel m c b r))) (vals (cls m c) (ix2 b (sel m c b r))) (Ideal.ofBits .f32 0x00000000#32) := by
  have e : (QC m c (Proc.devRef .tc main_v97) : S2x500.Idx → EReal) = _ :=
    c_v97 (QB m c) (fun y => lt_of_eq_of_lt (congrArg (fun f : S2x500.Idx → BitVec 32 => (f y).toNat) (QB_v94 m c)) (QA_lt m c y))
  rw [e, QB_values, ← take_at m c (vals (cls m c)) (QB m c) (QB_v94 m c) b r, ← QB_v95]
  rfl

theorem label_at (b : Fin 2) (r : Fin 500) : (QE m c (Proc.devRef .tc main_v103) : S2x500.Idx → BitVec 32) (ix2 b r)
    = Scalar.select (bits m c (ix2 b (sel m c b r))) (labs (cls m c) (ix2 b (sel m c b r))) 4294967295#32 := by
  have e : (QE m c (Proc.devRef .tc main_v103) : S2x500.Idx → BitVec 32) = _ :=
    e_v103 (QD m c) (fun y => lt_of_eq_of_lt (congrArg (fun f : S2x500.Idx → BitVec 32 => (f y).toNat) (QD_v94 m c)) (QA_lt m c y))
  rw [e, QD_v13, ← take_at m c (labs (cls m c)) (QD m c) (QD_v94 m c) b r, ← QB_v95, ← QD_v95]
  rfl

theorem box_at (b : Fin 2) (r : Fin 500) (k : Fin 7) : (QD m c (Proc.devRef .tc main_v101) : S2x500x7.Idx → EReal) (ix3 b r k)
    = Scalar.select (bits m c (ix2 b (sel m c b r))) (boxes (cls m c) (box m c) (ix3 b (sel m c b r) k)) (Ideal.ofBits .f32 0x00000000#32) := by
  have e : (QD m c (Proc.devRef .tc main_v101) : S2x500x7.Idx → EReal) = _ :=
    d_v101 (QC m c) (fun y => lt_of_eq_of_lt (congrArg (fun f : S2x500.Idx → BitVec 32 => (f y).toNat) (QC_v94 m c)) (QA_lt m c y))
  have hg : Host.gather gather_S2x4096x7_S2x500x1_S2x500x7_2_1_0_0_1_2_117 (boxes (cls m c) (box m c))
      (broadcastInDim S2x500x1 ![0, 1] bcast_S2x500_S2x500x1_0_1 (QC m c (Proc.devRef .tc main_v94) : S2x500.Idx → BitVec 32)) (ix3 b r k)
      = boxes (cls m c) (box m c) (ix3 b (sel m c b r) k) := by
    refine gather7 _ _ _ b r k _ ?_ (by decide)
    refine (congrArg BitVec.toNat (widen_ix3 _ _ b r 0)).trans ?_
    rw [QC_v94]
    exact sel_toNat m c b r
  rw [e, QC_v12, ← hg, ← QB_v95, ← QC_v95]
  generalize Host.gather _ _ _ = G
  pointwise []

/-- One column, seven columns and one column side by side. -/
def catOf (f : S2x500.Idx → EReal) (g : S2x500x7.Idx → EReal) (h : S2x500.Idx → EReal) (b : Fin 2) (r : Fin 500) (q : Fin 9) : EReal :=
  if h0 : q.val = 0 then f (ix2 b r) else if h7 : q.val < 8 then g (ix3 b r (⟨q.val - 1, by omega⟩ : Fin 7)) else h (ix2 b r)

theorem cat_at (f : S2x500.Idx → EReal) (g : S2x500x7.Idx → EReal) (h : S2x500.Idx → EReal) (b : Fin 2) (r : Fin 500) (q : Fin 9) :
    concatenate S2x500x9 2 [⟨S2x500x1, broadcastInDim S2x500x1 ![0, 1] bcast_S2x500_S2x500x1_0_1 f⟩, ⟨S2x500x7, g⟩,
      ⟨S2x500x1, broadcastInDim S2x500x1 ![0, 1] bcast_S2x500_S2x500x1_0_1 h⟩] concatenates_S2x500x1_S2x500x7_S2x500x1_S2x500x9_d2 (ix3 b r q) = catOf f g h b r q := by
  fin_cases q
  all_goals pointwise [catOf]
  all_goals rfl

/-- A row of the first result. -/
theorem row_is (b : Fin 2) (r : Fin 500) (q : Fin 9) : (fin m c (Proc.devRef .tc main_v109) : S2x500x9.Idx → EReal) (ix3 b r q)
    = Scalar.select (bits m c (ix2 b (sel m c b r))) (rowOf (vals (cls m c)) (boxes (cls m c) (box m c)) b (sel m c b r) q) (Ideal.ofBits .f32 0x00000000#32) := by
  have e : (fin m c (Proc.devRef .tc main_v109) : S2x500x9.Idx → EReal) = _ := f_v109 (QE m c)
  have e1 : QE m c (Proc.devRef .tc main_v97) = QC m c (Proc.devRef .tc main_v97) := (keepE (QD m c) _ (by tauto)).trans (keepD (QC m c) _ (by tauto))
  have e2 : QE m c (Proc.devRef .tc main_v101) = QD m c (Proc.devRef .tc main_v101) := keepE (QD m c) _ (by tauto)
  rw [e, e1, e2, QE_v95, cat_at]
  unfold catOf rowOf
  by_cases h0 : q.val = 0
  · rw [dif_pos h0, dif_pos h0]
    exact score_at m c b r
  rw [dif_neg h0, dif_neg h0]
  by_cases h7 : q.val < 8
  · rw [dif_pos h7, dif_pos h7]
    exact box_at m c b r _
  rw [dif_neg h7, dif_neg h7, ← QB_v95]
  pointwise []
  rfl

/-- A row of the second result. -/
theorem lab_is (b : Fin 2) (r : Fin 500) : (fin m c (Proc.devRef .tc main_v103) : S2x500.Idx → BitVec 32) (ix2 b r)
    = Scalar.select (bits m c (ix2 b (sel m c b r))) (labs (cls m c) (ix2 b (sel m c b r))) 4294967295#32 := by
  rw [fin_eq, keepF]
  exact label_at m c b r

end Cert.ReferenceIdeal.Nms
-- ==== Proof.Sanity.lean ====
/-
  The precondition read: every box has a finite centre and a large enough area.
-/
module

public import proofs.«01_k».proof.Pre_sane_boxes
public import proofs.«01_k».proof.Proof.RLoop
public import Idealize.ShloMosaic.Lib.ReduceAll

@[expose] public section

set_option maxRecDepth 16384

noncomputable section

namespace Cert.Pre_sane_boxes.Nms

open Cert.Pre_sane_boxes Cert.Nms
open Cert.ReferenceIdeal.Nms (bit_and ogt_iff oge_iff)
open Idealize.ShloMosaic Idealize.ShloMosaic.TcCoe Idealize.ShloMosaic.Tactic

/-- The shapes that the precondition's operations take are as they have to be. -/
theorem facts : Cert.Pre_sane_boxes.Facts where
  slices_S2x20000x7_S2x20000x1_0_0_0 := by decide
  shapeCasts_S2x20000x1_S2x20000 := by decide
  slices_S2x20000x7_S2x20000x1_0_0_1 := by decide
  slices_S2x20000x7_S2x20000x1_0_0_3 := by decide
  slices_S2x20000x7_S2x20000x1_0_0_4 := by decide
  bcast_S_S2x20000 := by decide
  reducesTo_S2x20000_S_d0_1 := by decide
  h_S_ := by decide

theorem olt_iff {s : Shape} (x : s.Idx → EReal) (h : (⟨0, ![]⟩ : Shape).BroadcastsInDim s ![]) (w : BitVec 32) (y : s.Idx) :
    cmpf (F := Ideal) (φ := .f32) .olt x (broadcastInDim s ![] h (constant (F := Ideal) ⟨0, ![]⟩ .f32 w)) y = 1#1 ↔ x y < FloatOps.ofBits (F := Ideal) .f32 w := by
  show BitVec.ofBool (decide (x y < FloatOps.ofBits (F := Ideal) .f32 w)) = 1#1 ↔ _
  generalize FloatOps.ofBits (F := Ideal) .f32 w = u
  by_cases h : x y < u
  · exact iff_of_true (congrArg BitVec.ofBool (decide_eq_true h)) h
  · exact iff_of_false (fun e => by rw [decide_eq_false h] at e; exact absurd e (by decide)) h

theorem inf_top : FloatOps.ofBits (F := Ideal) .f32 0x7F800000#32 = (⊤ : EReal) := by
  show Ideal.ofBits .f32 0x7F800000#32 = ⊤
  simp [Ideal.ofBits, Ideal.ieee]

theorem zero_bits : FloatOps.ofBits (F := Ideal) .f32 0x00000000#32 = (0 : EReal) := by
  show Ideal.ofBits .f32 0x00000000#32 = 0
  simp [Ideal.ofBits, Ideal.ieee]

theorem real_of_abs (x : EReal) (h : max x (-x) < ⊤) : ∃ r : ℝ, x = r := by
  induction x using EReal.rec with
  | bot => simp at h
  | coe r => exact ⟨r, rfl⟩
  | top => simp at h

section Read
variable [Cert.Pre_sane_boxes.Facts]
open Facts

/-- One of the seven numbers of every box. -/
def col (a1 : S2x20000x7.Idx → EReal) (k : ℕ) (h : S2x20000x7.Slices ![0, 0, k] S2x20000x1) : S2x20000.Idx → EReal :=
  shapeCast S2x20000 (extractStridedSlice S2x20000x1 ![0, 0, k] a1 h) shapeCasts_S2x20000x1_S2x20000

theorem col_at (a1 : S2x20000x7.Idx → EReal) (k : Fin 7) (h) (b : Fin 2) (i : Fin 20000) : col a1 k.val h (ix2 b i) = a1 (ix3 b i k) := by
  unfold col
  pointwise []

/-- The bits that the precondition asks to be all set. -/
def asked (a1 : S2x20000x7.Idx → EReal) : S2x20000.Idx → BitVec 1 :=
  let lim (w : BitVec 32) : S2x20000.Idx → EReal := broadcastInDim S2x20000 ![] bcast_S_S2x20000 (constant (F := Ideal) S_ .f32 w)
  let x := col a1 0 slices_S2x20000x7_S2x20000x1_0_0_0
  let y := col a1 1 slices_S2x20000x7_S2x20000x1_0_0_1
  let dx := col a1 3 slices_S2x20000x7_S2x20000x1_0_0_3
  let dy := col a1 4 slices_S2x20000x7_S2x20000x1_0_0_4
  andi (andi (cmpf (F := Ideal) (φ := .f32) .olt (Host.absf (F := Ideal) (φ := .f32) x) (lim 0x7F800000#32))
    (cmpf (F := Ideal) (φ := .f32) .olt (Host.absf (F := Ideal) (φ := .f32) y) (lim 0x7F800000#32)))
    (cmpf (F := Ideal) (φ := .f32) .oge (mulf (F := Ideal) (φ := .f32) dx dy) (lim 0x322BCC77#32))

theorem fn_is (a0 : S2x20000x3.Idx → EReal) (a1 : S2x20000x7.Idx → EReal) :
    fn (F := Ideal) a0 a1 = Host.reduce IntOp.andi (asked a1) (constantI S_ 1 1#1) reducesTo_S2x20000_S_d0_1 h_S_ := rfl

theorem asked_sane (a1 : S2x20000x7.Idx → EReal) (b : Fin 2) (i : Fin 20000) (h : asked a1 (ix2 b i) = 1#1) :
    Box.Sane ⟨a1 (ix3 b i (0 : Fin 7)), a1 (ix3 b i (1 : Fin 7)), a1 (ix3 b i (3 : Fin 7)), a1 (ix3 b i (4 : Fin 7))⟩ := by
  unfold asked at h
  obtain ⟨h, h3⟩ := (bit_and _ _).1 h
  obtain ⟨h1, h2⟩ := (bit_and _ _).1 h
  have e1 := (olt_iff _ _ _ _).1 h1
  have e2 := (olt_iff _ _ _ _).1 h2
  have e3 := (oge_iff _ _ _ _).1 h3
  have c0 := col_at a1 0 slices_S2x20000x7_S2x20000x1_0_0_0 b i
  have c1 := col_at a1 1 slices_S2x20000x7_S2x20000x1_0_0_1 b i
  have c3 := col_at a1 3 slices_S2x20000x7_S2x20000x1_0_0_3 b i
  have c4 := col_at a1 4 slices_S2x20000x7_S2x20000x1_0_0_4 b i
  rw [inf_top] at e1 e2
  refine ⟨real_of_abs _ ?_, real_of_abs _ ?_, ?_⟩
  · exact lt_of_eq_of_lt (congrArg (fun z => max z (-z)) c0.symm) e1
  · exact lt_of_eq_of_lt (congrArg (fun z => max z (-z)) c1.symm) e2
  · exact le_of_le_of_eq e3 (congrArg₂ (fun z w : EReal => z * w) c3 c4)

/-- The precondition makes every box sane. -/
theorem sane_of (a0 : S2x20000x3.Idx → EReal) (a1 : S2x20000x7.Idx → EReal) (h : fn (F := Ideal) a0 a1 = fun _ => 1#1) (b : Fin 2) (i : Fin 20000) :
    Box.Sane ⟨a1 (ix3 b i (0 : Fin 7)), a1 (ix3 b i (1 : Fin 7)), a1 (ix3 b i (3 : Fin 7)), a1 (ix3 b i (4 : Fin 7))⟩ := by
  haveI : Subsingleton S_.Idx := ⟨fun a b => funext fun k => k.elim0⟩
  rw [fn_is] at h
  exact asked_sane a1 b i (Host.reduce_andi_all _ _ _ _ ix0 (congrFun h ix0) (ix2 b i))

end Read

end Cert.Pre_sane_boxes.Nms
-- ==== Proof.Equal.lean ====
/-
  The kernel's two results are the reference's: the same boxes are kept by both, in the same order.
-/
module

public import proofs.«01_k».proof.Defs
public import proofs.«01_k».proof.Proof.IRes
public import proofs.«01_k».proof.Proof.RRows
public import proofs.«01_k».proof.Proof.Sanity

@[expose] public section

set_option maxRecDepth 16384

noncomputable section

namespace Cert.Nms

open Idealize.ShloMosaic Idealize.ShloMosaic.TcCoe Idealize.ShloMosaic.Tactic

/-! Two ways to say who hits whom keep the same boxes where they agree. -/

section Same
variable (hit hit' : ℕ → ℕ → Prop) (n N : ℕ) (hn : n ≤ N) (h : ∀ i < n, ∀ j < N, hit i j ↔ hit' i j)
include hn h

theorem gone_same : ∀ k, k ≤ n → ∀ j < N, (gone hit k j ↔ gone hit' k j)
  | 0, _, _, _ => Iff.rfl
  | k + 1, hk, j, hj =>
    or_congr (gone_same k (by omega) j hj) (and_congr (not_congr (gone_same k (by omega) k (by omega))) (and_congr (h k hk j hj) Iff.rfl))

theorem kept_same : kept hit n = kept hit' n := by
  funext j
  refine propext (and_congr_right fun hj => not_congr (gone_same hit hit' n N hn h j hj.le j (by omega)))

end Same

open Cert.KernelIdeal.Nms (vals boxes labs bxOf bxOf_lt howMany rowOf hitK)

theorem howMany_le (a0 : Cert.KernelIdeal.S2x20000x3.Idx → EReal) (b : Fin 2) : howMany a0 b ≤ 4096 := by
  unfold howMany
  exact (Finset.card_le_univ _).trans (le_of_eq (Fintype.card_fin 4096))

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)
  (e0 : Cert.ReferenceIdeal.Nms.cls m' c = Cert.KernelIdeal.Nms.cls m c)
  (e1 : Cert.ReferenceIdeal.Nms.box m' c = Cert.KernelIdeal.Nms.box m c)
  (hs : ∀ (b : Fin 2) (i : Fin 20000), Box.Sane ⟨Cert.KernelIdeal.Nms.box m c (ix3 b i (0 : Fin 7)), Cert.KernelIdeal.Nms.box m c (ix3 b i (1 : Fin 7)),
    Cert.KernelIdeal.Nms.box m c (ix3 b i (3 : Fin 7)), Cert.KernelIdeal.Nms.box m c (ix3 b i (4 : Fin 7))⟩)

include hs in
theorem bxs_sane (b : Fin 2) (k : ℕ) (hk : k < 4096) : (Cert.KernelIdeal.Nms.bxs m c b k).Sane := by
  rw [show Cert.KernelIdeal.Nms.bxs m c b k = _ from bxOf_lt _ b k hk]
  exact hs b _

include e0 e1 hs in
theorem kept_eq (b : Fin 2) : Cert.ReferenceIdeal.Nms.keptR m' c b
    = kept (hitK (Cert.KernelIdeal.Nms.bxs m c b)) (howMany (Cert.KernelIdeal.Nms.cls m c) b) := by
  unfold Cert.ReferenceIdeal.Nms.keptR
  rw [e0]
  refine kept_same _ _ _ 4096 (howMany_le _ b) (fun i hi j hj => ?_)
  have hi' := lt_of_lt_of_le hi (howMany_le _ b)
  unfold Cert.ReferenceIdeal.Nms.hitR Cert.ReferenceIdeal.Nms.bxs hitK
  rw [e0, e1]
  exact (and_iff_right hi).trans (Box.hits_iff _ _ (bxs_sane m c hs b i hi') (bxs_sane m c hs b j hj))

include e0 e1 hs in
theorem rank_eq (b : Fin 2) (k : ℕ) : rank (Cert.ReferenceIdeal.Nms.hitR m' c b) (howMany (Cert.ReferenceIdeal.Nms.cls m' c) b) k
    = rank (hitK (Cert.KernelIdeal.Nms.bxs m c b)) (howMany (Cert.KernelIdeal.Nms.cls m c) b) k :=
  congrArg (fun P : ℕ → Prop => @Nat.count P (fun _ => Classical.propDecidable _) k) (kept_eq m m' c e0 e1 hs b)

/-- What place `r` holds: a kept box whose place it is, or nothing. -/
theorem place_cases (b : Fin 2) (r : Fin 500) :
    (Cert.ReferenceIdeal.Nms.bits m' c (ix2 b (Cert.ReferenceIdeal.Nms.sel m' c b r)) = 1#1 ∧ Cert.ReferenceIdeal.Nms.keptR m' c b (Cert.ReferenceIdeal.Nms.sel m' c b r).val)
    ∨ (Cert.ReferenceIdeal.Nms.bits m' c (ix2 b (Cert.ReferenceIdeal.Nms.sel m' c b r)) = 0#1 ∧ ¬ Cert.ReferenceIdeal.Nms.keptR m' c b (Cert.ReferenceIdeal.Nms.sel m' c b r).val) := by
  have h := Cert.ReferenceIdeal.Nms.bits_iff m' c b (Cert.ReferenceIdeal.Nms.sel m' c b r)
  generalize Cert.ReferenceIdeal.Nms.bits m' c (ix2 b (Cert.ReferenceIdeal.Nms.sel m' c b r)) = x at h ⊢
  rcases (show ∀ x : BitVec 1, x = 1#1 ∨ x = 0#1 by decide) x with hx | hx
  · exact .inl ⟨hx, h.1 hx⟩
  · exact .inr ⟨hx, fun hk => absurd (hx.symm.trans (h.2 hk)) (by decide)⟩

include e0 e1 hs in
theorem past (b : Fin 2) (r : Fin 500) (hk : ¬ Cert.ReferenceIdeal.Nms.keptR m' c b (Cert.ReferenceIdeal.Nms.sel m' c b r).val) :
    rank (hitK (Cert.KernelIdeal.Nms.bxs m c b)) (howMany (Cert.KernelIdeal.Nms.cls m c) b) (howMany (Cert.KernelIdeal.Nms.cls m c) b) ≤ r.val := by
  rw [← rank_past _ _ 4096 (howMany_le _ b), ← rank_eq m m' c e0 e1 hs]
  exact (Cert.ReferenceIdeal.Nms.sel_kept m' c b r).2 hk

include e0 e1 hs in
theorem first_same (b : Fin 2) (r : Fin 500) (q : Fin 9) : Cert.KernelIdeal.Nms.res41 m c (ix3 b r q)
    = (Cert.ReferenceIdeal.Nms.fin m' c (Proc.devRef .tc Cert.ReferenceIdeal.main_v109) : Cert.ReferenceIdeal.S2x500x9.Idx → EReal) (ix3 b r q) := by
  rw [Cert.ReferenceIdeal.Nms.row_is]
  rcases place_cases m' c b r with ⟨hb, hk⟩ | ⟨hb, hk⟩
  · rw [hb, e0, e1]
    exact Cert.KernelIdeal.Nms.res41_kept m c b _ ((congrFun (kept_eq m m' c e0 e1 hs b) _).mp hk) r
      ((rank_eq m m' c e0 e1 hs b _).symm.trans ((Cert.ReferenceIdeal.Nms.sel_kept m' c b r).1 hk)) q
  · rw [hb]
    exact (Cert.KernelIdeal.Nms.res41_past m c b r (past m m' c e0 e1 hs b r hk) q).trans Cert.Pre_sane_boxes.Nms.zero_bits.symm

include e0 e1 hs in
theorem second_same (b : Fin 2) (r : Fin 500) : Cert.KernelIdeal.Nms.res43 m c (ix2 b r)
    = (Cert.ReferenceIdeal.Nms.fin m' c (Proc.devRef .tc Cert.ReferenceIdeal.main_v103) : Cert.ReferenceIdeal.S2x500.Idx → BitVec 32) (ix2 b r) := by
  rw [Cert.ReferenceIdeal.Nms.lab_is]
  rcases place_cases m' c b r with ⟨hb, hk⟩ | ⟨hb, hk⟩
  · rw [hb, e0]
    exact Cert.KernelIdeal.Nms.res43_kept m c b _ ((congrFun (kept_eq m m' c e0 e1 hs b) _).mp hk) r
      ((rank_eq m m' c e0 e1 hs b _).symm.trans ((Cert.ReferenceIdeal.Nms.sel_kept m' c b r).1 hk))
  · rw [hb]
    exact Cert.KernelIdeal.Nms.res43_past m c b r (past m m' c e0 e1 hs b r hk)

include e0 e1 hs in
theorem first_eq : Cert.KernelIdeal.Nms.res41 m c
    = (Cert.ReferenceIdeal.Nms.fin m' c (Proc.devRef .tc Cert.ReferenceIdeal.main_v109) : Cert.ReferenceIdeal.S2x500x9.Idx → EReal) :=
  funext fun y : Cert.KernelIdeal.S2x500x9.Idx => (congrArg (Cert.KernelIdeal.Nms.res41 m c) (eq_ix3 y)).trans ((first_same m m' c e0 e1 hs (y 0) (y 1) (y 2)).trans
    (congrArg (Cert.ReferenceIdeal.Nms.fin m' c (Proc.devRef .tc Cert.ReferenceIdeal.main_v109) : Cert.ReferenceIdeal.S2x500x9.Idx → EReal) (eq_ix3 y).symm))

include e0 e1 hs in
theorem second_eq : Cert.KernelIdeal.Nms.res43 m c
    = (Cert.ReferenceIdeal.Nms.fin m' c (Proc.devRef .tc Cert.ReferenceIdeal.main_v103) : Cert.ReferenceIdeal.S2x500.Idx → BitVec 32) :=
  funext fun y : Cert.KernelIdeal.S2x500.Idx => (congrArg (Cert.KernelIdeal.Nms.res43 m c) (eq_ix2 y)).trans ((second_same m m' c e0 e1 hs (y 0) (y 1)).trans
    (congrArg (Cert.ReferenceIdeal.Nms.fin m' c (Proc.devRef .tc Cert.ReferenceIdeal.main_v103) : Cert.ReferenceIdeal.S2x500.Idx → BitVec 32) (eq_ix2 y).symm))

/-- The kernel, exact, computes the reference's two results wherever every box is sane. -/
theorem equal : @Cert.algebraic_KernelIdeal_ReferenceIdeal_pre_sane_boxes Cert.KernelIdeal.Gen.facts Cert.ReferenceIdeal.Gen.facts Cert.Pre_sane_boxes.Nms.facts := by
  intro m g m' g' hpre harg
  refine ⟨fun c => Cert.KernelIdeal.Nms.res41 m c, fun c => Cert.KernelIdeal.Nms.res43 m c, ?_, ?_⟩
  · refine (θ_run Cert.KernelIdeal.defs _ _).mono (fun r h c => ⟨?_, ?_, ?_⟩)
      (θ_run_and (Cert.KernelIdeal.Nms.run_main m g) (Cert.KernelIdeal.Nms.frame_kernel m g))
    · exact (h.1 c).2 Cert.KernelIdeal.main_v41 (Pipeline.mem_restRefs_of _ (by decide) (by decide))
    · exact (h.1 c).2 Cert.KernelIdeal.main_v43 (Pipeline.mem_restRefs_of _ (by decide) (by decide))
    · exact h.2.1 c
  · refine (θ_run (Cert.ReferenceIdeal.defs (F := Ideal)) _ _).mono (fun r h c => ⟨?_, ?_, ?_⟩)
      (θ_run_and (Cert.ReferenceIdeal.Nms.run m' g') (Cert.ReferenceIdeal.Nms.frame_reference m' g'))
    · exact (h.1.1 c Cert.ReferenceIdeal.main_v109 (by decide)).trans
        (first_eq m m' c (harg c).1 (harg c).2 (fun b i => @Cert.Pre_sane_boxes.Nms.sane_of Cert.Pre_sane_boxes.Nms.facts _ _ (hpre c) b i)).symm
    · exact (h.1.1 c Cert.ReferenceIdeal.main_v103 (by decide)).trans
        (second_eq m m' c (harg c).1 (harg c).2 (fun b i => @Cert.Pre_sane_boxes.Nms.sane_of Cert.Pre_sane_boxes.Nms.facts _ _ (hpre c) b i)).symm
    · exact h.2.1 c

end Cert.Nms
-- ==== Proof.lean ====
/-
  The certificate: the three programs run and leave their arguments, nothing was rewritten for the ideal twin, and the exact
  kernel computes what the reference does wherever every box is sane.
-/
module

public import proofs.«01_k».proof.Defs
public import proofs.«01_k».proof.Proof.KLaunch
public import proofs.«01_k».proof.Proof.ILaunch
public import proofs.«01_k».proof.Proof.RefRun
public import proofs.«01_k».proof.Proof.Equal
public import proofs.«01_k».proof.Proof.Gen.ReferenceIdeal

@[expose] public section

noncomputable section

namespace Cert.Proof

open Idealize.ShloMosaic

/-- The claim: the frames of the three programs, nothing rewritten for the ideal twin, and the two results equal. -/
theorem claim : Cert.Claim :=
  ⟨Cert.Kernel.Gen.facts, Cert.KernelIdeal.Gen.facts, Cert.ReferenceIdeal.Gen.facts, Cert.Pre_sane_boxes.Nms.facts,
    fun m ρ _ => Cert.Kernel.Nms.frame_kernel m ρ,
    fun m ρ _ => Cert.KernelIdeal.Nms.frame_kernel m ρ,
    fun m ρ _ => Cert.KernelIdeal.Nms.frame_kernel m ρ,
    fun m ρ _ => Cert.ReferenceIdeal.Nms.frame_reference m ρ,
    fun m ρ _ => Cert.ReferenceIdeal.Nms.frame_reference m ρ,
    trivial,
    Cert.Nms.equal⟩

end Cert.Proof

end
